-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xF149F2CA#32 ⊥
  ∧ IdealRules.bf16_pair.Statement Cert.KernelIdeal.S1x1x2x128 Cert.KernelIdeal.S1x1x1x128
  ∧ IdealRules.bf16_pair.Statement Cert.KernelIdeal.S16x128 Cert.KernelIdeal.S8x128

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_v234) = v1 c
          ∧ r.2.mem ((c.tc : Thread Cert.ReferenceIdeal.nD Cert.ReferenceIdeal.τ).loc Cert.ReferenceIdeal.main_v235) = v2 c
          ∧ r.2.mem ((c.tc : Thread Cert.ReferenceIdeal.nD Cert.ReferenceIdeal.τ).loc Cert.ReferenceIdeal.main_v236) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S96x3x64x128 : Shape := ⟨4, ![96, 3, 64, 128]⟩
abbrev S96x3x16x128 : Shape := ⟨4, ![96, 3, 16, 128]⟩
abbrev S96 : Shape := ⟨1, ![96]⟩
abbrev S96x16x352x128 : Shape := ⟨4, ![96, 16, 352, 128]⟩
abbrev S96x16x44x128 : Shape := ⟨4, ![96, 16, 44, 128]⟩
abbrev S96x16x1408x32 : Shape := ⟨4, ![96, 16, 1408, 32]⟩
abbrev S96x16x1408 : Shape := ⟨3, ![96, 16, 1408]⟩
abbrev S_ : Shape := ⟨0, ![]⟩

class Facts : Prop where
  bcast_S_S96x3x64x128 : S_.BroadcastsInDim S96x3x64x128 (![] : Fin 0 → Fin S96x3x64x128.rank)
  reducesTo_S96x3x64x128_S_d0_1_2_3 : S96x3x64x128.ReducesTo [0, 1, 2, 3] S_
  h_S_ : 0 < S_.numel
  bcast_S_S96x3x16x128 : S_.BroadcastsInDim S96x3x16x128 (![] : Fin 0 → Fin S96x3x16x128.rank)
  reducesTo_S96x3x16x128_S_d0_1_2_3 : S96x3x16x128.ReducesTo [0, 1, 2, 3] S_
  bcast_S_S96x16x44x128 : S_.BroadcastsInDim S96x16x44x128 (![] : Fin 0 → Fin S96x16x44x128.rank)
  reducesTo_S96x16x44x128_S_d0_1_2_3 : S96x16x44x128.ReducesTo [0, 1, 2, 3] S_

variable [Facts]

def fn_part1 {F : FTy → Type} [FloatOps F] (main_v13 : IVec S_ 1) (main_v16 : IVec S96x16x44x128 1) : IVec S_ 1 :=
  let main_c_5 : IVec S_ 1 := constantI S_ 1 1#1
  let main_v17 : IVec S_ 1 := (fun x v => Host.reduce IntOp.andi x v reducesTo_S96x16x44x128_S_d0_1_2_3 h_S_) main_v16 main_c_5
  let main_v18 : IVec S_ 1 := andi main_v13 main_v17
  main_v18

def fn {F : FTy → Type} [FloatOps F] (main_arg0 : FVec F S96x3x64x128 .bf16) (main_arg1 : FVec F S96x3x16x128 .bf16) (main_arg2 : FVec F S96x3x16x128 .bf16) (main_arg3 : IVec S96 32) (main_arg4 : IVec S96x16x352x128 8) (main_arg5 : FVec F S96x16x44x128 .bf16) (main_arg6 : FVec F S96x16x44x128 .bf16) (main_arg7 : IVec S96x16x1408x32 8) (main_arg8 : FVec F S96x16x1408 .f32) (main_arg9 : FVec F S96x16x1408 .f32) : IVec S_ 1 :=
  let main_v0 : FVec F S96x3x64x128 .bf16 := Host.absf main_arg0
  let main_cst : FVec F S_ .bf16 := constant S_ .bf16 0x7F80#16
  let main_v1 : FVec F S96x3x64x128 .bf16 := broadcastInDim S96x3x64x128 ![] bcast_S_S96x3x64x128 main_cst
  let main_v2 : IVec S96x3x64x128 1 := cmpf .olt main_v0 main_v1
  let main_c : IVec S_ 1 := constantI S_ 1 1#1
  let main_v3 : IVec S_ 1 := (fun x v => Host.reduce IntOp.andi x v reducesTo_S96x3x64x128_S_d0_1_2_3 h_S_) main_v2 main_c
  let main_v4 : FVec F S96x3x16x128 .bf16 := Host.absf main_arg1
  let main_cst_0 : FVec F S_ .bf16 := constant S_ .bf16 0x7F80#16
  let main_v5 : FVec F S96x3x16x128 .bf16 := broadcastInDim S96x3x16x128 ![] bcast_S_S96x3x16x128 main_cst_0
  let main_v6 : IVec S96x3x16x128 1 := cmpf .olt main_v4 main_v5
  let main_c_1 : IVec S_ 1 := constantI S_ 1 1#1
  let main_v7 : IVec S_ 1 := (fun x v => Host.reduce IntOp.andi x v reducesTo_S96x3x16x128_S_d0_1_2_3 h_S_) main_v6 main_c_1
  let main_v8 : IVec S_ 1 := andi main_v3 main_v7
  let main_v9 : FVec F S96x16x44x128 .bf16 := Host.absf main_arg5
  let main_cst_2 : FVec F S_ .bf16 := constant S_ .bf16 0x7F80#16
  let main_v10 : FVec F S96x16x44x128 .bf16 := broadcastInDim S96x16x44x128 ![] bcast_S_S96x16x44x128 main_cst_2
  let main_v11 : IVec S96x16x44x128 1 := cmpf .olt main_v9 main_v10
  let main_c_3 : IVec S_ 1 := constantI S_ 1 1#1
  let main_v12 : IVec S_ 1 := (fun x v => Host.reduce IntOp.andi x v reducesTo_S96x16x44x128_S_d0_1_2_3 h_S_) main_v11 main_c_3
  let main_v13 : IVec S_ 1 := andi main_v8 main_v12
  let main_v14 : FVec F S96x16x44x128 .bf16 := Host.absf main_arg6
  let main_cst_4 : FVec F S_ .bf16 := constant S_ .bf16 0x7F80#16
  let main_v15 : FVec F S96x16x44x128 .bf16 := broadcastInDim S96x16x44x128 ![] bcast_S_S96x16x44x128 main_cst_4
  let main_v16 : IVec S96x16x44x128 1 := cmpf .olt main_v14 main_v15
  fn_part1 (F := F) main_v13 main_v16
-- ==== Kernel.lean ====
abbrev S96x3x64x128 : Shape := ⟨4, ![96, 3, 64, 128]⟩
abbrev S96x3x16x128 : Shape := ⟨4, ![96, 3, 16, 128]⟩
abbrev S96 : Shape := ⟨1, ![96]⟩
abbrev S96x16x352x128 : Shape := ⟨4, ![96, 16, 352, 128]⟩
abbrev S96x16x44x128 : Shape := ⟨4, ![96, 16, 44, 128]⟩
abbrev S96x16x1408x32 : Shape := ⟨4, ![96, 16, 1408, 32]⟩
abbrev S96x16x1408 : Shape := ⟨3, ![96, 16, 1408]⟩
abbrev S96x44x16x128 : Shape := ⟨4, ![96, 44, 16, 128]⟩
abbrev S96x16x32x1408 : Shape := ⟨4, ![96, 16, 32, 1408]⟩
abbrev S96x48x32 : Shape := ⟨3, ![96, 48, 32]⟩
abbrev S96x1x48 : Shape := ⟨3, ![96, 1, 48]⟩
abbrev S1x3x64x128 : Shape := ⟨4, ![1, 3, 64, 128]⟩
abbrev S1x3x16x128 : Shape := ⟨4, ![1, 3, 16, 128]⟩
abbrev S1x16x352x128 : Shape := ⟨4, ![1, 16, 352, 128]⟩
abbrev S1x44x16x128 : Shape := ⟨4, ![1, 44, 16, 128]⟩
abbrev S1x16x32x1408 : Shape := ⟨4, ![1, 16, 32, 1408]⟩
abbrev S1x16x1408 : Shape := ⟨3, ![1, 16, 1408]⟩
abbrev S1x48x32 : Shape := ⟨3, ![1, 48, 32]⟩
abbrev S1x1x48 : Shape := ⟨3, ![1, 1, 48]⟩
abbrev S192x128 : Shape := ⟨2, ![192, 128]⟩
abbrev S11x16x128 : Shape := ⟨3, ![11, 16, 128]⟩
abbrev S1 : Shape := ⟨1, ![1]⟩
abbrev S3x16x128 : Shape := ⟨3, ![3, 16, 128]⟩
abbrev S48x128 : Shape := ⟨2, ![48, 128]⟩
abbrev S48 : Shape := ⟨1, ![48]⟩
abbrev S48x1 : Shape := ⟨2, ![48, 1]⟩
abbrev S128x128 : Shape := ⟨2, ![128, 128]⟩
abbrev S48x32 : Shape := ⟨2, ![48, 32]⟩
abbrev S128 : Shape := ⟨1, ![128]⟩
abbrev S1x128 : Shape := ⟨2, ![1, 128]⟩
abbrev S1x48 : Shape := ⟨2, ![1, 48]⟩
abbrev S3x64x128 : Shape := ⟨3, ![3, 64, 128]⟩
abbrev S3x8x8x128 : Shape := ⟨4, ![3, 8, 8, 128]⟩
abbrev S8x3x8x128 : Shape := ⟨4, ![8, 3, 8, 128]⟩
abbrev S80x128 : Shape := ⟨2, ![80, 128]⟩
abbrev S24x128 : Shape := ⟨2, ![24, 128]⟩
abbrev S16x128 : Shape := ⟨2, ![16, 128]⟩
abbrev S1x16x128 : Shape := ⟨3, ![1, 16, 128]⟩
abbrev S16x128x1 : Shape := ⟨3, ![16, 128, 1]⟩
abbrev S24x256 : Shape := ⟨2, ![24, 256]⟩
abbrev S24 : Shape := ⟨1, ![24]⟩
abbrev S24x1 : Shape := ⟨2, ![24, 1]⟩
abbrev S1x1x32x128 : Shape := ⟨4, ![1, 1, 32, 128]⟩
abbrev S32x128 : Shape := ⟨2, ![32, 128]⟩
abbrev S8x128 : Shape := ⟨2, ![8, 128]⟩
abbrev S1x44x8x128 : Shape := ⟨4, ![1, 44, 8, 128]⟩
abbrev S1x1x1x128 : Shape := ⟨4, ![1, 1, 1, 128]⟩
abbrev S1x1x2x128 : Shape := ⟨4, ![1, 1, 2, 128]⟩
abbrev S64x128 : Shape := ⟨2, ![64, 128]⟩
abbrev S8x8x128 : Shape := ⟨3, ![8, 8, 128]⟩
abbrev S8x1x128 : Shape := ⟨3, ![8, 1, 128]⟩
abbrev S128x256 : Shape := ⟨2, ![128, 256]⟩
abbrev S48x128x1 : Shape := ⟨3, ![48, 128, 1]⟩
abbrev S1x1x128 : Shape := ⟨3, ![1, 1, 128]⟩
abbrev S8x128x1 : Shape := ⟨3, ![8, 128, 1]⟩
abbrev S256x128 : Shape := ⟨2, ![256, 128]⟩
abbrev S24x128x1 : Shape := ⟨3, ![24, 128, 1]⟩
abbrev S1x1x8x128 : Shape := ⟨4, ![1, 1, 8, 128]⟩

abbrev nBuf : Space → Nat
  | .hbm => 16
  | .vmem => 30
  | .smem => 1
  | _ => 0

abbrev bufTy : (tb : Table) → Fin (tcTables nBuf tb) → BufTy
  | .hbm, ⟨0, _⟩ => ⟨S96x3x64x128, .bf16⟩
  | .hbm, ⟨1, _⟩ => ⟨S96x3x16x128, .bf16⟩
  | .hbm, ⟨2, _⟩ => ⟨S96x3x16x128, .bf16⟩
  | .hbm, ⟨3, _⟩ => ⟨S96x16x352x128, .i8⟩
  | .hbm, ⟨4, _⟩ => ⟨S96x16x44x128, .bf16⟩
  | .hbm, ⟨5, _⟩ => ⟨S96x16x44x128, .bf16⟩
  | .hbm, ⟨6, _⟩ => ⟨S96x16x1408x32, .i8⟩
  | .hbm, ⟨7, _⟩ => ⟨S96x16x1408, .f32⟩
  | .hbm, ⟨8, _⟩ => ⟨S96x16x1408, .f32⟩
  | .hbm, ⟨9, _⟩ => ⟨S96x44x16x128, .bf16⟩
  | .hbm, ⟨10, _⟩ => ⟨S96x44x16x128, .bf16⟩
  | .hbm, ⟨11, _⟩ => ⟨S96x16x32x1408, .i8⟩
  | .hbm, ⟨12, _⟩ => ⟨S96x3x64x128, .bf16⟩
  | .hbm, ⟨13, _⟩ => ⟨S96x48x32, .i8⟩
  | .hbm, ⟨14, _⟩ => ⟨S96x1x48, .f32⟩
  | .hbm, ⟨15, _⟩ => ⟨S96x1x48, .f32⟩
  | .local _ .vmem, ⟨0, _⟩ => ⟨S1x3x64x128, .bf16⟩
  | .local _ .vmem, ⟨1, _⟩ => ⟨S1x3x64x128, .bf16⟩
  | .local _ .vmem, ⟨2, _⟩ => ⟨S1x3x16x128, .bf16⟩
  | .local _ .vmem, ⟨3, _⟩ => ⟨S1x3x16x128, .bf16⟩
  | .local _ .vmem, ⟨4, _⟩ => ⟨S1x3x16x128, .bf16⟩
  | .local _ .vmem, ⟨5, _⟩ => ⟨S1x3x16x128, .bf16⟩
  | .local _ .vmem, ⟨6, _⟩ => ⟨S1x16x352x128, .i8⟩
  | .local _ .vmem, ⟨7, _⟩ => ⟨S1x16x352x128, .i8⟩
  | .local _ .vmem, ⟨8, _⟩ => ⟨S1x44x16x128, .bf16⟩
  | .local _ .vmem, ⟨9, _⟩ => ⟨S1x44x16x128, .bf16⟩
  | .local _ .vmem, ⟨10, _⟩ => ⟨S1x44x16x128, .bf16⟩
  | .local _ .vmem, ⟨11, _⟩ => ⟨S1x44x16x128, .bf16⟩
  | .local _ .vmem, ⟨12, _⟩ => ⟨S1x16x32x1408, .i8⟩
  | .local _ .vmem, ⟨13, _⟩ => ⟨S1x16x32x1408, .i8⟩
  | .local _ .vmem, ⟨14, _⟩ => ⟨S1x16x1408, .f32⟩
  | .local _ .vmem, ⟨15, _⟩ => ⟨S1x16x1408, .f32⟩
  | .local _ .vmem, ⟨16, _⟩ => ⟨S1x16x1408, .f32⟩
  | .local _ .vmem, ⟨17, _⟩ => ⟨S1x16x1408, .f32⟩
  | .local _ .vmem, ⟨18, _⟩ => ⟨S1x3x64x128, .bf16⟩
  | .local _ .vmem, ⟨19, _⟩ => ⟨S1x3x64x128, .bf16⟩
  | .local _ .vmem, ⟨20, _⟩ => ⟨S1x48x32, .i8⟩
  | .local _ .vmem, ⟨21, _⟩ => ⟨S1x48x32, .i8⟩
  | .local _ .vmem, ⟨22, _⟩ => ⟨S1x1x48, .f32⟩
  | .local _ .vmem, ⟨23, _⟩ => ⟨S1x1x48, .f32⟩
  | .local _ .vmem, ⟨24, _⟩ => ⟨S1x1x48, .f32⟩
  | .local _ .vmem, ⟨25, _⟩ => ⟨S1x1x48, .f32⟩
  | .local _ .vmem, ⟨26, _⟩ => ⟨S192x128, .f32⟩
  | .local _ .vmem, ⟨27, _⟩ => ⟨S192x128, .f32⟩
  | .local _ .vmem, ⟨28, _⟩ => ⟨S11x16x128, .f32⟩
  | .local _ .vmem, ⟨29, _⟩ => ⟨S11x16x128, .f32⟩
  | .local _ .smem, ⟨0, _⟩ => ⟨S96, .i32⟩
  | _, _ => ⟨S96x3x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [BitOps F]

abbrev grid0 : Pipeline.Grid := ⟨1, ![96], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_269 : BitVec 32 := 0#32
  let c8_i32_270 : BitVec 32 := 8#32
  let v633 : BitVec 32 := Scalar.addi c0_i32_269 c8_i32_270
  let c1_i32_271 : BitVec 32 := 1#32
  ⟨c0_i32_269, v633, c1_i32_271⟩
def k0_mult1 (k0_t1 : Fin k0_t1_loop.trips) : BitVec 32 :=
  let c0_i32_269 : BitVec 32 := 0#32
  let c1_i32_271 : BitVec 32 := 1#32
  let arg19 : BitVec 32 := Scf.iv c0_i32_269 c1_i32_271 k0_t1
  let c24_i32_273 : BitVec 32 := 24#32
  let v634 : BitVec 32 := Scalar.muli arg19 c24_i32_273
  v634
def k0_off2 (k0_t1 : Fin k0_t1_loop.trips) : Fin 2 → Nat :=
  let c0_i32_269 : BitVec 32 := 0#32
  let c1_i32_271 : BitVec 32 := 1#32
  let arg19 : BitVec 32 := Scf.iv c0_i32_269 c1_i32_271 k0_t1
  let c24_i32_273 : BitVec 32 := 24#32
  let v634 : BitVec 32 := Scalar.muli arg19 c24_i32_273
  let v635 : BitVec 32 := v634
  let v636 : Index := Scalar.indexCast v635
  let c0_274 : Index := 0#32
  ![v636.toNat, 0]
def k0_mult2 (k0_t1 : Fin k0_t1_loop.trips) : BitVec 32 :=
  let c0_i32_269 : BitVec 32 := 0#32
  let c1_i32_271 : BitVec 32 := 1#32
  let arg19 : BitVec 32 := Scf.iv c0_i32_269 c1_i32_271 k0_t1
  let c24_i32_277 : BitVec 32 := 24#32
  let v644 : BitVec 32 := Scalar.muli arg19 c24_i32_277
  v644
def k0_off3 (k0_t1 : Fin k0_t1_loop.trips) (c0_i32_281 : BitVec 32) : Fin 4 → Nat :=
  let c0_282 : Index := 0#32
  let c2_i32_280 : BitVec 32 := 2#32
  let c0_i32_269 : BitVec 32 := 0#32
  let c1_i32_271 : BitVec 32 := 1#32
  let arg19 : BitVec 32 := Scf.iv c0_i32_269 c1_i32_271 k0_t1
  let v650 : BitVec 32 := Scalar.muli c2_i32_280 arg19
  let v651 : BitVec 32 := Scalar.addi v650 c0_i32_281
  let v652 : Index := Scalar.indexCast v651
  let c0_283 : Index := 0#32
  let c0_284 : Index := 0#32
  ![0, v652.toNat, 0, 0]
def k0_off4 (k0_t1 : Fin k0_t1_loop.trips) : Fin 4 → Nat :=
  let c0_285 : Index := 0#32
  let c0_286 : Index := 0#32
  let c0_i32_269 : BitVec 32 := 0#32
  let c1_i32_271 : BitVec 32 := 1#32
  let arg19 : BitVec 32 := Scf.iv c0_i32_269 c1_i32_271 k0_t1
  let v657 : Index := Scalar.indexCast arg19
  let c0_287 : Index := 0#32
  ![0, 0, Nat.mul 2 v657.toNat, 0]
def k0_off5 (k0_t1 : Fin k0_t1_loop.trips) : Fin 4 → Nat :=
  let c0_289 : Index := 0#32
  let c1_290 : Index := 1#32
  let c0_i32_269 : BitVec 32 := 0#32
  let c1_i32_271 : BitVec 32 := 1#32
  let arg19 : BitVec 32 := Scf.iv c0_i32_269 c1_i32_271 k0_t1
  let v668 : Index := Scalar.indexCast arg19
  let c0_291 : Index := 0#32
  ![0, 1, Nat.mul 2 v668.toNat, 0]
def k0_off6 (k0_t1 : Fin k0_t1_loop.trips) : Fin 4 → Nat :=
  let c0_294 : Index := 0#32
  let c2_295 : Index := 2#32
  let c0_i32_269 : BitVec 32 := 0#32
  let c1_i32_271 : BitVec 32 := 1#32
  let arg19 : BitVec 32 := Scf.iv c0_i32_269 c1_i32_271 k0_t1
  let v679 : Index := Scalar.indexCast arg19
  let c0_296 : Index := 0#32
  ![0, 2, Nat.mul 2 v679.toNat, 0]
def k0_off7 (k0_t1 : Fin k0_t1_loop.trips) : Fin 4 → Nat :=
  let c0_299 : Index := 0#32
  let c3_300 : Index := 3#32
  let c0_i32_269 : BitVec 32 := 0#32
  let c1_i32_271 : BitVec 32 := 1#32
  let arg19 : BitVec 32 := Scf.iv c0_i32_269 c1_i32_271 k0_t1
  let v690 : Index := Scalar.indexCast arg19
  let c0_301 : Index := 0#32
  ![0, 3, Nat.mul 2 v690.toNat, 0]
def k0_off8 (k0_t1 : Fin k0_t1_loop.trips) (c0_i32_386 : BitVec 32) : Fin 4 → Nat :=
  let c0_387 : Index := 0#32
  let c2_i32_385 : BitVec 32 := 2#32
  let c0_i32_269 : BitVec 32 := 0#32
  let c1_i32_271 : BitVec 32 := 1#32
  let arg19 : BitVec 32 := Scf.iv c0_i32_269 c1_i32_271 k0_t1
  let v923 : BitVec 32 := Scalar.muli c2_i32_385 arg19
  let v924 : BitVec 32 := Scalar.addi v923 c0_i32_386
  let v925 : Index := Scalar.indexCast v924
  let c32 : Index := 32#32
  let c0_388 : Index := 0#32
  ![0, v925.toNat, 32, 0]
def k0_off9 (k0_t1 : Fin k0_t1_loop.trips) : Fin 4 → Nat :=
  let c0_389 : Index := 0#32
  let c4_390 : Index := 4#32
  let c0_i32_269 : BitVec 32 := 0#32
  let c1_i32_271 : BitVec 32 := 1#32
  let arg19 : BitVec 32 := Scf.iv c0_i32_269 c1_i32_271 k0_t1
  let v930 : Index := Scalar.indexCast arg19
  let c0_391 : Index := 0#32
  ![0, 4, Nat.mul 2 v930.toNat, 0]
def k0_off10 (k0_t1 : Fin k0_t1_loop.trips) : Fin 4 → Nat :=
  let c0_394 : Index := 0#32
  let c5_395 : Index := 5#32
  let c0_i32_269 : BitVec 32 := 0#32
  let c1_i32_271 : BitVec 32 := 1#32
  let arg19 : BitVec 32 := Scf.iv c0_i32_269 c1_i32_271 k0_t1
  let v941 : Index := Scalar.indexCast arg19
  let c0_396 : Index := 0#32
  ![0, 5, Nat.mul 2 v941.toNat, 0]
def k0_off11 (k0_t1 : Fin k0_t1_loop.trips) : Fin 4 → Nat :=
  let c0_399 : Index := 0#32
  let c6_400 : Index := 6#32
  let c0_i32_269 : BitVec 32 := 0#32
  let c1_i32_271 : BitVec 32 := 1#32
  let arg19 : BitVec 32 := Scf.iv c0_i32_269 c1_i32_271 k0_t1
  let v952 : Index := Scalar.indexCast arg19
  let c0_401 : Index := 0#32
  ![0, 6, Nat.mul 2 v952.toNat, 0]
def k0_off12 (k0_t1 : Fin k0_t1_loop.trips) : Fin 4 → Nat :=
  let c0_404 : Index := 0#32
  let c7_405 : Index := 7#32
  let c0_i32_269 : BitVec 32 := 0#32
  let c1_i32_271 : BitVec 32 := 1#32
  let arg19 : BitVec 32 := Scf.iv c0_i32_269 c1_i32_271 k0_t1
  let v963 : Index := Scalar.indexCast arg19
  let c0_406 : Index := 0#32
  ![0, 7, Nat.mul 2 v963.toNat, 0]
def k0_off13 (k0_t1 : Fin k0_t1_loop.trips) (c0_i32_494 : BitVec 32) : Fin 4 → Nat :=
  let c0_495 : Index := 0#32
  let c2_i32_493 : BitVec 32 := 2#32
  let c0_i32_269 : BitVec 32 := 0#32
  let c1_i32_271 : BitVec 32 := 1#32
  let arg19 : BitVec 32 := Scf.iv c0_i32_269 c1_i32_271 k0_t1
  let v1196 : BitVec 32 := Scalar.muli c2_i32_493 arg19
  let v1197 : BitVec 32 := Scalar.addi v1196 c0_i32_494
  let v1198 : Index := Scalar.indexCast v1197
  let c64 : Index := 64#32
  let c0_496 : Index := 0#32
  ![0, v1198.toNat, 64, 0]
def k0_off14 (k0_t1 : Fin k0_t1_loop.trips) : Fin 4 → Nat :=
  let c0_497 : Index := 0#32
  let c8_498 : Index := 8#32
  let c0_i32_269 : BitVec 32 := 0#32
  let c1_i32_271 : BitVec 32 := 1#32
  let arg19 : BitVec 32 := Scf.iv c0_i32_269 c1_i32_271 k0_t1
  let v1203 : Index := Scalar.indexCast arg19
  let c0_499 : Index := 0#32
  ![0, 8, Nat.mul 2 v1203.toNat, 0]
def k0_off15 (k0_t1 : Fin k0_t1_loop.trips) : Fin 4 → Nat :=
  let c0_502 : Index := 0#32
  let c9_503 : Index := 9#32
  let c0_i32_269 : BitVec 32 := 0#32
  let c1_i32_271 : BitVec 32 := 1#32
  let arg19 : BitVec 32 := Scf.iv c0_i32_269 c1_i32_271 k0_t1
  let v1214 : Index := Scalar.indexCast arg19
  let c0_504 : Index := 0#32
  ![0, 9, Nat.mul 2 v1214.toNat, 0]
def k0_off16 (k0_t1 : Fin k0_t1_loop.trips) : Fin 4 → Nat :=
  let c0_507 : Index := 0#32
  let c10_508 : Index := 10#32
  let c0_i32_269 : BitVec 32 := 0#32
  let c1_i32_271 : BitVec 32 := 1#32
  let arg19 : BitVec 32 := Scf.iv c0_i32_269 c1_i32_271 k0_t1
  let v1225 : Index := Scalar.indexCast arg19
  let c0_509 : Index := 0#32
  ![0, 10, Nat.mul 2 v1225.toNat, 0]
def k0_off17 (k0_t1 : Fin k0_t1_loop.trips) : Fin 4 → Nat :=
  let c0_512 : Index := 0#32
  let c11 : Index := 11#32
  let c0_i32_269 : BitVec 32 := 0#32
  let c1_i32_271 : BitVec 32 := 1#32
  let arg19 : BitVec 32 := Scf.iv c0_i32_269 c1_i32_271 k0_t1
  let v1236 : Index := Scalar.indexCast arg19
  let c0_513 : Index := 0#32
  ![0, 11, Nat.mul 2 v1236.toNat, 0]
def k0_off18 (k0_t1 : Fin k0_t1_loop.trips) (c0_i32_600 : BitVec 32) : Fin 4 → Nat :=
  let c0_601 : Index := 0#32
  let c2_i32_599 : BitVec 32 := 2#32
  let c0_i32_269 : BitVec 32 := 0#32
  let c1_i32_271 : BitVec 32 := 1#32
  let arg19 : BitVec 32 := Scf.iv c0_i32_269 c1_i32_271 k0_t1
  let v1469 : BitVec 32 := Scalar.muli c2_i32_599 arg19
  let v1470 : BitVec 32 := Scalar.addi v1469 c0_i32_600
  let v1471 : Index := Scalar.indexCast v1470
  let c96 : Index := 96#32
  let c0_602 : Index := 0#32
  ![0, v1471.toNat, 96, 0]
def k0_off19 (k0_t1 : Fin k0_t1_loop.trips) : Fin 4 → Nat :=
  let c0_603 : Index := 0#32
  let c12 : Index := 12#32
  let c0_i32_269 : BitVec 32 := 0#32
  let c1_i32_271 : BitVec 32 := 1#32
  let arg19 : BitVec 32 := Scf.iv c0_i32_269 c1_i32_271 k0_t1
  let v1476 : Index := Scalar.indexCast arg19
  let c0_604 : Index := 0#32
  ![0, 12, Nat.mul 2 v1476.toNat, 0]
def k0_off20 (k0_t1 : Fin k0_t1_loop.trips) : Fin 4 → Nat :=
  let c0_607 : Index := 0#32
  let c13 : Index := 13#32
  let c0_i32_269 : BitVec 32 := 0#32
  let c1_i32_271 : BitVec 32 := 1#32
  let arg19 : BitVec 32 := Scf.iv c0_i32_269 c1_i32_271 k0_t1
  let v1487 : Index := Scalar.indexCast arg19
  let c0_608 : Index := 0#32
  ![0, 13, Nat.mul 2 v1487.toNat, 0]
def k0_off21 (k0_t1 : Fin k0_t1_loop.trips) : Fin 4 → Nat :=
  let c0_611 : Index := 0#32
  let c14 : Index := 14#32
  let c0_i32_269 : BitVec 32 := 0#32
  let c1_i32_271 : BitVec 32 := 1#32
  let arg19 : BitVec 32 := Scf.iv c0_i32_269 c1_i32_271 k0_t1
  let v1498 : Index := Scalar.indexCast arg19
  let c0_612 : Index := 0#32
  ![0, 14, Nat.mul 2 v1498.toNat, 0]
def k0_off22 (k0_t1 : Fin k0_t1_loop.trips) : Fin 4 → Nat :=
  let c0_615 : Index := 0#32
  let c15 : Index := 15#32
  let c0_i32_269 : BitVec 32 := 0#32
  let c1_i32_271 : BitVec 32 := 1#32
  let arg19 : BitVec 32 := Scf.iv c0_i32_269 c1_i32_271 k0_t1
  let v1509 : Index := Scalar.indexCast arg19
  let c0_616 : Index := 0#32
  ![0, 15, Nat.mul 2 v1509.toNat, 0]
def k0_off23 (k0_t1 : Fin k0_t1_loop.trips) (c0_i32_703 : BitVec 32) : Fin 4 → Nat :=
  let c0_704 : Index := 0#32
  let c2_i32_702 : BitVec 32 := 2#32
  let c0_i32_269 : BitVec 32 := 0#32
  let c1_i32_271 : BitVec 32 := 1#32
  let arg19 : BitVec 32 := Scf.iv c0_i32_269 c1_i32_271 k0_t1
  let v1742 : BitVec 32 := Scalar.muli c2_i32_702 arg19
  let v1743 : BitVec 32 := Scalar.addi v1742 c0_i32_703
  let v1744 : Index := Scalar.indexCast v1743
  let c128_705 : Index := 128#32
  let c0_706 : Index := 0#32
  ![0, v1744.toNat, 128, 0]
def k0_off24 (k0_t1 : Fin k0_t1_loop.trips) : Fin 4 → Nat :=
  let c0_707 : Index := 0#32
  let c16 : Index := 16#32
  let c0_i32_269 : BitVec 32 := 0#32
  let c1_i32_271 : BitVec 32 := 1#32
  let arg19 : BitVec 32 := Scf.iv c0_i32_269 c1_i32_271 k0_t1
  let v1749 : Index := Scalar.indexCast arg19
  let c0_708 : Index := 0#32
  ![0, 16, Nat.mul 2 v1749.toNat, 0]
def k0_off25 (k0_t1 : Fin k0_t1_loop.trips) : Fin 4 → Nat :=
  let c0_711 : Index := 0#32
  let c17 : Index := 17#32
  let c0_i32_269 : BitVec 32 := 0#32
  let c1_i32_271 : BitVec 32 := 1#32
  let arg19 : BitVec 32 := Scf.iv c0_i32_269 c1_i32_271 k0_t1
  let v1760 : Index := Scalar.indexCast arg19
  let c0_712 : Index := 0#32
  ![0, 17, Nat.mul 2 v1760.toNat, 0]
def k0_off26 (k0_t1 : Fin k0_t1_loop.trips) : Fin 4 → Nat :=
  let c0_715 : Index := 0#32
  let c18 : Index := 18#32
  let c0_i32_269 : BitVec 32 := 0#32
  let c1_i32_271 : BitVec 32 := 1#32
  let arg19 : BitVec 32 := Scf.iv c0_i32_269 c1_i32_271 k0_t1
  let v1771 : Index := Scalar.indexCast arg19
  let c0_716 : Index := 0#32
  ![0, 18, Nat.mul 2 v1771.toNat, 0]
def k0_off27 (k0_t1 : Fin k0_t1_loop.trips) : Fin 4 → Nat :=
  let c0_719 : Index := 0#32
  let c19 : Index := 19#32
  let c0_i32_269 : BitVec 32 := 0#32
  let c1_i32_271 : BitVec 32 := 1#32
  let arg19 : BitVec 32 := Scf.iv c0_i32_269 c1_i32_271 k0_t1
  let v1782 : Index := Scalar.indexCast arg19
  let c0_720 : Index := 0#32
  ![0, 19, Nat.mul 2 v1782.toNat, 0]
def k0_off28 (k0_t1 : Fin k0_t1_loop.trips) (c0_i32_807 : BitVec 32) : Fin 4 → Nat :=
  let c0_808 : Index := 0#32
  let c2_i32_806 : BitVec 32 := 2#32
  let c0_i32_269 : BitVec 32 := 0#32
  let c1_i32_271 : BitVec 32 := 1#32
  let arg19 : BitVec 32 := Scf.iv c0_i32_269 c1_i32_271 k0_t1
  let v2015 : BitVec 32 := Scalar.muli c2_i32_806 arg19
  let v2016 : BitVec 32 := Scalar.addi v2015 c0_i32_807
  let v2017 : Index := Scalar.indexCast v2016
  let c160 : Index := 160#32
  let c0_809 : Index := 0#32
  ![0, v2017.toNat, 160, 0]
def k0_off29 (k0_t1 : Fin k0_t1_loop.trips) : Fin 4 → Nat :=
  let c0_810 : Index := 0#32
  let c20 : Index := 20#32
  let c0_i32_269 : BitVec 32 := 0#32
  let c1_i32_271 : BitVec 32 := 1#32
  let arg19 : BitVec 32 := Scf.iv c0_i32_269 c1_i32_271 k0_t1
  let v2022 : Index := Scalar.indexCast arg19
  let c0_811 : Index := 0#32
  ![0, 20, Nat.mul 2 v2022.toNat, 0]
def k0_off30 (k0_t1 : Fin k0_t1_loop.trips) : Fin 4 → Nat :=
  let c0_814 : Index := 0#32
  let c21 : Index := 21#32
  let c0_i32_269 : BitVec 32 := 0#32
  let c1_i32_271 : BitVec 32 := 1#32
  let arg19 : BitVec 32 := Scf.iv c0_i32_269 c1_i32_271 k0_t1
  let v2033 : Index := Scalar.indexCast arg19
  let c0_815 : Index := 0#32
  ![0, 21, Nat.mul 2 v2033.toNat, 0]
def k0_off31 (k0_t1 : Fin k0_t1_loop.trips) : Fin 4 → Nat :=
  let c0_818 : Index := 0#32
  let c22 : Index := 22#32
  let c0_i32_269 : BitVec 32 := 0#32
  let c1_i32_271 : BitVec 32 := 1#32
  let arg19 : BitVec 32 := Scf.iv c0_i32_269 c1_i32_271 k0_t1
  let v2044 : Index := Scalar.indexCast arg19
  let c0_819 : Index := 0#32
  ![0, 22, Nat.mul 2 v2044.toNat, 0]
def k0_off32 (k0_t1 : Fin k0_t1_loop.trips) : Fin 4 → Nat :=
  let c0_822 : Index := 0#32
  let c23 : Index := 23#32
  let c0_i32_269 : BitVec 32 := 0#32
  let c1_i32_271 : BitVec 32 := 1#32
  let arg19 : BitVec 32 := Scf.iv c0_i32_269 c1_i32_271 k0_t1
  let v2055 : Index := Scalar.indexCast arg19
  let c0_823 : Index := 0#32
  ![0, 23, Nat.mul 2 v2055.toNat, 0]
def k0_off33 (k0_t1 : Fin k0_t1_loop.trips) (c0_i32_910 : BitVec 32) : Fin 4 → Nat :=
  let c0_911 : Index := 0#32
  let c2_i32_909 : BitVec 32 := 2#32
  let c0_i32_269 : BitVec 32 := 0#32
  let c1_i32_271 : BitVec 32 := 1#32
  let arg19 : BitVec 32 := Scf.iv c0_i32_269 c1_i32_271 k0_t1
  let v2288 : BitVec 32 := Scalar.muli c2_i32_909 arg19
  let v2289 : BitVec 32 := Scalar.addi v2288 c0_i32_910
  let v2290 : Index := Scalar.indexCast v2289
  let c192 : Index := 192#32
  let c0_912 : Index := 0#32
  ![0, v2290.toNat, 192, 0]
def k0_off34 (k0_t1 : Fin k0_t1_loop.trips) : Fin 4 → Nat :=
  let c0_913 : Index := 0#32
  let c24 : Index := 24#32
  let c0_i32_269 : BitVec 32 := 0#32
  let c1_i32_271 : BitVec 32 := 1#32
  let arg19 : BitVec 32 := Scf.iv c0_i32_269 c1_i32_271 k0_t1
  let v2295 : Index := Scalar.indexCast arg19
  let c0_914 : Index := 0#32
  ![0, 24, Nat.mul 2 v2295.toNat, 0]
def k0_off35 (k0_t1 : Fin k0_t1_loop.trips) : Fin 4 → Nat :=
  let c0_917 : Index := 0#32
  let c25 : Index := 25#32
  let c0_i32_269 : BitVec 32 := 0#32
  let c1_i32_271 : BitVec 32 := 1#32
  let arg19 : BitVec 32 := Scf.iv c0_i32_269 c1_i32_271 k0_t1
  let v2306 : Index := Scalar.indexCast arg19
  let c0_918 : Index := 0#32
  ![0, 25, Nat.mul 2 v2306.toNat, 0]
def k0_off36 (k0_t1 : Fin k0_t1_loop.trips) : Fin 4 → Nat :=
  let c0_921 : Index := 0#32
  let c26 : Index := 26#32
  let c0_i32_269 : BitVec 32 := 0#32
  let c1_i32_271 : BitVec 32 := 1#32
  let arg19 : BitVec 32 := Scf.iv c0_i32_269 c1_i32_271 k0_t1
  let v2317 : Index := Scalar.indexCast arg19
  let c0_922 : Index := 0#32
  ![0, 26, Nat.mul 2 v2317.toNat, 0]
def k0_off37 (k0_t1 : Fin k0_t1_loop.trips) : Fin 4 → Nat :=
  let c0_925 : Index := 0#32
  let c27 : Index := 27#32
  let c0_i32_269 : BitVec 32 := 0#32
  let c1_i32_271 : BitVec 32 := 1#32
  let arg19 : BitVec 32 := Scf.iv c0_i32_269 c1_i32_271 k0_t1
  let v2328 : Index := Scalar.indexCast arg19
  let c0_926 : Index := 0#32
  ![0, 27, Nat.mul 2 v2328.toNat, 0]
def k0_off38 (k0_t1 : Fin k0_t1_loop.trips) (c0_i32_1013 : BitVec 32) : Fin 4 → Nat :=
  let c0_1014 : Index := 0#32
  let c2_i32_1012 : BitVec 32 := 2#32
  let c0_i32_269 : BitVec 32 := 0#32
  let c1_i32_271 : BitVec 32 := 1#32
  let arg19 : BitVec 32 := Scf.iv c0_i32_269 c1_i32_271 k0_t1
  let v2561 : BitVec 32 := Scalar.muli c2_i32_1012 arg19
  let v2562 : BitVec 32 := Scalar.addi v2561 c0_i32_1013
  let v2563 : Index := Scalar.indexCast v2562
  let c224 : Index := 224#32
  let c0_1015 : Index := 0#32
  ![0, v2563.toNat, 224, 0]
def k0_off39 (k0_t1 : Fin k0_t1_loop.trips) : Fin 4 → Nat :=
  let c0_1016 : Index := 0#32
  let c28 : Index := 28#32
  let c0_i32_269 : BitVec 32 := 0#32
  let c1_i32_271 : BitVec 32 := 1#32
  let arg19 : BitVec 32 := Scf.iv c0_i32_269 c1_i32_271 k0_t1
  let v2568 : Index := Scalar.indexCast arg19
  let c0_1017 : Index := 0#32
  ![0, 28, Nat.mul 2 v2568.toNat, 0]
def k0_off40 (k0_t1 : Fin k0_t1_loop.trips) : Fin 4 → Nat :=
  let c0_1020 : Index := 0#32
  let c29 : Index := 29#32
  let c0_i32_269 : BitVec 32 := 0#32
  let c1_i32_271 : BitVec 32 := 1#32
  let arg19 : BitVec 32 := Scf.iv c0_i32_269 c1_i32_271 k0_t1
  let v2579 : Index := Scalar.indexCast arg19
  let c0_1021 : Index := 0#32
  ![0, 29, Nat.mul 2 v2579.toNat, 0]
def k0_off41 (k0_t1 : Fin k0_t1_loop.trips) : Fin 4 → Nat :=
  let c0_1024 : Index := 0#32
  let c30 : Index := 30#32
  let c0_i32_269 : BitVec 32 := 0#32
  let c1_i32_271 : BitVec 32 := 1#32
  let arg19 : BitVec 32 := Scf.iv c0_i32_269 c1_i32_271 k0_t1
  let v2590 : Index := Scalar.indexCast arg19
  let c0_1025 : Index := 0#32
  ![0, 30, Nat.mul 2 v2590.toNat, 0]
def k0_off42 (k0_t1 : Fin k0_t1_loop.trips) : Fin 4 → Nat :=
  let c0_1028 : Index := 0#32
  let c31 : Index := 31#32
  let c0_i32_269 : BitVec 32 := 0#32
  let c1_i32_271 : BitVec 32 := 1#32
  let arg19 : BitVec 32 := Scf.iv c0_i32_269 c1_i32_271 k0_t1
  let v2601 : Index := Scalar.indexCast arg19
  let c0_1029 : Index := 0#32
  ![0, 31, Nat.mul 2 v2601.toNat, 0]
def k0_off43 (k0_t1 : Fin k0_t1_loop.trips) (c0_i32_1116 : BitVec 32) : Fin 4 → Nat :=
  let c0_1117 : Index := 0#32
  let c2_i32_1115 : BitVec 32 := 2#32
  let c0_i32_269 : BitVec 32 := 0#32
  let c1_i32_271 : BitVec 32 := 1#32
  let arg19 : BitVec 32 := Scf.iv c0_i32_269 c1_i32_271 k0_t1
  let v2834 : BitVec 32 := Scalar.muli c2_i32_1115 arg19
  let v2835 : BitVec 32 := Scalar.addi v2834 c0_i32_1116
  let v2836 : Index := Scalar.indexCast v2835
  let c256_1118 : Index := 256#32
  let c0_1119 : Index := 0#32
  ![0, v2836.toNat, 256, 0]
def k0_off44 (k0_t1 : Fin k0_t1_loop.trips) : Fin 4 → Nat :=
  let c0_1120 : Index := 0#32
  let c32_1121 : Index := 32#32
  let c0_i32_269 : BitVec 32 := 0#32
  let c1_i32_271 : BitVec 32 := 1#32
  let arg19 : BitVec 32 := Scf.iv c0_i32_269 c1_i32_271 k0_t1
  let v2841 : Index := Scalar.indexCast arg19
  let c0_1122 : Index := 0#32
  ![0, 32, Nat.mul 2 v2841.toNat, 0]
def k0_off45 (k0_t1 : Fin k0_t1_loop.trips) : Fin 4 → Nat :=
  let c0_1125 : Index := 0#32
  let c33 : Index := 33#32
  let c0_i32_269 : BitVec 32 := 0#32
  let c1_i32_271 : BitVec 32 := 1#32
  let arg19 : BitVec 32 := Scf.iv c0_i32_269 c1_i32_271 k0_t1
  let v2852 : Index := Scalar.indexCast arg19
  let c0_1126 : Index := 0#32
  ![0, 33, Nat.mul 2 v2852.toNat, 0]
def k0_off46 (k0_t1 : Fin k0_t1_loop.trips) : Fin 4 → Nat :=
  let c0_1129 : Index := 0#32
  let c34 : Index := 34#32
  let c0_i32_269 : BitVec 32 := 0#32
  let c1_i32_271 : BitVec 32 := 1#32
  let arg19 : BitVec 32 := Scf.iv c0_i32_269 c1_i32_271 k0_t1
  let v2863 : Index := Scalar.indexCast arg19
  let c0_1130 : Index := 0#32
  ![0, 34, Nat.mul 2 v2863.toNat, 0]
def k0_off47 (k0_t1 : Fin k0_t1_loop.trips) : Fin 4 → Nat :=
  let c0_1133 : Index := 0#32
  let c35 : Index := 35#32
  let c0_i32_269 : BitVec 32 := 0#32
  let c1_i32_271 : BitVec 32 := 1#32
  let arg19 : BitVec 32 := Scf.iv c0_i32_269 c1_i32_271 k0_t1
  let v2874 : Index := Scalar.indexCast arg19
  let c0_1134 : Index := 0#32
  ![0, 35, Nat.mul 2 v2874.toNat, 0]
def k0_off48 (k0_t1 : Fin k0_t1_loop.trips) (c0_i32_1221 : BitVec 32) : Fin 4 → Nat :=
  let c0_1222 : Index := 0#32
  let c2_i32_1220 : BitVec 32 := 2#32
  let c0_i32_269 : BitVec 32 := 0#32
  let c1_i32_271 : BitVec 32 := 1#32
  let arg19 : BitVec 32 := Scf.iv c0_i32_269 c1_i32_271 k0_t1
  let v3107 : BitVec 32 := Scalar.muli c2_i32_1220 arg19
  let v3108 : BitVec 32 := Scalar.addi v3107 c0_i32_1221
  let v3109 : Index := Scalar.indexCast v3108
  let c288 : Index := 288#32
  let c0_1223 : Index := 0#32
  ![0, v3109.toNat, 288, 0]
def k0_off49 (k0_t1 : Fin k0_t1_loop.trips) : Fin 4 → Nat :=
  let c0_1224 : Index := 0#32
  let c36 : Index := 36#32
  let c0_i32_269 : BitVec 32 := 0#32
  let c1_i32_271 : BitVec 32 := 1#32
  let arg19 : BitVec 32 := Scf.iv c0_i32_269 c1_i32_271 k0_t1
  let v3114 : Index := Scalar.indexCast arg19
  let c0_1225 : Index := 0#32
  ![0, 36, Nat.mul 2 v3114.toNat, 0]
def k0_off50 (k0_t1 : Fin k0_t1_loop.trips) : Fin 4 → Nat :=
  let c0_1228 : Index := 0#32
  let c37 : Index := 37#32
  let c0_i32_269 : BitVec 32 := 0#32
  let c1_i32_271 : BitVec 32 := 1#32
  let arg19 : BitVec 32 := Scf.iv c0_i32_269 c1_i32_271 k0_t1
  let v3125 : Index := Scalar.indexCast arg19
  let c0_1229 : Index := 0#32
  ![0, 37, Nat.mul 2 v3125.toNat, 0]
def k0_off51 (k0_t1 : Fin k0_t1_loop.trips) : Fin 4 → Nat :=
  let c0_1232 : Index := 0#32
  let c38 : Index := 38#32
  let c0_i32_269 : BitVec 32 := 0#32
  let c1_i32_271 : BitVec 32 := 1#32
  let arg19 : BitVec 32 := Scf.iv c0_i32_269 c1_i32_271 k0_t1
  let v3136 : Index := Scalar.indexCast arg19
  let c0_1233 : Index := 0#32
  ![0, 38, Nat.mul 2 v3136.toNat, 0]
def k0_off52 (k0_t1 : Fin k0_t1_loop.trips) : Fin 4 → Nat :=
  let c0_1236 : Index := 0#32
  let c39 : Index := 39#32
  let c0_i32_269 : BitVec 32 := 0#32
  let c1_i32_271 : BitVec 32 := 1#32
  let arg19 : BitVec 32 := Scf.iv c0_i32_269 c1_i32_271 k0_t1
  let v3147 : Index := Scalar.indexCast arg19
  let c0_1237 : Index := 0#32
  ![0, 39, Nat.mul 2 v3147.toNat, 0]
def k0_off53 (k0_t1 : Fin k0_t1_loop.trips) (c0_i32_1324 : BitVec 32) : Fin 4 → Nat :=
  let c0_1325 : Index := 0#32
  let c2_i32_1323 : BitVec 32 := 2#32
  let c0_i32_269 : BitVec 32 := 0#32
  let c1_i32_271 : BitVec 32 := 1#32
  let arg19 : BitVec 32 := Scf.iv c0_i32_269 c1_i32_271 k0_t1
  let v3380 : BitVec 32 := Scalar.muli c2_i32_1323 arg19
  let v3381 : BitVec 32 := Scalar.addi v3380 c0_i32_1324
  let v3382 : Index := Scalar.indexCast v3381
  let c320 : Index := 320#32
  let c0_1326 : Index := 0#32
  ![0, v3382.toNat, 320, 0]
def k0_off54 (k0_t1 : Fin k0_t1_loop.trips) : Fin 4 → Nat :=
  let c0_1327 : Index := 0#32
  let c40 : Index := 40#32
  let c0_i32_269 : BitVec 32 := 0#32
  let c1_i32_271 : BitVec 32 := 1#32
  let arg19 : BitVec 32 := Scf.iv c0_i32_269 c1_i32_271 k0_t1
  let v3387 : Index := Scalar.indexCast arg19
  let c0_1328 : Index := 0#32
  ![0, 40, Nat.mul 2 v3387.toNat, 0]
def k0_off55 (k0_t1 : Fin k0_t1_loop.trips) : Fin 4 → Nat :=
  let c0_1331 : Index := 0#32
  let c41 : Index := 41#32
  let c0_i32_269 : BitVec 32 := 0#32
  let c1_i32_271 : BitVec 32 := 1#32
  let arg19 : BitVec 32 := Scf.iv c0_i32_269 c1_i32_271 k0_t1
  let v3398 : Index := Scalar.indexCast arg19
  let c0_1332 : Index := 0#32
  ![0, 41, Nat.mul 2 v3398.toNat, 0]
def k0_off56 (k0_t1 : Fin k0_t1_loop.trips) : Fin 4 → Nat :=
  let c0_1335 : Index := 0#32
  let c42 : Index := 42#32
  let c0_i32_269 : BitVec 32 := 0#32
  let c1_i32_271 : BitVec 32 := 1#32
  let arg19 : BitVec 32 := Scf.iv c0_i32_269 c1_i32_271 k0_t1
  let v3409 : Index := Scalar.indexCast arg19
  let c0_1336 : Index := 0#32
  ![0, 42, Nat.mul 2 v3409.toNat, 0]
def k0_off57 (k0_t1 : Fin k0_t1_loop.trips) : Fin 4 → Nat :=
  let c0_1339 : Index := 0#32
  let c43 : Index := 43#32
  let c0_i32_269 : BitVec 32 := 0#32
  let c1_i32_271 : BitVec 32 := 1#32
  let arg19 : BitVec 32 := Scf.iv c0_i32_269 c1_i32_271 k0_t1
  let v3420 : Index := Scalar.indexCast arg19
  let c0_1340 : Index := 0#32
  ![0, 43, Nat.mul 2 v3420.toNat, 0]
def k0_off58 (k0_t1 : Fin k0_t1_loop.trips) (c0_i32_1434 : BitVec 32) : Fin 3 → Nat :=
  let c0_1435 : Index := 0#32
  let c2_i32_1433 : BitVec 32 := 2#32
  let c0_i32_269 : BitVec 32 := 0#32
  let c1_i32_271 : BitVec 32 := 1#32
  let arg19 : BitVec 32 := Scf.iv c0_i32_269 c1_i32_271 k0_t1
  let v3688 : BitVec 32 := Scalar.muli c2_i32_1433 arg19
  let v3689 : BitVec 32 := Scalar.addi v3688 c0_i32_1434
  let v3690 : Index := Scalar.indexCast v3689
  let c0_1436 : Index := 0#32
  ![0, v3690.toNat, 0]
def k0_off59 (k0_t1 : Fin k0_t1_loop.trips) (c0_i32_1451 : BitVec 32) : Fin 4 → Nat :=
  let c0_1452 : Index := 0#32
  let c2_i32_1450 : BitVec 32 := 2#32
  let c0_i32_269 : BitVec 32 := 0#32
  let c1_i32_271 : BitVec 32 := 1#32
  let arg19 : BitVec 32 := Scf.iv c0_i32_269 c1_i32_271 k0_t1
  let v3728 : BitVec 32 := Scalar.muli c2_i32_1450 arg19
  let v3729 : BitVec 32 := Scalar.addi v3728 c0_i32_1451
  let v3730 : Index := Scalar.indexCast v3729
  let c0_1453 : Index := 0#32
  let c0_1454 : Index := 0#32
  ![0, v3730.toNat, 0, 0]
def k0_off60 (k0_t1 : Fin k0_t1_loop.trips) (c0_i32_1481 : BitVec 32) : Fin 3 → Nat :=
  let c1_1482 : Index := 1#32
  let c2_i32_1480 : BitVec 32 := 2#32
  let c0_i32_269 : BitVec 32 := 0#32
  let c1_i32_271 : BitVec 32 := 1#32
  let arg19 : BitVec 32 := Scf.iv c0_i32_269 c1_i32_271 k0_t1
  let v3821 : BitVec 32 := Scalar.muli c2_i32_1480 arg19
  let v3822 : BitVec 32 := Scalar.addi v3821 c0_i32_1481
  let v3823 : Index := Scalar.indexCast v3822
  let c0_1483 : Index := 0#32
  ![1, v3823.toNat, 0]
def k0_off61 (k0_t1 : Fin k0_t1_loop.trips) (c0_i32_1498 : BitVec 32) : Fin 4 → Nat :=
  let c0_1499 : Index := 0#32
  let c2_i32_1497 : BitVec 32 := 2#32
  let c0_i32_269 : BitVec 32 := 0#32
  let c1_i32_271 : BitVec 32 := 1#32
  let arg19 : BitVec 32 := Scf.iv c0_i32_269 c1_i32_271 k0_t1
  let v3861 : BitVec 32 := Scalar.muli c2_i32_1497 arg19
  let v3862 : BitVec 32 := Scalar.addi v3861 c0_i32_1498
  let v3863 : Index := Scalar.indexCast v3862
  let c0_1500 : Index := 0#32
  let c128_1501 : Index := 128#32
  ![0, v3863.toNat, 0, 128]
def k0_off62 (k0_t1 : Fin k0_t1_loop.trips) (c0_i32_1528 : BitVec 32) : Fin 3 → Nat :=
  let c2_1529 : Index := 2#32
  let c2_i32_1527 : BitVec 32 := 2#32
  let c0_i32_269 : BitVec 32 := 0#32
  let c1_i32_271 : BitVec 32 := 1#32
  let arg19 : BitVec 32 := Scf.iv c0_i32_269 c1_i32_271 k0_t1
  let v3954 : BitVec 32 := Scalar.muli c2_i32_1527 arg19
  let v3955 : BitVec 32 := Scalar.addi v3954 c0_i32_1528
  let v3956 : Index := Scalar.indexCast v3955
  let c0_1530 : Index := 0#32
  ![2, v3956.toNat, 0]
def k0_off63 (k0_t1 : Fin k0_t1_loop.trips) (c0_i32_1545 : BitVec 32) : Fin 4 → Nat :=
  let c0_1546 : Index := 0#32
  let c2_i32_1544 : BitVec 32 := 2#32
  let c0_i32_269 : BitVec 32 := 0#32
  let c1_i32_271 : BitVec 32 := 1#32
  let arg19 : BitVec 32 := Scf.iv c0_i32_269 c1_i32_271 k0_t1
  let v3994 : BitVec 32 := Scalar.muli c2_i32_1544 arg19
  let v3995 : BitVec 32 := Scalar.addi v3994 c0_i32_1545
  let v3996 : Index := Scalar.indexCast v3995
  let c0_1547 : Index := 0#32
  let c256_1548 : Index := 256#32
  ![0, v3996.toNat, 0, 256]
def k0_off64 (k0_t1 : Fin k0_t1_loop.trips) (c0_i32_1575 : BitVec 32) : Fin 3 → Nat :=
  let c3_1576 : Index := 3#32
  let c2_i32_1574 : BitVec 32 := 2#32
  let c0_i32_269 : BitVec 32 := 0#32
  let c1_i32_271 : BitVec 32 := 1#32
  let arg19 : BitVec 32 := Scf.iv c0_i32_269 c1_i32_271 k0_t1
  let v4087 : BitVec 32 := Scalar.muli c2_i32_1574 arg19
  let v4088 : BitVec 32 := Scalar.addi v4087 c0_i32_1575
  let v4089 : Index := Scalar.indexCast v4088
  let c0_1577 : Index := 0#32
  ![3, v4089.toNat, 0]
def k0_off65 (k0_t1 : Fin k0_t1_loop.trips) (c0_i32_1592 : BitVec 32) : Fin 4 → Nat :=
  let c0_1593 : Index := 0#32
  let c2_i32_1591 : BitVec 32 := 2#32
  let c0_i32_269 : BitVec 32 := 0#32
  let c1_i32_271 : BitVec 32 := 1#32
  let arg19 : BitVec 32 := Scf.iv c0_i32_269 c1_i32_271 k0_t1
  let v4127 : BitVec 32 := Scalar.muli c2_i32_1591 arg19
  let v4128 : BitVec 32 := Scalar.addi v4127 c0_i32_1592
  let v4129 : Index := Scalar.indexCast v4128
  let c0_1594 : Index := 0#32
  let c384_1595 : Index := 384#32
  ![0, v4129.toNat, 0, 384]
def k0_off66 (k0_t1 : Fin k0_t1_loop.trips) (c0_i32_1622 : BitVec 32) : Fin 3 → Nat :=
  let c4_1623 : Index := 4#32
  let c2_i32_1621 : BitVec 32 := 2#32
  let c0_i32_269 : BitVec 32 := 0#32
  let c1_i32_271 : BitVec 32 := 1#32
  let arg19 : BitVec 32 := Scf.iv c0_i32_269 c1_i32_271 k0_t1
  let v4220 : BitVec 32 := Scalar.muli c2_i32_1621 arg19
  let v4221 : BitVec 32 := Scalar.addi v4220 c0_i32_1622
  let v4222 : Index := Scalar.indexCast v4221
  let c0_1624 : Index := 0#32
  ![4, v4222.toNat, 0]
def k0_off67 (k0_t1 : Fin k0_t1_loop.trips) (c0_i32_1639 : BitVec 32) : Fin 4 → Nat :=
  let c0_1640 : Index := 0#32
  let c2_i32_1638 : BitVec 32 := 2#32
  let c0_i32_269 : BitVec 32 := 0#32
  let c1_i32_271 : BitVec 32 := 1#32
  let arg19 : BitVec 32 := Scf.iv c0_i32_269 c1_i32_271 k0_t1
  let v4260 : BitVec 32 := Scalar.muli c2_i32_1638 arg19
  let v4261 : BitVec 32 := Scalar.addi v4260 c0_i32_1639
  let v4262 : Index := Scalar.indexCast v4261
  let c0_1641 : Index := 0#32
  let c512_1642 : Index := 512#32
  ![0, v4262.toNat, 0, 512]
def k0_off68 (k0_t1 : Fin k0_t1_loop.trips) (c0_i32_1669 : BitVec 32) : Fin 3 → Nat :=
  let c5_1670 : Index := 5#32
  let c2_i32_1668 : BitVec 32 := 2#32
  let c0_i32_269 : BitVec 32 := 0#32
  let c1_i32_271 : BitVec 32 := 1#32
  let arg19 : BitVec 32 := Scf.iv c0_i32_269 c1_i32_271 k0_t1
  let v4353 : BitVec 32 := Scalar.muli c2_i32_1668 arg19
  let v4354 : BitVec 32 := Scalar.addi v4353 c0_i32_1669
  let v4355 : Index := Scalar.indexCast v4354
  let c0_1671 : Index := 0#32
  ![5, v4355.toNat, 0]
def k0_off69 (k0_t1 : Fin k0_t1_loop.trips) (c0_i32_1686 : BitVec 32) : Fin 4 → Nat :=
  let c0_1687 : Index := 0#32
  let c2_i32_1685 : BitVec 32 := 2#32
  let c0_i32_269 : BitVec 32 := 0#32
  let c1_i32_271 : BitVec 32 := 1#32
  let arg19 : BitVec 32 := Scf.iv c0_i32_269 c1_i32_271 k0_t1
  let v4393 : BitVec 32 := Scalar.muli c2_i32_1685 arg19
  let v4394 : BitVec 32 := Scalar.addi v4393 c0_i32_1686
  let v4395 : Index := Scalar.indexCast v4394
  let c0_1688 : Index := 0#32
  let c640_1689 : Index := 640#32
  ![0, v4395.toNat, 0, 640]
def k0_off70 (k0_t1 : Fin k0_t1_loop.trips) (c0_i32_1716 : BitVec 32) : Fin 3 → Nat :=
  let c6_1717 : Index := 6#32
  let c2_i32_1715 : BitVec 32 := 2#32
  let c0_i32_269 : BitVec 32 := 0#32
  let c1_i32_271 : BitVec 32 := 1#32
  let arg19 : BitVec 32 := Scf.iv c0_i32_269 c1_i32_271 k0_t1
  let v4486 : BitVec 32 := Scalar.muli c2_i32_1715 arg19
  let v4487 : BitVec 32 := Scalar.addi v4486 c0_i32_1716
  let v4488 : Index := Scalar.indexCast v4487
  let c0_1718 : Index := 0#32
  ![6, v4488.toNat, 0]
def k0_off71 (k0_t1 : Fin k0_t1_loop.trips) (c0_i32_1733 : BitVec 32) : Fin 4 → Nat :=
  let c0_1734 : Index := 0#32
  let c2_i32_1732 : BitVec 32 := 2#32
  let c0_i32_269 : BitVec 32 := 0#32
  let c1_i32_271 : BitVec 32 := 1#32
  let arg19 : BitVec 32 := Scf.iv c0_i32_269 c1_i32_271 k0_t1
  let v4526 : BitVec 32 := Scalar.muli c2_i32_1732 arg19
  let v4527 : BitVec 32 := Scalar.addi v4526 c0_i32_1733
  let v4528 : Index := Scalar.indexCast v4527
  let c0_1735 : Index := 0#32
  let c768_1736 : Index := 768#32
  ![0, v4528.toNat, 0, 768]
def k0_off72 (k0_t1 : Fin k0_t1_loop.trips) (c0_i32_1763 : BitVec 32) : Fin 3 → Nat :=
  let c7_1764 : Index := 7#32
  let c2_i32_1762 : BitVec 32 := 2#32
  let c0_i32_269 : BitVec 32 := 0#32
  let c1_i32_271 : BitVec 32 := 1#32
  let arg19 : BitVec 32 := Scf.iv c0_i32_269 c1_i32_271 k0_t1
  let v4619 : BitVec 32 := Scalar.muli c2_i32_1762 arg19
  let v4620 : BitVec 32 := Scalar.addi v4619 c0_i32_1763
  let v4621 : Index := Scalar.indexCast v4620
  let c0_1765 : Index := 0#32
  ![7, v4621.toNat, 0]
def k0_off73 (k0_t1 : Fin k0_t1_loop.trips) (c0_i32_1780 : BitVec 32) : Fin 4 → Nat :=
  let c0_1781 : Index := 0#32
  let c2_i32_1779 : BitVec 32 := 2#32
  let c0_i32_269 : BitVec 32 := 0#32
  let c1_i32_271 : BitVec 32 := 1#32
  let arg19 : BitVec 32 := Scf.iv c0_i32_269 c1_i32_271 k0_t1
  let v4659 : BitVec 32 := Scalar.muli c2_i32_1779 arg19
  let v4660 : BitVec 32 := Scalar.addi v4659 c0_i32_1780
  let v4661 : Index := Scalar.indexCast v4660
  let c0_1782 : Index := 0#32
  let c896_1783 : Index := 896#32
  ![0, v4661.toNat, 0, 896]
def k0_off74 (k0_t1 : Fin k0_t1_loop.trips) (c0_i32_1810 : BitVec 32) : Fin 3 → Nat :=
  let c8_1811 : Index := 8#32
  let c2_i32_1809 : BitVec 32 := 2#32
  let c0_i32_269 : BitVec 32 := 0#32
  let c1_i32_271 : BitVec 32 := 1#32
  let arg19 : BitVec 32 := Scf.iv c0_i32_269 c1_i32_271 k0_t1
  let v4752 : BitVec 32 := Scalar.muli c2_i32_1809 arg19
  let v4753 : BitVec 32 := Scalar.addi v4752 c0_i32_1810
  let v4754 : Index := Scalar.indexCast v4753
  let c0_1812 : Index := 0#32
  ![8, v4754.toNat, 0]
def k0_off75 (k0_t1 : Fin k0_t1_loop.trips) (c0_i32_1827 : BitVec 32) : Fin 4 → Nat :=
  let c0_1828 : Index := 0#32
  let c2_i32_1826 : BitVec 32 := 2#32
  let c0_i32_269 : BitVec 32 := 0#32
  let c1_i32_271 : BitVec 32 := 1#32
  let arg19 : BitVec 32 := Scf.iv c0_i32_269 c1_i32_271 k0_t1
  let v4792 : BitVec 32 := Scalar.muli c2_i32_1826 arg19
  let v4793 : BitVec 32 := Scalar.addi v4792 c0_i32_1827
  let v4794 : Index := Scalar.indexCast v4793
  let c0_1829 : Index := 0#32
  let c1024_1830 : Index := 1024#32
  ![0, v4794.toNat, 0, 1024]
def k0_off76 (k0_t1 : Fin k0_t1_loop.trips) (c0_i32_1857 : BitVec 32) : Fin 3 → Nat :=
  let c9_1858 : Index := 9#32
  let c2_i32_1856 : BitVec 32 := 2#32
  let c0_i32_269 : BitVec 32 := 0#32
  let c1_i32_271 : BitVec 32 := 1#32
  let arg19 : BitVec 32 := Scf.iv c0_i32_269 c1_i32_271 k0_t1
  let v4885 : BitVec 32 := Scalar.muli c2_i32_1856 arg19
  let v4886 : BitVec 32 := Scalar.addi v4885 c0_i32_1857
  let v4887 : Index := Scalar.indexCast v4886
  let c0_1859 : Index := 0#32
  ![9, v4887.toNat, 0]
def k0_off77 (k0_t1 : Fin k0_t1_loop.trips) (c0_i32_1874 : BitVec 32) : Fin 4 → Nat :=
  let c0_1875 : Index := 0#32
  let c2_i32_1873 : BitVec 32 := 2#32
  let c0_i32_269 : BitVec 32 := 0#32
  let c1_i32_271 : BitVec 32 := 1#32
  let arg19 : BitVec 32 := Scf.iv c0_i32_269 c1_i32_271 k0_t1
  let v4925 : BitVec 32 := Scalar.muli c2_i32_1873 arg19
  let v4926 : BitVec 32 := Scalar.addi v4925 c0_i32_1874
  let v4927 : Index := Scalar.indexCast v4926
  let c0_1876 : Index := 0#32
  let c1152_1877 : Index := 1152#32
  ![0, v4927.toNat, 0, 1152]
def k0_off78 (k0_t1 : Fin k0_t1_loop.trips) (c0_i32_1904 : BitVec 32) : Fin 3 → Nat :=
  let c10_1905 : Index := 10#32
  let c2_i32_1903 : BitVec 32 := 2#32
  let c0_i32_269 : BitVec 32 := 0#32
  let c1_i32_271 : BitVec 32 := 1#32
  let arg19 : BitVec 32 := Scf.iv c0_i32_269 c1_i32_271 k0_t1
  let v5018 : BitVec 32 := Scalar.muli c2_i32_1903 arg19
  let v5019 : BitVec 32 := Scalar.addi v5018 c0_i32_1904
  let v5020 : Index := Scalar.indexCast v5019
  let c0_1906 : Index := 0#32
  ![10, v5020.toNat, 0]
def k0_off79 (k0_t1 : Fin k0_t1_loop.trips) (c0_i32_1921 : BitVec 32) : Fin 4 → Nat :=
  let c0_1922 : Index := 0#32
  let c2_i32_1920 : BitVec 32 := 2#32
  let c0_i32_269 : BitVec 32 := 0#32
  let c1_i32_271 : BitVec 32 := 1#32
  let arg19 : BitVec 32 := Scf.iv c0_i32_269 c1_i32_271 k0_t1
  let v5058 : BitVec 32 := Scalar.muli c2_i32_1920 arg19
  let v5059 : BitVec 32 := Scalar.addi v5058 c0_i32_1921
  let v5060 : Index := Scalar.indexCast v5059
  let c0_1923 : Index := 0#32
  let c1280_1924 : Index := 1280#32
  ![0, v5060.toNat, 0, 1280]
def k0_mult3 (k0_t1 : Fin k0_t1_loop.trips) : BitVec 32 :=
  let c8_i32_1965 : BitVec 32 := 8#32
  let c0_i32_269 : BitVec 32 := 0#32
  let c1_i32_271 : BitVec 32 := 1#32
  let arg19 : BitVec 32 := Scf.iv c0_i32_269 c1_i32_271 k0_t1
  let v5207 : BitVec 32 := Scalar.muli c8_i32_1965 arg19
  v5207
def k0_off80 (k0_t1 : Fin k0_t1_loop.trips) : Fin 4 → Nat :=
  let c0_1966 : Index := 0#32
  let c0_1967 : Index := 0#32
  let c8_i32_1965 : BitVec 32 := 8#32
  let c0_i32_269 : BitVec 32 := 0#32
  let c1_i32_271 : BitVec 32 := 1#32
  let arg19 : BitVec 32 := Scf.iv c0_i32_269 c1_i32_271 k0_t1
  let v5207 : BitVec 32 := Scalar.muli c8_i32_1965 arg19
  let v5208 : BitVec 32 := v5207
  let v5209 : Index := Scalar.indexCast v5208
  let c0_1968 : Index := 0#32
  ![0, 0, v5209.toNat, 0]
def k0_mult4 (k0_t1 : Fin k0_t1_loop.trips) : BitVec 32 :=
  let c8_i32_1969 : BitVec 32 := 8#32
  let c0_i32_269 : BitVec 32 := 0#32
  let c1_i32_271 : BitVec 32 := 1#32
  let arg19 : BitVec 32 := Scf.iv c0_i32_269 c1_i32_271 k0_t1
  let v5215 : BitVec 32 := Scalar.muli c8_i32_1969 arg19
  v5215
def k0_off81 (k0_t1 : Fin k0_t1_loop.trips) : Fin 4 → Nat :=
  let c0_1970 : Index := 0#32
  let c1_1971 : Index := 1#32
  let c8_i32_1969 : BitVec 32 := 8#32
  let c0_i32_269 : BitVec 32 := 0#32
  let c1_i32_271 : BitVec 32 := 1#32
  let arg19 : BitVec 32 := Scf.iv c0_i32_269 c1_i32_271 k0_t1
  let v5215 : BitVec 32 := Scalar.muli c8_i32_1969 arg19
  let v5216 : BitVec 32 := v5215
  let v5217 : Index := Scalar.indexCast v5216
  let c0_1972 : Index := 0#32
  ![0, 1, v5217.toNat, 0]
def k0_mult5 (k0_t1 : Fin k0_t1_loop.trips) : BitVec 32 :=
  let c8_i32_1973 : BitVec 32 := 8#32
  let c0_i32_269 : BitVec 32 := 0#32
  let c1_i32_271 : BitVec 32 := 1#32
  let arg19 : BitVec 32 := Scf.iv c0_i32_269 c1_i32_271 k0_t1
  let v5223 : BitVec 32 := Scalar.muli c8_i32_1973 arg19
  v5223
def k0_off82 (k0_t1 : Fin k0_t1_loop.trips) : Fin 4 → Nat :=
  let c0_1974 : Index := 0#32
  let c2_1975 : Index := 2#32
  let c8_i32_1973 : BitVec 32 := 8#32
  let c0_i32_269 : BitVec 32 := 0#32
  let c1_i32_271 : BitVec 32 := 1#32
  let arg19 : BitVec 32 := Scf.iv c0_i32_269 c1_i32_271 k0_t1
  let v5223 : BitVec 32 := Scalar.muli c8_i32_1973 arg19
  let v5224 : BitVec 32 := v5223
  let v5225 : Index := Scalar.indexCast v5224
  let c0_1976 : Index := 0#32
  ![0, 2, v5225.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x352x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x44x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x44x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x32x1408 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x48x32 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x48 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x48 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S96x3x64x128 : Shape := ⟨4, ![96, 3, 64, 128]⟩
abbrev S96x3x16x128 : Shape := ⟨4, ![96, 3, 16, 128]⟩
abbrev S96 : Shape := ⟨1, ![96]⟩
abbrev S96x16x352x128 : Shape := ⟨4, ![96, 16, 352, 128]⟩
abbrev S96x16x44x128 : Shape := ⟨4, ![96, 16, 44, 128]⟩
abbrev S96x16x1408x32 : Shape := ⟨4, ![96, 16, 1408, 32]⟩
abbrev S96x16x1408 : Shape := ⟨3, ![96, 16, 1408]⟩
abbrev S96x3x16x4x128 : Shape := ⟨5, ![96, 3, 16, 4, 128]⟩
abbrev S_ : Shape := ⟨0, ![]⟩
abbrev S96x3x16 : Shape := ⟨3, ![96, 3, 16]⟩
abbrev S96x3x16x1 : Shape := ⟨4, ![96, 3, 16, 1]⟩
abbrev S96x3x16x32x4 : Shape := ⟨5, ![96, 3, 16, 32, 4]⟩
abbrev S96x3x16x32x1 : Shape := ⟨5, ![96, 3, 16, 32, 1]⟩
abbrev S96x3x16x32 : Shape := ⟨4, ![96, 3, 16, 32]⟩
abbrev S96x16x44x8x128 : Shape := ⟨5, ![96, 16, 44, 8, 128]⟩
abbrev S96x16x352x3x4 : Shape := ⟨5, ![96, 16, 352, 3, 4]⟩
abbrev S96x3x16x4x352 : Shape := ⟨5, ![96, 3, 16, 4, 352]⟩
abbrev S96x3x16x4x352x1 : Shape := ⟨6, ![96, 3, 16, 4, 352, 1]⟩
abbrev S96x3x16x4x352x4 : Shape := ⟨6, ![96, 3, 16, 4, 352, 4]⟩
abbrev S96x3x16x4x1408 : Shape := ⟨5, ![96, 3, 16, 4, 1408]⟩
abbrev S1408 : Shape := ⟨1, ![1408]⟩
abbrev S1x1408 : Shape := ⟨2, ![1, 1408]⟩
abbrev S96x1 : Shape := ⟨2, ![96, 1]⟩
abbrev S96x1408 : Shape := ⟨2, ![96, 1408]⟩
abbrev S96x1x1x1x1408 : Shape := ⟨5, ![96, 1, 1, 1, 1408]⟩
abbrev S96x16x3x3x4 : Shape := ⟨5, ![96, 16, 3, 3, 4]⟩
abbrev S96x3x16x4x3 : Shape := ⟨5, ![96, 3, 16, 4, 3]⟩
abbrev S3 : Shape := ⟨1, ![3]⟩
abbrev S1x3 : Shape := ⟨2, ![1, 3]⟩
abbrev S3x1 : Shape := ⟨2, ![3, 1]⟩
abbrev S3x3 : Shape := ⟨2, ![3, 3]⟩
abbrev S1x3x1x1x3 : Shape := ⟨5, ![1, 3, 1, 1, 3]⟩
abbrev S96x3x16x4 : Shape := ⟨4, ![96, 3, 16, 4]⟩
abbrev S96x3x16x4x1 : Shape := ⟨5, ![96, 3, 16, 4, 1]⟩
abbrev S96x1x16x1x1408 : Shape := ⟨5, ![96, 1, 16, 1, 1408]⟩
abbrev S96x16x3 : Shape := ⟨3, ![96, 16, 3]⟩
abbrev S96x1x16x1x3 : Shape := ⟨5, ![96, 1, 16, 1, 3]⟩
abbrev S96x16x32x3x4 : Shape := ⟨5, ![96, 16, 32, 3, 4]⟩
abbrev S96x3x16x4x32 : Shape := ⟨5, ![96, 3, 16, 4, 32]⟩
abbrev S96x3x16x4x32x1 : Shape := ⟨6, ![96, 3, 16, 4, 32, 1]⟩
abbrev S96x3x16x4x32x4 : Shape := ⟨6, ![96, 3, 16, 4, 32, 4]⟩
abbrev S96x16x3x4 : Shape := ⟨4, ![96, 16, 3, 4]⟩
abbrev S96x48x32 : Shape := ⟨3, ![96, 48, 32]⟩
abbrev S96x1x48 : Shape := ⟨3, ![96, 1, 48]⟩

abbrev nBuf : Space → Nat
  | .hbm => 301
  | .vmem => 0
  | .smem => 0
  | _ => 0

abbrev hbmTy0_0 (i : Nat) : BufTy := match i % 128 with
  | 0 => ⟨S96x3x64x128, .bf16⟩
  | 1 => ⟨S96x3x16x128, .bf16⟩
  | 2 => ⟨S96x3x16x128, .bf16⟩
  | 3 => ⟨S96, .i32⟩
  | 4 => ⟨S96x16x352x128, .i8⟩
  | 5 => ⟨S96x16x44x128, .bf16⟩
  | 6 => ⟨S96x16x44x128, .bf16⟩
  | 7 => ⟨S96x16x1408x32, .i8⟩
  | 8 => ⟨S96x16x1408, .f32⟩
  | 9 => ⟨S96x16x1408, .f32⟩
  | 10 => ⟨S96x3x16x4x128, .bf16⟩
  | 11 => ⟨S96x3x16x128, .f32⟩
  | 12 => ⟨S_, .f32⟩
  | 13 => ⟨S96x3x16, .f32⟩
  | 14 => ⟨S_, .f32⟩
  | 15 => ⟨S96x3x16, .f32⟩
  | 16 => ⟨S96x3x16, .i1⟩
  | 17 => ⟨S96x3x16, .f32⟩
  | 18 => ⟨S_, .f32⟩
  | 19 => ⟨S96x3x16, .f32⟩
  | 20 => ⟨S96x3x16, .f32⟩
  | 21 => ⟨S_, .f32⟩
  | 22 => ⟨S_, .f32⟩
  | 23 => ⟨S96x3x16, .f32⟩
  | 24 => ⟨S96x3x16, .f32⟩
  | 25 => ⟨S96x3x16x1, .f32⟩
  | 26 => ⟨S96x3x16x128, .f32⟩
  | 27 => ⟨S96x3x16x128, .f32⟩
  | 28 => ⟨S96x3x16x1, .f32⟩
  | 29 => ⟨S96x3x16x128, .f32⟩
  | 30 => ⟨S96x3x16x128, .f32⟩
  | 31 => ⟨S96x3x16x128, .f32⟩
  | 32 => ⟨S_, .f32⟩
  | 33 => ⟨S_, .f32⟩
  | 34 => ⟨S_, .f32⟩
  | 35 => ⟨S96x3x16x128, .f32⟩
  | 36 => ⟨S96x3x16x128, .f32⟩
  | 37 => ⟨S_, .f32⟩
  | 38 => ⟨S96x3x16x128, .f32⟩
  | 39 => ⟨S96x3x16x128, .f32⟩
  | 40 => ⟨S96x3x16x128, .i32⟩
  | 41 => ⟨S96x3x16x32x4, .i32⟩
  | 42 => ⟨S96x3x16x32x1, .i32⟩
  | 43 => ⟨S96x3x16x32, .i32⟩
  | 44 => ⟨S96x3x16x32x1, .i32⟩
  | 45 => ⟨S96x3x16x32, .i32⟩
  | 46 => ⟨S96x3x16x32x1, .i32⟩
  | 47 => ⟨S96x3x16x32, .i32⟩
  | 48 => ⟨S96x3x16x32x1, .i32⟩
  | 49 => ⟨S96x3x16x32, .i32⟩
  | 50 => ⟨S_, .i32⟩
  | 51 => ⟨S96x3x16x32, .i32⟩
  | 52 => ⟨S96x3x16x32, .i32⟩
  | 53 => ⟨S96x3x16x32, .i32⟩
  | 54 => ⟨S_, .i32⟩
  | 55 => ⟨S96x3x16x32, .i32⟩
  | 56 => ⟨S96x3x16x32, .i32⟩
  | 57 => ⟨S96x3x16x32, .i32⟩
  | 58 => ⟨S_, .i32⟩
  | 59 => ⟨S96x3x16x32, .i32⟩
  | 60 => ⟨S96x3x16x32, .i32⟩
  | 61 => ⟨S96x3x16x32, .i32⟩
  | 62 => ⟨S96x3x16x32, .i8⟩
  | 63 => ⟨S96x16x44x8x128, .bf16⟩
  | 64 => ⟨S96x16x352x128, .bf16⟩
  | 65 => ⟨S96x16x44x8x128, .bf16⟩
  | 66 => ⟨S96x16x352x128, .bf16⟩
  | 67 => ⟨S96x16x352x128, .i32⟩
  | 68 => ⟨S_, .i32⟩
  | 69 => ⟨S96x16x352x128, .i32⟩
  | 70 => ⟨S96x16x352x128, .i32⟩
  | 71 => ⟨S_, .i32⟩
  | 72 => ⟨S96x16x352x128, .i32⟩
  | 73 => ⟨S96x16x352x128, .i32⟩
  | 74 => ⟨S96x16x352x128, .f32⟩
  | 75 => ⟨S96x16x352x128, .bf16⟩
  | 76 => ⟨S96x16x352x128, .bf16⟩
  | 77 => ⟨S96x16x352x128, .bf16⟩
  | 78 => ⟨S96x16x352x3x4, .f32⟩
  | 79 => ⟨S96x3x16x4x352, .f32⟩
  | 80 => ⟨S96x16x352x128, .i32⟩
  | 81 => ⟨S_, .i32⟩
  | 82 => ⟨S96x16x352x128, .i32⟩
  | 83 => ⟨S96x16x352x128, .i32⟩
  | 84 => ⟨S_, .i32⟩
  | 85 => ⟨S96x16x352x128, .i32⟩
  | 86 => ⟨S96x16x352x128, .i32⟩
  | 87 => ⟨S96x16x352x128, .f32⟩
  | 88 => ⟨S96x16x352x128, .bf16⟩
  | 89 => ⟨S96x16x352x128, .bf16⟩
  | 90 => ⟨S96x16x352x128, .bf16⟩
  | 91 => ⟨S96x16x352x3x4, .f32⟩
  | 92 => ⟨S96x3x16x4x352, .f32⟩
  | 93 => ⟨S96x16x352x128, .i32⟩
  | 94 => ⟨S_, .i32⟩
  | 95 => ⟨S96x16x352x128, .i32⟩
  | 96 => ⟨S96x16x352x128, .i32⟩
  | 97 => ⟨S_, .i32⟩
  | 98 => ⟨S96x16x352x128, .i32⟩
  | 99 => ⟨S96x16x352x128, .i32⟩
  | 100 => ⟨S96x16x352x128, .f32⟩
  | 101 => ⟨S96x16x352x128, .bf16⟩
  | 102 => ⟨S96x16x352x128, .bf16⟩
  | 103 => ⟨S96x16x352x128, .bf16⟩
  | 104 => ⟨S96x16x352x3x4, .f32⟩
  | 105 => ⟨S96x3x16x4x352, .f32⟩
  | 106 => ⟨S96x16x352x128, .i32⟩
  | 107 => ⟨S_, .i32⟩
  | 108 => ⟨S96x16x352x128, .i32⟩
  | 109 => ⟨S96x16x352x128, .i32⟩
  | 110 => ⟨S_, .i32⟩
  | 111 => ⟨S96x16x352x128, .i32⟩
  | 112 => ⟨S96x16x352x128, .i32⟩
  | 113 => ⟨S96x16x352x128, .f32⟩
  | 114 => ⟨S96x16x352x128, .bf16⟩
  | 115 => ⟨S96x16x352x128, .bf16⟩
  | 116 => ⟨S96x16x352x128, .bf16⟩
  | 117 => ⟨S96x16x352x3x4, .f32⟩
  | 118 => ⟨S96x3x16x4x352, .f32⟩
  | 119 => ⟨S96x3x16x4x352x1, .f32⟩
  | 120 => ⟨S96x3x16x4x352x1, .f32⟩
  | 121 => ⟨S96x3x16x4x352x1, .f32⟩
  | 122 => ⟨S96x3x16x4x352x1, .f32⟩
  | 123 => ⟨S96x3x16x4x352x4, .f32⟩
  | 124 => ⟨S96x3x16x4x1408, .f32⟩
  | 125 => ⟨S_, .f32⟩
  | 126 => ⟨S96x3x16x4x1408, .f32⟩
  | 127 => ⟨S96x3x16x4x1408, .f32⟩
  | _ => ⟨S96x3x64x128, .bf16⟩

abbrev hbmTy0_1 (i : Nat) : BufTy := match i % 128 with
  | 0 => ⟨S1408, .i32⟩
  | 1 => ⟨S1x1408, .i32⟩
  | 2 => ⟨S96x1, .i32⟩
  | 3 => ⟨S96x1408, .i32⟩
  | 4 => ⟨S96x1408, .i32⟩
  | 5 => ⟨S96x1408, .i1⟩
  | 6 => ⟨S96x1x1x1x1408, .i1⟩
  | 7 => ⟨S_, .f32⟩
  | 8 => ⟨S_, .f32⟩
  | 9 => ⟨S96x3x16x4x1408, .i1⟩
  | 10 => ⟨S96x3x16x4x1408, .f32⟩
  | 11 => ⟨S96x3x16x4x1408, .f32⟩
  | 12 => ⟨S96x16x3x3x4, .f32⟩
  | 13 => ⟨S96x3x16x4x3, .f32⟩
  | 14 => ⟨S_, .f32⟩
  | 15 => ⟨S96x3x16x4x3, .f32⟩
  | 16 => ⟨S96x3x16x4x3, .f32⟩
  | 17 => ⟨S3, .i32⟩
  | 18 => ⟨S1x3, .i32⟩
  | 19 => ⟨S3, .i32⟩
  | 20 => ⟨S3x1, .i32⟩
  | 21 => ⟨S3x3, .i32⟩
  | 22 => ⟨S3x3, .i32⟩
  | 23 => ⟨S3x3, .i1⟩
  | 24 => ⟨S1x3x1x1x3, .i1⟩
  | 25 => ⟨S_, .f32⟩
  | 26 => ⟨S_, .f32⟩
  | 27 => ⟨S96x3x16x4x3, .i1⟩
  | 28 => ⟨S96x3x16x4x3, .f32⟩
  | 29 => ⟨S96x3x16x4x3, .f32⟩
  | 30 => ⟨S_, .f32⟩
  | 31 => ⟨S96x3x16x4, .f32⟩
  | 32 => ⟨S_, .f32⟩
  | 33 => ⟨S96x3x16x4, .f32⟩
  | 34 => ⟨S96x3x16x4, .f32⟩
  | 35 => ⟨S96x3x16x4x1, .f32⟩
  | 36 => ⟨S96x3x16x4x1408, .f32⟩
  | 37 => ⟨S96x3x16x4x1408, .f32⟩
  | 38 => ⟨S96x3x16x4x1408, .f32⟩
  | 39 => ⟨S96x3x16x4x3, .f32⟩
  | 40 => ⟨S96x3x16x4x3, .f32⟩
  | 41 => ⟨S96x3x16x4x3, .f32⟩
  | 42 => ⟨S_, .f32⟩
  | 43 => ⟨S96x3x16x4, .f32⟩
  | 44 => ⟨S96x3x16x4x1, .f32⟩
  | 45 => ⟨S_, .f32⟩
  | 46 => ⟨S96x3x16x4, .f32⟩
  | 47 => ⟨S96x3x16x4x1, .f32⟩
  | 48 => ⟨S96x3x16x4x1, .f32⟩
  | 49 => ⟨S96x3x16x4x1408, .f32⟩
  | 50 => ⟨S96x3x16x4x1408, .f32⟩
  | 51 => ⟨S96x3x16x4x3, .f32⟩
  | 52 => ⟨S96x3x16x4x3, .f32⟩
  | 53 => ⟨S96x1x16x1x1408, .f32⟩
  | 54 => ⟨S96x3x16x4x1408, .f32⟩
  | 55 => ⟨S96x3x16x4x1408, .f32⟩
  | 56 => ⟨S96x3x16x4x1408, .bf16⟩
  | 57 => ⟨S96x16x3, .f32⟩
  | 58 => ⟨S96x1x16x1x3, .f32⟩
  | 59 => ⟨S96x3x16x4x3, .f32⟩
  | 60 => ⟨S96x3x16x4x3, .f32⟩
  | 61 => ⟨S96x3x16x4x3, .bf16⟩
  | 62 => ⟨S96x16x1408x32, .i32⟩
  | 63 => ⟨S_, .i32⟩
  | 64 => ⟨S96x16x1408x32, .i32⟩
  | 65 => ⟨S96x16x1408x32, .i32⟩
  | 66 => ⟨S_, .i32⟩
  | 67 => ⟨S96x16x1408x32, .i32⟩
  | 68 => ⟨S96x16x1408x32, .i32⟩
  | 69 => ⟨S96x16x1408x32, .f32⟩
  | 70 => ⟨S96x16x1408x32, .bf16⟩
  | 71 => ⟨S96x16x32x3x4, .f32⟩
  | 72 => ⟨S96x3x16x4x32, .f32⟩
  | 73 => ⟨S96x3x16x32, .i32⟩
  | 74 => ⟨S_, .i32⟩
  | 75 => ⟨S96x3x16x32, .i32⟩
  | 76 => ⟨S96x3x16x32, .i32⟩
  | 77 => ⟨S_, .i32⟩
  | 78 => ⟨S96x3x16x32, .i32⟩
  | 79 => ⟨S96x3x16x32, .i32⟩
  | 80 => ⟨S96x3x16x32, .f32⟩
  | 81 => ⟨S96x3x16x32, .bf16⟩
  | 82 => ⟨S96x16x32x3x4, .f32⟩
  | 83 => ⟨S96x3x16x4x32, .f32⟩
  | 84 => ⟨S96x3x16x4x32, .f32⟩
  | 85 => ⟨S96x16x1408x32, .i32⟩
  | 86 => ⟨S_, .i32⟩
  | 87 => ⟨S96x16x1408x32, .i32⟩
  | 88 => ⟨S96x16x1408x32, .i32⟩
  | 89 => ⟨S_, .i32⟩
  | 90 => ⟨S96x16x1408x32, .i32⟩
  | 91 => ⟨S96x16x1408x32, .i32⟩
  | 92 => ⟨S96x16x1408x32, .f32⟩
  | 93 => ⟨S96x16x1408x32, .bf16⟩
  | 94 => ⟨S96x16x32x3x4, .f32⟩
  | 95 => ⟨S96x3x16x4x32, .f32⟩
  | 96 => ⟨S96x3x16x32, .i32⟩
  | 97 => ⟨S_, .i32⟩
  | 98 => ⟨S96x3x16x32, .i32⟩
  | 99 => ⟨S96x3x16x32, .i32⟩
  | 100 => ⟨S_, .i32⟩
  | 101 => ⟨S96x3x16x32, .i32⟩
  | 102 => ⟨S96x3x16x32, .i32⟩
  | 103 => ⟨S96x3x16x32, .f32⟩
  | 104 => ⟨S96x3x16x32, .bf16⟩
  | 105 => ⟨S96x16x32x3x4, .f32⟩
  | 106 => ⟨S96x3x16x4x32, .f32⟩
  | 107 => ⟨S96x3x16x4x32, .f32⟩
  | 108 => ⟨S96x16x1408x32, .i32⟩
  | 109 => ⟨S_, .i32⟩
  | 110 => ⟨S96x16x1408x32, .i32⟩
  | 111 => ⟨S96x16x1408x32, .i32⟩
  | 112 => ⟨S_, .i32⟩
  | 113 => ⟨S96x16x1408x32, .i32⟩
  | 114 => ⟨S96x16x1408x32, .i32⟩
  | 115 => ⟨S96x16x1408x32, .f32⟩
  | 116 => ⟨S96x16x1408x32, .bf16⟩
  | 117 => ⟨S96x16x32x3x4, .f32⟩
  | 118 => ⟨S96x3x16x4x32, .f32⟩
  | 119 => ⟨S96x3x16x32, .i32⟩
  | 120 => ⟨S_, .i32⟩
  | 121 => ⟨S96x3x16x32, .i32⟩
  | 122 => ⟨S96x3x16x32, .i32⟩
  | 123 => ⟨S_, .i32⟩
  | 124 => ⟨S96x3x16x32, .i32⟩
  | 125 => ⟨S96x3x16x32, .i32⟩
  | 126 => ⟨S96x3x16x32, .f32⟩
  | 127 => ⟨S96x3x16x32, .bf16⟩
  | _ => ⟨S96x3x64x128, .bf16⟩

abbrev hbmTy0_2 (i : Nat) : BufTy := match i % 128 with
  | 0 => ⟨S96x16x32x3x4, .f32⟩
  | 1 => ⟨S96x3x16x4x32, .f32⟩
  | 2 => ⟨S96x3x16x4x32, .f32⟩
  | 3 => ⟨S96x16x1408x32, .i32⟩
  | 4 => ⟨S_, .i32⟩
  | 5 => ⟨S96x16x1408x32, .i32⟩
  | 6 => ⟨S96x16x1408x32, .i32⟩
  | 7 => ⟨S_, .i32⟩
  | 8 => ⟨S96x16x1408x32, .i32⟩
  | 9 => ⟨S96x16x1408x32, .i32⟩
  | 10 => ⟨S96x16x1408x32, .f32⟩
  | 11 => ⟨S96x16x1408x32, .bf16⟩
  | 12 => ⟨S96x16x32x3x4, .f32⟩
  | 13 => ⟨S96x3x16x4x32, .f32⟩
  | 14 => ⟨S96x3x16x32, .i32⟩
  | 15 => ⟨S_, .i32⟩
  | 16 => ⟨S96x3x16x32, .i32⟩
  | 17 => ⟨S96x3x16x32, .i32⟩
  | 18 => ⟨S_, .i32⟩
  | 19 => ⟨S96x3x16x32, .i32⟩
  | 20 => ⟨S96x3x16x32, .i32⟩
  | 21 => ⟨S96x3x16x32, .f32⟩
  | 22 => ⟨S96x3x16x32, .bf16⟩
  | 23 => ⟨S96x16x32x3x4, .f32⟩
  | 24 => ⟨S96x3x16x4x32, .f32⟩
  | 25 => ⟨S96x3x16x4x32, .f32⟩
  | 26 => ⟨S96x3x16x4x32x1, .f32⟩
  | 27 => ⟨S96x3x16x4x32x1, .f32⟩
  | 28 => ⟨S96x3x16x4x32x1, .f32⟩
  | 29 => ⟨S96x3x16x4x32x1, .f32⟩
  | 30 => ⟨S96x3x16x4x32x4, .f32⟩
  | 31 => ⟨S96x3x16x4x128, .f32⟩
  | 32 => ⟨S96x16x3x4, .f32⟩
  | 33 => ⟨S96x3x16x4, .f32⟩
  | 34 => ⟨S96x16x3x4, .f32⟩
  | 35 => ⟨S96x3x16x4, .f32⟩
  | 36 => ⟨S96x3x16x4, .f32⟩
  | 37 => ⟨S96x3x16x4x1, .f32⟩
  | 38 => ⟨S96x3x16x4x128, .f32⟩
  | 39 => ⟨S96x3x16x4x128, .f32⟩
  | 40 => ⟨S96x3x64x128, .f32⟩
  | 41 => ⟨S96x3x64x128, .bf16⟩
  | 42 => ⟨S96x48x32, .i8⟩
  | 43 => ⟨S96x1x48, .f32⟩
  | 44 => ⟨S96x1x48, .f32⟩
  | _ => ⟨S96x3x64x128, .bf16⟩

abbrev hbmTy (i : Nat) : BufTy := match i / 128 with
  | 0 => hbmTy0_0 i
  | 1 => hbmTy0_1 i
  | 2 => hbmTy0_2 i
  | _ => ⟨S96x3x64x128, .bf16⟩

abbrev bufTy : (tb : Table) → Fin (tcTables nBuf tb) → BufTy
  | .hbm, ⟨i, _⟩ => hbmTy i
  | _, _ => ⟨S96x3x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_cst_4 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_7 : Ref sig .tc := ⟨.hbm, 68, rfl⟩
abbrev main_v42 : Ref sig .tc := ⟨.hbm, 69, rfl⟩
abbrev main_v43 : Ref sig .tc := ⟨.hbm, 70, rfl⟩
abbrev main_c_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_11 : Ref sig .tc := ⟨.hbm, 94, rfl⟩
abbrev main_v64 : Ref sig .tc := ⟨.hbm, 95, rfl⟩
abbrev main_v65 : Ref sig .tc := ⟨.hbm, 96, rfl⟩
abbrev main_c_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_13 : Ref sig .tc := ⟨.hbm, 107, rfl⟩
abbrev main_v75 : Ref sig .tc := ⟨.hbm, 108, rfl⟩
abbrev main_v76 : Ref sig .tc := ⟨.hbm, 109, rfl⟩
abbrev main_c_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_15 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_16 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_17 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_18 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v113 : Ref sig .tc := ⟨.hbm, 157, rfl⟩
abbrev main_cst_19 : Ref sig .tc := ⟨.hbm, 158, rfl⟩
abbrev main_v114 : Ref sig .tc := ⟨.hbm, 159, rfl⟩
abbrev main_cst_20 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_21 : Ref sig .tc := ⟨.hbm, 170, rfl⟩
abbrev main_v124 : Ref sig .tc := ⟨.hbm, 171, rfl⟩
abbrev main_v125 : Ref sig .tc := ⟨.hbm, 172, rfl⟩
abbrev main_cst_22 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_c_23 : Ref sig .tc := ⟨.hbm, 191, rfl⟩
abbrev main_v143 : Ref sig .tc := ⟨.hbm, 192, rfl⟩
abbrev main_v144 : Ref sig .tc := ⟨.hbm, 193, rfl⟩
abbrev main_c_24 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_c_25 : Ref sig .tc := ⟨.hbm, 202, rfl⟩
abbrev main_v152 : Ref sig .tc := ⟨.hbm, 203, rfl⟩
abbrev main_v153 : Ref sig .tc := ⟨.hbm, 204, rfl⟩
abbrev main_c_26 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_c_27 : Ref sig .tc := ⟨.hbm, 214, rfl⟩
abbrev main_v162 : Ref sig .tc := ⟨.hbm, 215, rfl⟩
abbrev main_v163 : Ref sig .tc := ⟨.hbm, 216, rfl⟩
abbrev main_c_28 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_c_29 : Ref sig .tc := ⟨.hbm, 225, rfl⟩
abbrev main_v171 : Ref sig .tc := ⟨.hbm, 226, rfl⟩
abbrev main_v172 : Ref sig .tc := ⟨.hbm, 227, rfl⟩
abbrev main_c_30 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_c_31 : Ref sig .tc := ⟨.hbm, 237, rfl⟩
abbrev main_v181 : Ref sig .tc := ⟨.hbm, 238, rfl⟩
abbrev main_v182 : Ref sig .tc := ⟨.hbm, 239, rfl⟩
abbrev main_c_32 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_c_33 : Ref sig .tc := ⟨.hbm, 248, rfl⟩
abbrev main_v190 : Ref sig .tc := ⟨.hbm, 249, rfl⟩
abbrev main_v191 : Ref sig .tc := ⟨.hbm, 250, rfl⟩
abbrev main_c_34 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_c_35 : Ref sig .tc := ⟨.hbm, 260, rfl⟩
abbrev main_v200 : Ref sig .tc := ⟨.hbm, 261, rfl⟩
abbrev main_v201 : Ref sig .tc := ⟨.hbm, 262, rfl⟩
abbrev main_c_36 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_c_37 : Ref sig .tc := ⟨.hbm, 271, rfl⟩
abbrev main_v209 : Ref sig .tc := ⟨.hbm, 272, rfl⟩
abbrev main_v210 : Ref sig .tc := ⟨.hbm, 273, rfl⟩
abbrev main_c_38 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩

abbrev nD : Nat := 1
abbrev τ : Topo := Topo.v7x

variable {F : FTy → Type} [FloatOps F]
-- ==== Proof.Trip.lean ====
/-
  What one trip of the kernel's loop over head pairs computes, written once as vector functions of the block
  number: the 2-bit fields of a word, the dequantised key tile of a block, the masked scores of a block, the
  running maximum, and the four accumulators (sum of weights, zero-point sum, weighted values). `trip_eq` says
  the trip's result is these functions.
-/
module

public import proofs.«01_k».proof.Proof.Gen.KernelIdeal.Frame
public import Idealize.ShloMosaic.Lib.Pipeline.ValueKit

@[expose] public section

set_option maxRecDepth 16384

noncomputable section

namespace Cert.KernelIdeal.Trip

open Cert.KernelIdeal Cert.KernelIdeal.Gen Idealize.ShloMosaic Idealize.ShloMosaic.TcCoe Idealize.SL.Sem

variable {F : FTy → Type} [FloatOps F] [Named F]

/-! ## The offsets of a block's loads -/

/-- Where block `b`'s packed keys of head `2k+h` are read. -/
def offKW (k : Fin k0_t1_loop.trips) (h : Fin 2) : Nat → Fin 4 → Nat
  | 0 => k0_off3 k (BitVec.ofNat 32 h.val)
  | 1 => k0_off8 k (BitVec.ofNat 32 h.val)
  | 2 => k0_off13 k (BitVec.ofNat 32 h.val)
  | 3 => k0_off18 k (BitVec.ofNat 32 h.val)
  | 4 => k0_off23 k (BitVec.ofNat 32 h.val)
  | 5 => k0_off28 k (BitVec.ofNat 32 h.val)
  | 6 => k0_off33 k (BitVec.ofNat 32 h.val)
  | 7 => k0_off38 k (BitVec.ofNat 32 h.val)
  | 8 => k0_off43 k (BitVec.ofNat 32 h.val)
  | 9 => k0_off48 k (BitVec.ofNat 32 h.val)
  | _ => k0_off53 k (BitVec.ofNat 32 h.val)

/-- Where the scales (and zeros) of group `4b` are read. -/
def offKS0 (k : Fin k0_t1_loop.trips) : Nat → Fin 4 → Nat
  | 0 => k0_off4 k
  | 1 => k0_off9 k
  | 2 => k0_off14 k
  | 3 => k0_off19 k
  | 4 => k0_off24 k
  | 5 => k0_off29 k
  | 6 => k0_off34 k
  | 7 => k0_off39 k
  | 8 => k0_off44 k
  | 9 => k0_off49 k
  | _ => k0_off54 k

/-- Where the scales (and zeros) of group `4b+1` are read. -/
def offKS1 (k : Fin k0_t1_loop.trips) : Nat → Fin 4 → Nat
  | 0 => k0_off5 k
  | 1 => k0_off10 k
  | 2 => k0_off15 k
  | 3 => k0_off20 k
  | 4 => k0_off25 k
  | 5 => k0_off30 k
  | 6 => k0_off35 k
  | 7 => k0_off40 k
  | 8 => k0_off45 k
  | 9 => k0_off50 k
  | _ => k0_off55 k

/-- Where the scales (and zeros) of group `4b+2` are read. -/
def offKS2 (k : Fin k0_t1_loop.trips) : Nat → Fin 4 → Nat
  | 0 => k0_off6 k
  | 1 => k0_off11 k
  | 2 => k0_off16 k
  | 3 => k0_off21 k
  | 4 => k0_off26 k
  | 5 => k0_off31 k
  | 6 => k0_off36 k
  | 7 => k0_off41 k
  | 8 => k0_off46 k
  | 9 => k0_off51 k
  | _ => k0_off56 k

/-- Where the scales (and zeros) of group `4b+3` are read. -/
def offKS3 (k : Fin k0_t1_loop.trips) : Nat → Fin 4 → Nat
  | 0 => k0_off7 k
  | 1 => k0_off12 k
  | 2 => k0_off17 k
  | 3 => k0_off22 k
  | 4 => k0_off27 k
  | 5 => k0_off32 k
  | 6 => k0_off37 k
  | 7 => k0_off42 k
  | 8 => k0_off47 k
  | 9 => k0_off52 k
  | _ => k0_off57 k

/-- Where block `b`'s value scales (and zeros) of head `2k+h` are read. -/
def offVS (k : Fin k0_t1_loop.trips) (h : Fin 2) : Nat → Fin 3 → Nat
  | 0 => k0_off58 k (BitVec.ofNat 32 h.val)
  | 1 => k0_off60 k (BitVec.ofNat 32 h.val)
  | 2 => k0_off62 k (BitVec.ofNat 32 h.val)
  | 3 => k0_off64 k (BitVec.ofNat 32 h.val)
  | 4 => k0_off66 k (BitVec.ofNat 32 h.val)
  | 5 => k0_off68 k (BitVec.ofNat 32 h.val)
  | 6 => k0_off70 k (BitVec.ofNat 32 h.val)
  | 7 => k0_off72 k (BitVec.ofNat 32 h.val)
  | 8 => k0_off74 k (BitVec.ofNat 32 h.val)
  | 9 => k0_off76 k (BitVec.ofNat 32 h.val)
  | _ => k0_off78 k (BitVec.ofNat 32 h.val)

/-- Where block `b`'s packed values of head `2k+h` are read. -/
def offVW (k : Fin k0_t1_loop.trips) (h : Fin 2) : Nat → Fin 4 → Nat
  | 0 => k0_off59 k (BitVec.ofNat 32 h.val)
  | 1 => k0_off61 k (BitVec.ofNat 32 h.val)
  | 2 => k0_off63 k (BitVec.ofNat 32 h.val)
  | 3 => k0_off65 k (BitVec.ofNat 32 h.val)
  | 4 => k0_off67 k (BitVec.ofNat 32 h.val)
  | 5 => k0_off69 k (BitVec.ofNat 32 h.val)
  | 6 => k0_off71 k (BitVec.ofNat 32 h.val)
  | 7 => k0_off73 k (BitVec.ofNat 32 h.val)
  | 8 => k0_off75 k (BitVec.ofNat 32 h.val)
  | 9 => k0_off77 k (BitVec.ofNat 32 h.val)
  | _ => k0_off79 k (BitVec.ofNat 32 h.val)

theorem offKW_inb (k : Fin k0_t1_loop.trips) (h : Fin 2) (b : Nat) : ∀ a, offKW k h b a + S1x1x32x128.size a ≤ S1x16x352x128.size a := by
  unfold offKW; split
  · exact k0_off3_inb k h
  · exact k0_off8_inb k h
  · exact k0_off13_inb k h
  · exact k0_off18_inb k h
  · exact k0_off23_inb k h
  · exact k0_off28_inb k h
  · exact k0_off33_inb k h
  · exact k0_off38_inb k h
  · exact k0_off43_inb k h
  · exact k0_off48_inb k h
  · exact k0_off53_inb k h

theorem offKS0_inb (k : Fin k0_t1_loop.trips) (b : Nat) : ∀ a, offKS0 k b a + S1x1x2x128.size a ≤ S1x44x16x128.size a := by
  unfold offKS0; split
  · exact k0_off4_inb k
  · exact k0_off9_inb k
  · exact k0_off14_inb k
  · exact k0_off19_inb k
  · exact k0_off24_inb k
  · exact k0_off29_inb k
  · exact k0_off34_inb k
  · exact k0_off39_inb k
  · exact k0_off44_inb k
  · exact k0_off49_inb k
  · exact k0_off54_inb k

theorem offKS1_inb (k : Fin k0_t1_loop.trips) (b : Nat) : ∀ a, offKS1 k b a + S1x1x2x128.size a ≤ S1x44x16x128.size a := by
  unfold offKS1; split
  · exact k0_off5_inb k
  · exact k0_off10_inb k
  · exact k0_off15_inb k
  · exact k0_off20_inb k
  · exact k0_off25_inb k
  · exact k0_off30_inb k
  · exact k0_off35_inb k
  · exact k0_off40_inb k
  · exact k0_off45_inb k
  · exact k0_off50_inb k
  · exact k0_off55_inb k

theorem offKS2_inb (k : Fin k0_t1_loop.trips) (b : Nat) : ∀ a, offKS2 k b a + S1x1x2x128.size a ≤ S1x44x16x128.size a := by
  unfold offKS2; split
  · exact k0_off6_inb k
  · exact k0_off11_inb k
  · exact k0_off16_inb k
  · exact k0_off21_inb k
  · exact k0_off26_inb k
  · exact k0_off31_inb k
  · exact k0_off36_inb k
  · exact k0_off41_inb k
  · exact k0_off46_inb k
  · exact k0_off51_inb k
  · exact k0_off56_inb k

theorem offKS3_inb (k : Fin k0_t1_loop.trips) (b : Nat) : ∀ a, offKS3 k b a + S1x1x2x128.size a ≤ S1x44x16x128.size a := by
  unfold offKS3; split
  · exact k0_off7_inb k
  · exact k0_off12_inb k
  · exact k0_off17_inb k
  · exact k0_off22_inb k
  · exact k0_off27_inb k
  · exact k0_off32_inb k
  · exact k0_off37_inb k
  · exact k0_off42_inb k
  · exact k0_off47_inb k
  · exact k0_off52_inb k
  · exact k0_off57_inb k

theorem offVS_inb (k : Fin k0_t1_loop.trips) (h : Fin 2) (b : Nat) : ∀ a, offVS k h b a + S1x1x128.size a ≤ S11x16x128.size a := by
  unfold offVS; split
  · exact k0_off58_inb k h
  · exact k0_off60_inb k h
  · exact k0_off62_inb k h
  · exact k0_off64_inb k h
  · exact k0_off66_inb k h
  · exact k0_off68_inb k h
  · exact k0_off70_inb k h
  · exact k0_off72_inb k h
  · exact k0_off74_inb k h
  · exact k0_off76_inb k h
  · exact k0_off78_inb k h

theorem offVW_inb (k : Fin k0_t1_loop.trips) (h : Fin 2) (b : Nat) : ∀ a, offVW k h b a + S1x1x32x128.size a ≤ S1x16x32x1408.size a := by
  unfold offVW; split
  · exact k0_off59_inb k h
  · exact k0_off61_inb k h
  · exact k0_off63_inb k h
  · exact k0_off65_inb k h
  · exact k0_off67_inb k h
  · exact k0_off69_inb k h
  · exact k0_off71_inb k h
  · exact k0_off73_inb k h
  · exact k0_off75_inb k h
  · exact k0_off77_inb k h
  · exact k0_off79_inb k h

theorem offKW_eq (k : Fin k0_t1_loop.trips) (h : Fin 2) (b : Fin 11) : offKW k h b.val = ![0, 2 * k.val + h.val, 32 * b.val, 0] := by
  match b with
  | 0 => exact k0_off3_eq k h
  | 1 => exact k0_off8_eq k h
  | 2 => exact k0_off13_eq k h
  | 3 => exact k0_off18_eq k h
  | 4 => exact k0_off23_eq k h
  | 5 => exact k0_off28_eq k h
  | 6 => exact k0_off33_eq k h
  | 7 => exact k0_off38_eq k h
  | 8 => exact k0_off43_eq k h
  | 9 => exact k0_off48_eq k h
  | 10 => exact k0_off53_eq k h

theorem offKS0_eq (k : Fin k0_t1_loop.trips) (b : Fin 11) : offKS0 k b.val = ![0, 4 * b.val + 0, 2 * k.val, 0] := by
  match b with
  | 0 => exact k0_off4_eq k
  | 1 => exact k0_off9_eq k
  | 2 => exact k0_off14_eq k
  | 3 => exact k0_off19_eq k
  | 4 => exact k0_off24_eq k
  | 5 => exact k0_off29_eq k
  | 6 => exact k0_off34_eq k
  | 7 => exact k0_off39_eq k
  | 8 => exact k0_off44_eq k
  | 9 => exact k0_off49_eq k
  | 10 => exact k0_off54_eq k

theorem offKS1_eq (k : Fin k0_t1_loop.trips) (b : Fin 11) : offKS1 k b.val = ![0, 4 * b.val + 1, 2 * k.val, 0] := by
  match b with
  | 0 => exact k0_off5_eq k
  | 1 => exact k0_off10_eq k
  | 2 => exact k0_off15_eq k
  | 3 => exact k0_off20_eq k
  | 4 => exact k0_off25_eq k
  | 5 => exact k0_off30_eq k
  | 6 => exact k0_off35_eq k
  | 7 => exact k0_off40_eq k
  | 8 => exact k0_off45_eq k
  | 9 => exact k0_off50_eq k
  | 10 => exact k0_off55_eq k

theorem offKS2_eq (k : Fin k0_t1_loop.trips) (b : Fin 11) : offKS2 k b.val = ![0, 4 * b.val + 2, 2 * k.val, 0] := by
  match b with
  | 0 => exact k0_off6_eq k
  | 1 => exact k0_off11_eq k
  | 2 => exact k0_off16_eq k
  | 3 => exact k0_off21_eq k
  | 4 => exact k0_off26_eq k
  | 5 => exact k0_off31_eq k
  | 6 => exact k0_off36_eq k
  | 7 => exact k0_off41_eq k
  | 8 => exact k0_off46_eq k
  | 9 => exact k0_off51_eq k
  | 10 => exact k0_off56_eq k

theorem offKS3_eq (k : Fin k0_t1_loop.trips) (b : Fin 11) : offKS3 k b.val = ![0, 4 * b.val + 3, 2 * k.val, 0] := by
  match b with
  | 0 => exact k0_off7_eq k
  | 1 => exact k0_off12_eq k
  | 2 => exact k0_off17_eq k
  | 3 => exact k0_off22_eq k
  | 4 => exact k0_off27_eq k
  | 5 => exact k0_off32_eq k
  | 6 => exact k0_off37_eq k
  | 7 => exact k0_off42_eq k
  | 8 => exact k0_off47_eq k
  | 9 => exact k0_off52_eq k
  | 10 => exact k0_off57_eq k

theorem offVS_eq (k : Fin k0_t1_loop.trips) (h : Fin 2) (b : Fin 11) : offVS k h b.val = ![b.val, 2 * k.val + h.val, 0] := by
  match b with
  | 0 => exact k0_off58_eq k h
  | 1 => exact k0_off60_eq k h
  | 2 => exact k0_off62_eq k h
  | 3 => exact k0_off64_eq k h
  | 4 => exact k0_off66_eq k h
  | 5 => exact k0_off68_eq k h
  | 6 => exact k0_off70_eq k h
  | 7 => exact k0_off72_eq k h
  | 8 => exact k0_off74_eq k h
  | 9 => exact k0_off76_eq k h
  | 10 => exact k0_off78_eq k h

theorem offVW_eq (k : Fin k0_t1_loop.trips) (h : Fin 2) (b : Fin 11) : offVW k h b.val = ![0, 2 * k.val + h.val, 0, 128 * b.val] := by
  match b with
  | 0 => exact k0_off59_eq k h
  | 1 => exact k0_off61_eq k h
  | 2 => exact k0_off63_eq k h
  | 3 => exact k0_off65_eq k h
  | 4 => exact k0_off67_eq k h
  | 5 => exact k0_off69_eq k h
  | 6 => exact k0_off71_eq k h
  | 7 => exact k0_off73_eq k h
  | 8 => exact k0_off75_eq k h
  | 9 => exact k0_off77_eq k h
  | 10 => exact k0_off79_eq k h

/-! ## Fields and tiles -/

/-- A word's eight nibbles masked to their low 2-bit field, as 64 rows of numbers. -/
def fields (w : IVec S8x128 32) : FVec F S64x128 .bf16 :=
  sitofp .bf16 (shapeCast S64x128 (andi (shrui (broadcastTo S8x8x128 (shapeCast S8x1x128 (shapeCast S8x1x128
    (andi w (broadcast S8x128 858993459#32)) shapeCasts_S8x128_S8x1x128) shapeCasts_S8x1x128_S8x1x128) broadcasts_S8x1x128_S8x8x128)
    (muli (broadcast S8x8x128 4#32) (iota .tc S8x8x128 32 [1] iota_S8x8x128_d1_w32))) (broadcast S8x8x128 15#32)) shapeCasts_S8x8x128_S64x128)

/-- The words with the odd fields moved to the even places. -/
def oddWords (w : IVec S8x128 32) : IVec S8x128 32 := shrui w (broadcast S8x128 2#32)

/-- 32 byte rows read as 8 word rows. -/
def words (v : Vec F S1x1x32x128 .i8) : IVec S8x128 32 :=
  bitcast S8x128 32 (shapeCast S32x128 v shapeCasts_S1x1x32x128_S32x128 : IVec S32x128 8) bitcasts_S32x128_w8_S8x128_w32

/-- One head's row of a pair of rows, repeated over the 16 rows of a token group. -/
def halfRows (p : Fin 2) (v : Vec F S1x1x2x128 .bf16) : FVec F S16x128 .bf16 :=
  let r : FVec F S1x128 .bf16 := shapeCast S1x128 (rowsOfParity p S1x1x1x128 v bitcasts_S1x1x2x128_w16_S1x1x1x128_w32 : FVec F S1x1x1x128 .bf16) shapeCasts_S1x1x1x128_S1x128
  let s : FVec F S8x128 .bf16 := concatenate S8x128 0 [⟨S1x128, r⟩, ⟨S1x128, r⟩, ⟨S1x128, r⟩, ⟨S1x128, r⟩, ⟨S1x128, r⟩, ⟨S1x128, r⟩, ⟨S1x128, r⟩, ⟨S1x128, r⟩] concatenates_S1x128_S1x128_S1x128_S1x128_S1x128_S1x128_S1x128_S1x128_S8x128_d0
  interleaveRows S16x128 s s bitcasts_S16x128_w16_S8x128_w32

/-- The scales (or zeros) of one head over a block's 64 rows of one field. -/
def groupRows (p : Fin 2) (a b c d : Vec F S1x1x2x128 .bf16) : FVec F S64x128 .bf16 :=
  concatenate S64x128 0 [⟨S16x128, halfRows p a⟩, ⟨S16x128, halfRows p b⟩, ⟨S16x128, halfRows p c⟩, ⟨S16x128, halfRows p d⟩] concatenates_S16x128_S16x128_S16x128_S16x128_S64x128_d0

/-- One head's dequantised keys of a block: even tokens, then odd tokens. -/
def keyCols (w : IVec S8x128 32) (sc ze : FVec F S64x128 .bf16) : FVec F S128x128 .bf16 :=
  concatenate S128x128 0 [⟨S64x128, addf (mulf (fields w) sc) ze⟩, ⟨S64x128, addf (mulf (fields (oddWords w)) sc) ze⟩] concatenates_S64x128_S64x128_S128x128_d0

section Reads

variable (arg5 : Memref sig .tc .vmem S1x16x352x128 .i8) (arg6 : Memref sig .tc .vmem S1x44x16x128 .bf16) (arg7 : Memref sig .tc .vmem S1x44x16x128 .bf16)
  (arg8 : Memref sig .tc .vmem S1x16x32x1408 .i8) (arg15 : Memref sig .tc .vmem S192x128 .f32) (arg16 : Memref sig .tc .vmem S192x128 .f32)
  (arg17 : Memref sig .tc .vmem S11x16x128 .f32) (arg18 : Memref sig .tc .vmem S11x16x128 .f32)
  (v1 : Elt F .i32) (v24 : FVec F S48x128 .f32) (v92 v98 : FVec F S1x128 .f32) (v300 : IVec S24x128 1) (v344 : IVec S1x128 32)
  (X5 : BufTy.Contents (Elt F) arg5.view.ty) (X6 : BufTy.Contents (Elt F) arg6.view.ty) (X7 : BufTy.Contents (Elt F) arg7.view.ty)
  (X8 : BufTy.Contents (Elt F) arg8.view.ty) (X15 : BufTy.Contents (Elt F) arg15.view.ty) (X16 : BufTy.Contents (Elt F) arg16.view.ty)
  (X17 : BufTy.Contents (Elt F) arg17.view.ty) (X18 : BufTy.Contents (Elt F) arg18.view.ty) (k : Fin k0_t1_loop.trips)

/-- The packed keys of head `2k+h` in block `b`. -/
def ldKW (h : Fin 2) (b : Nat) : Vec F S1x1x32x128 .i8 :=
  View.readAt (Elt F) arg5.view (Rect.unit (s := S1x16x352x128) (offKW k h b) S1x1x32x128.size (offKW_inb k h b)).toLoadRect X5

/-- The rows of group `4b+n` for heads `2k` and `2k+1`, of the scales or of the zeros. -/
def ldG (arg6 : Memref sig .tc .vmem S1x44x16x128 .bf16) (X6 : BufTy.Contents (Elt F) arg6.view.ty) (p : Fin 2) (b : Nat) : FVec F S64x128 .bf16 :=
  groupRows p
    (View.readAt (Elt F) arg6.view (Rect.unit (s := S1x44x16x128) (offKS0 k b) S1x1x2x128.size (offKS0_inb k b)).toLoadRect X6)
    (View.readAt (Elt F) arg6.view (Rect.unit (s := S1x44x16x128) (offKS1 k b) S1x1x2x128.size (offKS1_inb k b)).toLoadRect X6)
    (View.readAt (Elt F) arg6.view (Rect.unit (s := S1x44x16x128) (offKS2 k b) S1x1x2x128.size (offKS2_inb k b)).toLoadRect X6)
    (View.readAt (Elt F) arg6.view (Rect.unit (s := S1x44x16x128) (offKS3 k b) S1x1x2x128.size (offKS3_inb k b)).toLoadRect X6)

/-- The dequantised key tile of block `b`: the pair's two heads side by side. -/
def keyTile (b : Nat) : FVec F S128x256 .bf16 :=
  concatenate S128x256 1 [⟨S128x128, keyCols (words (ldKW arg5 X5 k 0 b)) (ldG k arg6 X6 0 b) (ldG k arg7 X7 0 b)⟩,
    ⟨S128x128, keyCols (words (ldKW arg5 X5 k 1 b)) (ldG k arg6 X6 1 b) (ldG k arg7 X7 1 b)⟩] concatenates_S128x128_S128x128_S128x256_d1

/-- The queries of the pair, each in its head's half of 256 columns. -/
def qbd : FVec F S24x256 .bf16 :=
  let q : FVec F S24x128 .f32 := View.readAt (Elt F) arg15.view (Rect.unit (s := S192x128) (k0_off2 k) S24x128.size (k0_off2_inb k)).toLoadRect X15
  truncf .bf16 (concatenate S24x256 1 [⟨S24x128, (select v300 q (broadcast S24x128 (Scalar.ofBits .f32 0x00000000#32 : F .f32)) : FVec F S24x128 .f32)⟩,
    ⟨S24x128, (select v300 (broadcast S24x128 (Scalar.ofBits .f32 0x00000000#32 : F .f32)) q : FVec F S24x128 .f32)⟩] concatenates_S24x128_S24x128_S24x256_d1 : FVec F S24x256 .f32) bitsLt_bf16_f32

/-- The scores against the new keys, masked. -/
def sNew : FVec F S24x128 .f32 :=
  View.readAt (Elt F) arg16.view (Rect.unit (s := S192x128) (k0_off2 k) S24x128.size (k0_off2_inb k)).toLoadRect X16

/-- The masked scores of block `b`. -/
def sBlk (b : Nat) : FVec F S24x128 .f32 :=
  select (broadcastTo S24x128 (shapeCast S1x128 (cmpi .slt (addi v344 (broadcast S1x128 (BitVec.ofNat 32 (128 * b)))) (broadcast S1x128 v1)) shapeCasts_S1x128_S1x128) broadcasts_S1x128_S24x128)
    (mulf (matmul dot_S24x256_S128x256_S24x128_1_1_0_0_n_n none (qbd arg15 v300 X15 k) (keyTile arg5 arg6 arg7 X5 X6 X7 k b) (constant S24x128 .f32 0x00000000#32))
      (broadcast S24x128 (Scalar.ofBits .f32 0x3DB504F3#32 : F .f32)))
    (broadcast S24x128 (Named.named κ "mask" 0xF149F2CA#32 : F .f32))

/-- A row's maximum, as a column. -/
def rowMax (s : FVec F S24x128 .f32) : FVec F S24x1 .f32 :=
  shapeCast S24x1 (multiReduction .maximumf [1] S24 s 0xFF800000#32 reduces_S24x128_S24 (.inl rfl) rfl : FVec F S24 .f32) shapeCasts_S24_S24x1

/-- A row's sum, as a column. -/
def rowSum (s : FVec F S24x128 .f32) : FVec F S24x1 .f32 :=
  shapeCast S24x1 (multiReduction .add [1] S24 s 0x00000000#32 reduces_S24x128_S24 (.inl rfl) rfl : FVec F S24 .f32) shapeCasts_S24_S24x1

/-- The running maximum over the new keys and the first `n` blocks. -/
def mAcc (sn : FVec F S24x128 .f32) (s : Nat → FVec F S24x128 .f32) : Nat → FVec F S24x1 .f32
  | 0 => rowMax sn
  | n + 1 => maximumf (mAcc sn s n) (rowMax (s n))

/-- The weights of a tile of scores under the maximum `mx`. -/
def wgt (mx : FVec F S24x1 .f32) (s : FVec F S24x128 .f32) : FVec F S24x128 .f32 :=
  exp (subf s (broadcastTo S24x128 mx broadcasts_S24x1_S24x128))

/-- The sum of weights over the new keys and the first `n` blocks. -/
def lAcc (en : FVec F S24x128 .f32) (e : Nat → FVec F S24x128 .f32) : Nat → FVec F S24x1 .f32
  | 0 => rowSum en
  | n + 1 => addf (lAcc en e n) (rowSum (e n))

/-- One head pair's row of value scales (or zeros) of block `b`, spread to the rows of that head. -/
def vRows (arg17 : Memref sig .tc .vmem S11x16x128 .f32) (X17 : BufTy.Contents (Elt F) arg17.view.ty) (b : Nat) : FVec F S24x128 .f32 :=
  let row (h : Fin 2) : FVec F S8x128 .f32 := broadcastTo S8x128 (shapeCast S1x128 (shapeCast S1x128
    (View.readAt (Elt F) arg17.view (Rect.unit (s := S11x16x128) (offVS k h b) S1x1x128.size (offVS_inb k h b)).toLoadRect X17 : FVec F S1x1x128 .f32)
    shapeCasts_S1x1x128_S1x128 : FVec F S1x128 .f32) shapeCasts_S1x128_S1x128 : FVec F S1x128 .f32) broadcasts_S1x128_S8x128
  let v : FVec F S8x128 .f32 := select (extractStridedSlice S8x128 ![0, 0] v300 slices_S24x128_o0_0_S8x128) (row 0) (row 1)
  concatenate S24x128 0 [⟨S8x128, v⟩, ⟨S8x128, v⟩, ⟨S8x128, v⟩] concatenates_S8x128_S8x128_S8x128_S24x128_d0

/-- The zero-point sum over the new tokens and the first `n` blocks. -/
def zAcc (zn : FVec F S24x1 .f32) (e vz : Nat → FVec F S24x128 .f32) : Nat → FVec F S24x1 .f32
  | 0 => zn
  | n + 1 => addf (zAcc zn e vz n) (rowSum (mulf (e n) (vz n)))

/-- The lane permutation over 8 rows, as the gather's operand. -/
def perm8 : IVec S8x128 32 :=
  let p : IVec S8x128 32 := broadcastTo S8x128 (shapeCast S1x128 v344 shapeCasts_S1x128_S1x128) broadcasts_S1x128_S8x128
  shapeCast S8x128 (shapeCast S8x128x1 (select (cmpi .slt p (broadcast S8x128 0#32)) (addi p (broadcast S8x128 128#32)) p) shapeCasts_S8x128_S8x128x1) shapeCasts_S8x128x1_S8x128

/-- The packed values of head `2k+h` in block `b`, lanes permuted. -/
def valWords (h : Fin 2) (b : Nat) : IVec S8x128 32 :=
  dynamicGather 1 (words (View.readAt (Elt F) arg8.view (Rect.unit (s := S1x16x32x1408) (offVW k h b) S1x1x32x128.size (offVW_inb k h b)).toLoadRect X8)) (perm8 v344)

/-- The value codes of block `b`: for each head, even channels then odd channels, by token. -/
def valTile (b : Nat) : FVec F S256x128 .bf16 :=
  concatenate S256x128 0 [⟨S64x128, fields (valWords arg8 v344 X8 k 0 b)⟩, ⟨S64x128, fields (oddWords (valWords arg8 v344 X8 k 0 b))⟩,
    ⟨S64x128, fields (valWords arg8 v344 X8 k 1 b)⟩, ⟨S64x128, fields (oddWords (valWords arg8 v344 X8 k 1 b))⟩] concatenates_S64x128_S64x128_S64x128_S64x128_S256x128_d0

/-- The weighted value codes over the first `n` blocks, on top of the new tokens' `on`. -/
def oAcc (on : FVec F S24x256 .f32) (e vs : Nat → FVec F S24x128 .f32) (vt : Nat → FVec F S256x128 .bf16) : Nat → FVec F S24x256 .f32
  | 0 => on
  | n + 1 => addf (oAcc on e vs vt n) (matmul dot_S24x128_S256x128_S24x256_1_1_0_0_n_n none (truncf .bf16 (mulf (e n) (vs n)) bitsLt_bf16_f32) (vt n) (constant S24x256 .f32 0x00000000#32))

/-- The new tokens' weighted codes, twice side by side; the codes' columns permuted as the cached ones. -/
def oNew (en : FVec F S24x128 .f32) : FVec F S24x256 .f32 :=
  let p : IVec S48x128 32 := broadcastTo S48x128 (shapeCast S1x128 v344 shapeCasts_S1x128_S1x128) broadcasts_S1x128_S48x128
  let g : FVec F S48x128 .f32 := dynamicGather 1 v24 (shapeCast S48x128 (shapeCast S48x128x1 (select (cmpi .slt p (broadcast S48x128 0#32)) (addi p (broadcast S48x128 128#32)) p) shapeCasts_S48x128_S48x128x1) shapeCasts_S48x128x1_S48x128)
  let vc : FVec F S128x128 .bf16 := truncf .bf16 (concatenate S128x128 0 [⟨S48x128, g⟩, ⟨S80x128, (broadcast S80x128 (Scalar.ofBits .f32 0x00000000#32 : F .f32) : FVec F S80x128 .f32)⟩] concatenates_S48x128_S80x128_S128x128_d0 : FVec F S128x128 .f32) bitsLt_bf16_f32
  let o : FVec F S24x128 .f32 := matmul dot_S24x128_S128x128_S24x128_1_0_0_1_n_n none (truncf .bf16 (mulf en (broadcastTo S24x128 v92 broadcasts_S1x128_S24x128)) bitsLt_bf16_f32) vc (constant S24x128 .f32 0x00000000#32)
  concatenate S24x256 1 [⟨S24x128, o⟩, ⟨S24x128, o⟩] concatenates_S24x128_S24x128_S24x256_d1

/-- The pair's 24 rows of attention, columns still permuted. -/
def outRows : FVec F S24x128 .f32 :=
  let sn := sNew arg16 X16 k
  let s := sBlk arg5 arg6 arg7 arg15 v1 v300 v344 X5 X6 X7 X15 k
  let mx := mAcc sn s 11
  let en := wgt mx sn
  let e := fun b => wgt mx (s b)
  let o := oAcc (oNew v24 v92 v344 en) e (vRows v300 k arg17 X17) (valTile arg8 v344 X8 k) 11
  divf (addf (select v300 (extractStridedSlice S24x128 ![0, 0] o slices_S24x256_o0_0_S24x128) (extractStridedSlice S24x128 ![0, 128] o slices_S24x256_o0_128_S24x128))
      (broadcastTo S24x128 (zAcc (rowSum (mulf en (broadcastTo S24x128 v98 broadcasts_S1x128_S24x128))) e (vRows v300 k arg18 X18) 11) broadcasts_S24x1_S24x128))
    (broadcastTo S24x128 (lAcc en e 11) broadcasts_S24x1_S24x128)

/-- The trip's result is these functions. -/
theorem trip_eq : trip_k0_t1.sl.v5151 arg5 arg6 arg7 arg8 arg15 arg16 arg17 arg18 v1 v24 v92 v98 v300 v344 X5 X6 X7 X8 X15 X16 X17 X18 k
    = outRows arg5 arg6 arg7 arg8 arg15 arg16 arg17 arg18 v1 v24 v92 v98 v300 v344 X5 X6 X7 X8 X15 X16 X17 X18 k := rfl

end Reads

end Cert.KernelIdeal.Trip

end
-- ==== Proof.Spec.lean ====
/-
  The attention of one query row as arithmetic on extended reals: the scores of the cached tokens and of the
  new tokens, the weights, and the two orders of arithmetic that are compared: dividing at the end (`attnLate`) and
  dividing every weight first (`attnEarly`). No program is mentioned here.
-/
module

public import Idealize.ShloMosaic.Lib.Pointwise

@[expose] public section

noncomputable section

namespace Cert.Spec

open Idealize.ShloMosaic

/-- The 2-bit field `f` of a byte, as a number. -/
def code (b : BitVec 8) (f : Nat) : EReal := ((((b.setWidth 32 >>> (2 * f)) &&& 3#32).toInt : ℝ) : EReal)

/-- The scale of the scores, `128 ^ (-1/2)` rounded to f32. -/
abbrev scl : EReal := Ideal.ofBits .f32 0x3DB504F3#32

/-- The token that lane `c` of a block holds: even tokens in the first 64 lanes, odd tokens in the others. -/
def tok (c : Fin 128) : Nat := 2 * (c.val % 64) + c.val / 64

theorem tok_lt (c : Fin 128) : tok c < 128 := by unfold tok; omega

/-- The masked score of cached token `t`. -/
def scoreC (x : Fin 128 → EReal) (kb : Fin 352 → Fin 128 → BitVec 8) (ks kz : Fin 44 → Fin 128 → EReal) (len : BitVec 32) (t : Fin 1408) : EReal :=
  if (BitVec.ofNat 32 t.val).slt len then
    (∑ d : Fin 128, x d * (code (kb ⟨t.val / 4, by omega⟩ d) (t.val % 4) * ks ⟨t.val / 32, by omega⟩ d + kz ⟨t.val / 32, by omega⟩ d)) * scl
  else ⊥

/-- The masked score of new token `t` for the query at position `s`. -/
def scoreN (x : Fin 128 → EReal) (kn : Fin 3 → Fin 128 → EReal) (s : Fin 3) (t : Fin 3) : EReal :=
  if t.val ≤ s.val then (∑ d : Fin 128, x d * kn t d) * scl else ⊥

section Attn

variable (sN vsN vzN cN : Fin 3 → EReal) (sC vs vz cC : Fin 1408 → EReal)

/-- The largest score. -/
def top : EReal := Finset.univ.sup sC ⊔ Finset.univ.sup sN

/-- The weights of the cached and of the new tokens, and their sum. -/
def wC (t : Fin 1408) : EReal := Ideal.exp (sC t - top sN sC)
def wN (t : Fin 3) : EReal := Ideal.exp (sN t - top sN sC)
def total : EReal := ∑ t, wC sN sC t + ∑ t, wN sN sC t

/-- The row's attention, divided by the sum of weights at the end. -/
def attnLate : EReal :=
  Ideal.div ((∑ t, wN sN sC t * vsN t * cN t + ∑ t, wC sN sC t * vs t * cC t) + (∑ t, wN sN sC t * vzN t + ∑ t, wC sN sC t * vz t))
    (∑ t, wN sN sC t + ∑ t, wC sN sC t)

/-- The row's attention, every weight divided by the sum of weights first. -/
def attnEarly : EReal :=
  (∑ t, cC t * (Ideal.div (wC sN sC t) (total sN sC) * vs t) + ∑ t, cN t * (Ideal.div (wN sN sC t) (total sN sC) * vsN t))
    + (∑ t, Ideal.div (wC sN sC t) (total sN sC) * vz t + ∑ t, Ideal.div (wN sN sC t) (total sN sC) * vzN t)

end Attn

theorem sup_eq_fold {ι : Type} [Fintype ι] (f : ι → EReal) : Finset.univ.fold max (Ideal.ofBits .f32 4286578688#32) f = Finset.univ.sup f := by
  have : Ideal.ofBits .f32 4286578688#32 = ⊥ := by simp [Ideal.ofBits, Ideal.ieee]
  rw [this]; rfl

/-! ## Sums over lanes -/

/-- A sum over 11 blocks of 128 lanes is the sum over the 1408 tokens. -/
theorem sum_blocks (f : Fin 1408 → EReal) :
    ∑ b : Fin 11, ∑ c : Fin 128, f ⟨128 * b.val + tok c, by have := tok_lt c; omega⟩ = ∑ t, f t := by
  rw [← Fintype.sum_prod_type' (f := fun (b : Fin 11) (c : Fin 128) => f ⟨128 * b.val + tok c, by have := tok_lt c; omega⟩)]
  refine Fintype.sum_bijective (fun p : Fin 11 × Fin 128 => (⟨128 * p.1.val + tok p.2, by have := tok_lt p.2; omega⟩ : Fin 1408)) ⟨?_, ?_⟩ _ _ (fun _ => rfl)
  · intro p q h
    have h' := congrArg Fin.val h
    dsimp only at h'
    have h1 := tok_lt p.2
    have h2 := tok_lt q.2
    have hb : p.1.val = q.1.val := by omega
    have hc : tok p.2 = tok q.2 := by omega
    unfold tok at hc
    exact Prod.ext (Fin.ext hb) (Fin.ext (by omega))
  · intro t
    refine ⟨(⟨t.val / 128, by omega⟩, ⟨64 * (t.val % 2) + t.val % 128 / 2, by omega⟩), Fin.ext ?_⟩
    show 128 * (t.val / 128) + (2 * ((64 * (t.val % 2) + t.val % 128 / 2) % 64) + (64 * (t.val % 2) + t.val % 128 / 2) / 64) = t.val
    rcases Nat.mod_two_eq_zero_or_one t.val with h | h <;> rw [h] <;> omega

/-- The same for maxima. -/
theorem sup_blocks (f : Fin 1408 → EReal) :
    (Finset.univ : Finset (Fin 11)).sup (fun b => Finset.univ.sup fun c : Fin 128 => f ⟨128 * b.val + tok c, by have := tok_lt c; omega⟩) = Finset.univ.sup f := by
  refine le_antisymm (Finset.sup_le fun b _ => Finset.sup_le fun c _ => Finset.le_sup (f := f) (Finset.mem_univ _)) (Finset.sup_le fun t _ => ?_)
  refine le_trans ?_ (Finset.le_sup (Finset.mem_univ (⟨t.val / 128, by omega⟩ : Fin 11)))
  refine le_trans (le_of_eq ?_) (Finset.le_sup (Finset.mem_univ (⟨64 * (t.val % 2) + t.val % 128 / 2, by omega⟩ : Fin 128)))
  congr 1
  apply Fin.ext
  show t.val = 128 * (t.val / 128) + (2 * ((64 * (t.val % 2) + t.val % 128 / 2) % 64) + (64 * (t.val % 2) + t.val % 128 / 2) / 64)
  rcases Nat.mod_two_eq_zero_or_one t.val with h | h <;> rw [h] <;> omega

/-- A sum over `n` columns that is zero outside the three columns `16 t + g` is the sum over the three. -/
theorem sum_cols {n : Nat} (hn : 48 ≤ n) (g : Fin 16) (f : Fin n → EReal) (F : Fin 3 → EReal) (h0 : ∀ c : Fin n, ¬ (c.val % 16 = g.val ∧ c.val / 16 < 3) → f c = 0)
    (hF : ∀ t : Fin 3, f ⟨16 * t.val + g.val, by omega⟩ = F t) : ∑ c, f c = ∑ t, F t := by
  refine (Fintype.sum_of_injective (fun t : Fin 3 => (⟨16 * t.val + g.val, by omega⟩ : Fin n)) ?_ _ _ ?_ (fun t => (hF t).symm)).symm
  · intro t u h
    have := congrArg Fin.val h
    exact Fin.ext (by dsimp only at this; omega)
  · intro c hc
    refine h0 c fun hh => hc ⟨⟨c.val / 16, hh.2⟩, Fin.ext ?_⟩
    show 16 * (c.val / 16) + g.val = c.val
    omega

theorem sup_cols (g : Fin 16) (f : Fin 128 → EReal) (F : Fin 3 → EReal) (h0 : ∀ c : Fin 128, ¬ (c.val % 16 = g.val ∧ c.val / 16 < 3) → f c = ⊥)
    (hF : ∀ t : Fin 3, f ⟨16 * t.val + g.val, by omega⟩ = F t) : Finset.univ.sup f = Finset.univ.sup F := by
  refine le_antisymm (Finset.sup_le fun c _ => ?_) (Finset.sup_le fun t _ => ?_)
  · by_cases hc : c.val % 16 = g.val ∧ c.val / 16 < 3
    · refine le_trans (le_of_eq ?_) (Finset.le_sup (Finset.mem_univ (⟨c.val / 16, hc.2⟩ : Fin 3)))
      rw [← hF]
      congr 1
      apply Fin.ext
      show c.val = 16 * (c.val / 16) + g.val
      omega
    · rw [h0 c hc]; exact bot_le
  · rw [← hF]; exact Finset.le_sup (Finset.mem_univ _)

theorem exp_bot_sub (m : EReal) : Ideal.exp (⊥ - m) = 0 := by
  rw [EReal.bot_sub]; rfl

/-! ## Lanes to tokens -/

section Lanes

variable (g : Fin 16) (SN VSN VZN : Fin 128 → EReal) (S VS VZ CC : Fin 11 → Fin 128 → EReal) (CN : Fin 48 → EReal)
  (sN vsN vzN cN : Fin 3 → EReal) (sC vs vz cC : Fin 1408 → EReal)

/-- The kernel's arrangement, lane by lane, is `attnLate` of the tokens. -/
theorem attn_of_lanes (m : EReal) (hm : m = Finset.univ.sup SN ⊔ (Finset.univ : Finset (Fin 11)).sup (fun b => Finset.univ.sup (S b)))
    (hSN : ∀ c : Fin 128, ¬ (c.val % 16 = g.val ∧ c.val / 16 < 3) → SN c = ⊥) (hSN' : ∀ t : Fin 3, SN ⟨16 * t.val + g.val, by omega⟩ = sN t)
    (hVSN : ∀ t : Fin 3, VSN ⟨16 * t.val + g.val, by omega⟩ = vsN t) (hVZN : ∀ t : Fin 3, VZN ⟨16 * t.val + g.val, by omega⟩ = vzN t)
    (hCN : ∀ t : Fin 3, CN ⟨16 * t.val + g.val, by omega⟩ = cN t)
    (hS : ∀ b c, S b c = sC ⟨128 * b.val + tok c, by have := tok_lt c; omega⟩) (hVS : ∀ b c, VS b c = vs ⟨128 * b.val + tok c, by have := tok_lt c; omega⟩)
    (hVZ : ∀ b c, VZ b c = vz ⟨128 * b.val + tok c, by have := tok_lt c; omega⟩) (hCC : ∀ b c, CC b c = cC ⟨128 * b.val + tok c, by have := tok_lt c; omega⟩) :
    Ideal.div ((∑ x : Fin 48, Ideal.exp (SN ⟨x.val, by omega⟩ - m) * VSN ⟨x.val, by omega⟩ * CN x + ∑ b : Fin 11, ∑ c : Fin 128, Ideal.exp (S b c - m) * VS b c * CC b c)
        + (∑ c : Fin 128, Ideal.exp (SN c - m) * VZN c + ∑ b : Fin 11, ∑ c : Fin 128, Ideal.exp (S b c - m) * VZ b c))
      (∑ c : Fin 128, Ideal.exp (SN c - m) + ∑ b : Fin 11, ∑ c : Fin 128, Ideal.exp (S b c - m))
    = attnLate sN vsN vzN cN sC vs vz cC := by
  have hM : m = top sN sC := by
    rw [hm, sup_cols g SN sN hSN hSN', max_comm]
    unfold top
    rw [← sup_blocks sC, show S = fun b c => sC ⟨128 * b.val + tok c, by have := tok_lt c; omega⟩ from funext fun b => funext (hS b)]
  subst hM
  unfold attnLate
  congr 1
  · congr 1
    · congr 1
      · refine sum_cols (by omega) g _ _ (fun c hc => ?_) (fun t => ?_)
        · rw [hSN _ hc, exp_bot_sub, zero_mul, zero_mul]
        · rw [hSN', hVSN, hCN]; rfl
      · rw [← sum_blocks]; simp only [hS, hVS, hCC]; rfl
    · congr 1
      · refine sum_cols (by omega) g _ _ (fun c hc => ?_) (fun t => ?_)
        · rw [hSN _ hc, exp_bot_sub, zero_mul]
        · rw [hSN', hVZN]; rfl
      · rw [← sum_blocks]; simp only [hS, hVZ]; rfl
  · congr 1
    · refine sum_cols (by omega) g _ _ (fun c hc => ?_) (fun t => ?_)
      · rw [hSN _ hc, exp_bot_sub]
      · rw [hSN']; rfl
    · rw [← sum_blocks]; simp only [hS]; rfl

end Lanes

/-! ## Dividing first and dividing last -/

/-- A sum over a finite set times a nonnegative real. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih => rw [Finset.sum_insert ha, Finset.sum_insert ha, EReal.right_distrib_of_nonneg_of_ne_top (EReal.coe_nonneg.mpr hr) (EReal.coe_ne_top r), ih]

/-- Where the sum of weights is a positive real, the two orders agree. -/
theorem attnLate_eq_attnEarly (sN vsN vzN cN : Fin 3 → EReal) (sC vs vz cC : Fin 1408 → EReal) (l : ℝ) (hl : 0 < l) (ht : total sN sC = (l : EReal)) :
    attnLate sN vsN vzN cN sC vs vz cC = attnEarly sN vsN vzN cN sC vs vz cC := by
  unfold attnLate attnEarly
  have hd : ∀ x : EReal, Ideal.div x (l : EReal) = x * ((1 / l : ℝ) : EReal) := Ideal.div_coe hl.ne'
  have hr : 0 ≤ 1 / l := by positivity
  have hR := fun a b : EReal => EReal.right_distrib_of_nonneg_of_ne_top (EReal.coe_nonneg.mpr hr) (EReal.coe_ne_top (1 / l)) a b
  rw [show ∑ t, wN sN sC t + ∑ t, wC sN sC t = (l : EReal) by rw [add_comm]; exact ht, ht]
  simp only [hd]
  rw [hR, hR, hR, sum_mul_coe _ _ _ hr, sum_mul_coe _ _ _ hr, sum_mul_coe _ _ _ hr, sum_mul_coe _ _ _ hr]
  rw [add_comm (∑ t, wN sN sC t * vsN t * cN t * _), add_comm (∑ t, wN sN sC t * vzN t * _)]
  refine congrArg₂ (· + ·) (congrArg₂ (· + ·) ?_ ?_) (congrArg₂ (· + ·) ?_ ?_) <;> refine Finset.sum_congr rfl fun t _ => ?_
  · rw [mul_comm (cC t), mul_right_comm, mul_right_comm (wC sN sC t)]
  · rw [mul_comm (cN t), mul_right_comm, mul_right_comm (wN sN sC t)]
  · rw [mul_right_comm]
  · rw [mul_right_comm]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Where every score is below `⊤` and one new score is a real, the sum of weights is a positive real. -/
theorem total_real (sN : Fin 3 → EReal) (sC : Fin 1408 → EReal) (hN : ∀ t, sN t ≠ ⊤) (hC : ∀ t, sC t ≠ ⊤) (u : Fin 3) (hu : sN u ≠ ⊥) :
    ∃ l : ℝ, 0 < l ∧ total sN sC = (l : EReal) := by
  have htop : top sN sC ≠ ⊤ := by
    unfold top
    intro h
    rcases max_eq_top.mp h with h | h
    · obtain ⟨t, _, ht⟩ := Finset.exists_mem_eq_sup Finset.univ Finset.univ_nonempty sC
      exact hC t (ht ▸ h)
    · obtain ⟨t, _, ht⟩ := Finset.exists_mem_eq_sup Finset.univ Finset.univ_nonempty sN
      exact hN t (ht ▸ h)
  have hbot : top sN sC ≠ ⊥ := fun h => hu (le_bot_iff.mp (h ▸ le_trans (Finset.le_sup (f := sN) (Finset.mem_univ u)) le_sup_right))
  have hw : ∀ x : EReal, x ≠ ⊤ → ∃ r : ℝ, 0 ≤ r ∧ Ideal.exp (x - top sN sC) = (r : EReal) := fun x hx => by
    lift top sN sC to ℝ using ⟨htop, hbot⟩ with m
    induction x using EReal.rec with
    | bot => exact ⟨0, le_rfl, by rw [exp_bot_sub]; rfl⟩
    | top => exact absurd rfl hx
    | coe a => exact ⟨Real.exp (a - m), (Real.exp_pos _).le, by rw [← EReal.coe_sub]; rfl⟩
  choose eC hC0 hCe using fun t => hw (sC t) (hC t)
  choose eN hN0 hNe using fun t => hw (sN t) (hN t)
  have hup : 0 < eN u := by
    refine lt_of_le_of_ne (hN0 u) fun h => ?_
    have h1 := hNe u
    rw [← h] at h1
    lift top sN sC to ℝ using ⟨htop, hbot⟩ with m
    lift sN u to ℝ using ⟨hN u, hu⟩ with a
    rw [← EReal.coe_sub, Ideal.exp_coe] at h1
    exact (Real.exp_pos _).ne' (EReal.coe_injective h1)
  refine ⟨∑ t, eC t + ∑ t, eN t, ?_, ?_⟩
  · have := Finset.single_le_sum (f := eN) (fun t _ => hN0 t) (Finset.mem_univ u)
    have := Finset.sum_nonneg (s := Finset.univ) (f := eC) (fun t _ => hC0 t)
    linarith
  · unfold total wC wN
    simp only [hCe, hNe]
    rw [EReal.coe_add, coe_sum, coe_sum]

end Cert.Spec

end
-- ==== Proof.KPoint.lean ====
/-
  The functions of one trip read at an index, on extended reals: every tile element as the array element it is made of,
  and the trip's result row as the attention of one query row.
-/
module

public import proofs.«01_k».proof.Proof.Trip
public import proofs.«01_k».proof.Proof.Spec
public import Idealize.ShloMosaic.Lib.Bf16Pair
public import Idealize.ShloMosaic.Lib.BitcastFour

@[expose] public section

set_option maxRecDepth 16384

noncomputable section

namespace Cert.KernelIdeal.Trip

open Cert.KernelIdeal Cert.KernelIdeal.Gen Idealize.ShloMosaic Idealize.ShloMosaic.TcCoe Idealize.SL.Sem
open Cert.Spec

/-- A masked, shifted word is the field of the byte whose two bits it keeps. -/
theorem field_bits (w : BitVec 32) (b : BitVec 8) (k f : Nat) (hk : k < 8) (hf : f < 4)
    (h : ∀ i, i < 2 → w.getLsbD (4 * k + i) = b.getLsbD (2 * f + i)) :
    IntOp.andi (IntOp.shrui ArithUnit.vector (IntOp.andi w 858993459#32) (IntOp.muli (4#32) (BitVec.ofNat 32 k))) 15#32
      = (b.setWidth 32 >>> (2 * f)) &&& 3#32 := by
  have hs : IntOp.muli (4#32) (BitVec.ofNat 32 k) = BitVec.ofNat 32 (4 * k) := by
    unfold IntOp.muli; rw [BitVec.ofNat_mul_ofNat]
  have ht : (BitVec.ofNat 32 (4 * k)).toNat = 4 * k := by rw [BitVec.toNat_ofNat]; omega
  unfold IntOp.andi IntOp.shrui
  rw [hs, ht, if_pos (by omega), BitVec.ushiftRight_eq', ht]
  apply BitVec.eq_of_getLsbD_eq
  intro i hi
  simp only [BitVec.getLsbD_and, BitVec.getLsbD_ushiftRight, BitVec.getLsbD_setWidth]
  by_cases h2 : i < 2
  · rw [h i h2]
    have e1 : (858993459#32 : BitVec 32).getLsbD (4 * k + i) = true := by
      interval_cases k <;> interval_cases i <;> rfl
    have e2 : (15#32 : BitVec 32).getLsbD i = true := by interval_cases i <;> rfl
    have e3 : (3#32 : BitVec 32).getLsbD i = true := by interval_cases i <;> rfl
    rw [e1, e2, e3]
    simp; omega
  · have e3 : (3#32 : BitVec 32).getLsbD i = false := by interval_cases i <;> first | rfl | omega
    rw [e3, Bool.and_false]
    by_cases h4 : i < 4
    · have e1 : (858993459#32 : BitVec 32).getLsbD (4 * k + i) = false := by
        interval_cases k <;> interval_cases i <;> first | rfl | omega
      rw [e1]; simp
    · have e2 : (15#32 : BitVec 32).getLsbD i = false := by interval_cases i <;> first | rfl | omega
      rw [e2]; simp

/-- The words `w` hold the byte rows `B`: word row `r` is byte rows `4r..4r+3`. -/
def Holds (w : IVec S8x128 32) (B : Fin 32 → Fin 128 → BitVec 8) : Prop :=
  ∀ (r : Fin 8) (j : Fin 128) (q : Fin 32), (w (ix2 r j)).getLsbD q.val = (B ⟨4 * r.val + q.val / 8, by omega⟩ j).getLsbD (q.val % 8)

/-- The even fields: row `p` is byte row `p / 2`, field `2 (p % 2)`. -/
theorem fields_at (w : IVec S8x128 32) (B : Fin 32 → Fin 128 → BitVec 8) (h : Holds w B)
    (p : Fin 64) (j : Fin 128) : fields (F := Ideal) w (ix2 p j) = code (B ⟨p.val / 2, by omega⟩ j) (2 * (p.val % 2)) := by
  pointwise [fields]
  rw [field_bits _ (B ⟨p.val / 2, by omega⟩ j) (p.val % 8) (2 * (p.val % 2)) (by omega) (by omega) ?_]
  · rfl
  · intro i hi
    refine (h ⟨p.val / 8, by omega⟩ j ⟨4 * (p.val % 8) + i, by omega⟩).trans ?_
    dsimp only
    congr 2
    · congr 1; omega
    · omega

/-- The odd fields: row `p` is byte row `p / 2`, field `2 (p % 2) + 1`. -/
theorem oddFields_at (w : IVec S8x128 32) (B : Fin 32 → Fin 128 → BitVec 8) (h : Holds w B)
    (p : Fin 64) (j : Fin 128) : fields (F := Ideal) (oddWords w) (ix2 p j) = code (B ⟨p.val / 2, by omega⟩ j) (2 * (p.val % 2) + 1) := by
  pointwise [fields, oddWords]
  have e2 : ∀ x : BitVec 32, IntOp.shrui ArithUnit.vector x 2#32 = x >>> 2 := fun x => by
    unfold IntOp.shrui; rw [if_pos (by decide), BitVec.ushiftRight_eq']; rfl
  rw [e2, field_bits _ (B ⟨p.val / 2, by omega⟩ j) (p.val % 8) (2 * (p.val % 2) + 1) (by omega) (by omega) ?_]
  · rfl
  · intro i hi
    rw [BitVec.getLsbD_ushiftRight]
    have hb := h ⟨p.val / 8, by omega⟩ j ⟨2 + (4 * (p.val % 8) + i), by omega⟩
    refine hb.trans ?_
    dsimp only
    congr 2
    · congr 1; omega
    · omega

/-- Words read from 32 byte rows hold those rows. -/
theorem words_holds (v : Vec Ideal S1x1x32x128 .i8) :
    Holds (words (F := Ideal) v) (fun r j => (v (ix4 (0 : Fin 1) (0 : Fin 1) r j) : BitVec 8)) := fun r j q => by
  have e : (shapeCast S32x128 v shapeCasts_S1x1x32x128_S32x128 : IVec S32x128 8) (ix2 (⟨4 * r.val + q.val / 8, by omega⟩ : Fin 32) j)
      = v (ix4 (0 : Fin 1) (0 : Fin 1) (⟨4 * r.val + q.val / 8, by omega⟩ : Fin 32) j) := by pointwise
  refine (bitcast_8_32_getLsbD_ix2 _ _ r j q.val q.isLt ⟨4 * r.val + q.val / 8, by omega⟩ rfl).trans ?_
  exact congrArg (fun z : BitVec 8 => z.getLsbD (q.val % 8)) e

theorem halfRows_at (p : Fin 2) (v : Vec Ideal S1x1x2x128 .bf16) (r : Fin 16) (j : Fin 128) :
    halfRows (F := Ideal) p v (ix2 r j) = v (ix4 (0 : Fin 1) (0 : Fin 1) p j) := by
  pointwise [halfRows]
  simp only [dite_eq_ite, ite_self]

theorem groupRows_at (p : Fin 2) (a b c d : Vec Ideal S1x1x2x128 .bf16) (G : Fin 4 → Fin 128 → EReal)
    (ha : ∀ j, a (ix4 (0 : Fin 1) (0 : Fin 1) p j) = G 0 j) (hb : ∀ j, b (ix4 (0 : Fin 1) (0 : Fin 1) p j) = G 1 j)
    (hc : ∀ j, c (ix4 (0 : Fin 1) (0 : Fin 1) p j) = G 2 j) (hd : ∀ j, d (ix4 (0 : Fin 1) (0 : Fin 1) p j) = G 3 j)
    (r : Fin 64) (j : Fin 128) :
    groupRows (F := Ideal) p a b c d (ix2 r j) = G ⟨r.val / 16, by omega⟩ j := by
  pointwise [groupRows]
  simp only [halfRows_at, ha, hb, hc, hd]
  split_ifs <;> congr 1 <;> apply Fin.ext <;> simp <;> omega

theorem keyCols_at (w : IVec S8x128 32) (sc ze : FVec Ideal S64x128 .bf16) (B : Fin 32 → Fin 128 → BitVec 8)
    (h : Holds w B) (c : Fin 128) (j : Fin 128) :
    keyCols w sc ze (ix2 c j) = code (B ⟨c.val % 64 / 2, by omega⟩ j) (2 * (c.val % 64 % 2) + c.val / 64)
      * sc (ix2 (⟨c.val % 64, by omega⟩ : Fin 64) j) + ze (ix2 (⟨c.val % 64, by omega⟩ : Fin 64) j) := by
  pointwise [keyCols]
  by_cases hc : c.val < 64
  · rw [dif_pos hc, fields_at w B h]
    have e1 : c.val % 64 = c.val := Nat.mod_eq_of_lt hc
    have e2 : c.val / 64 = 0 := Nat.div_eq_of_lt hc
    simp only [e1, e2, Nat.add_zero]
  · rw [dif_neg hc, oddFields_at w B h]
    have e1 : c.val % 64 = c.val - 64 := by omega
    have e2 : c.val / 64 = 1 := by omega
    simp only [e1, e2]

section Reads

variable (arg5 : Memref sig .tc .vmem S1x16x352x128 .i8) (arg6 : Memref sig .tc .vmem S1x44x16x128 .bf16) (arg7 : Memref sig .tc .vmem S1x44x16x128 .bf16)
  (arg8 : Memref sig .tc .vmem S1x16x32x1408 .i8) (arg15 : Memref sig .tc .vmem S192x128 .f32) (arg16 : Memref sig .tc .vmem S192x128 .f32)
  (arg17 : Memref sig .tc .vmem S11x16x128 .f32) (arg18 : Memref sig .tc .vmem S11x16x128 .f32)
  (v1 : Elt Ideal .i32) (v24 : FVec Ideal S48x128 .f32) (v92 v98 : FVec Ideal S1x128 .f32) (v300 : IVec S24x128 1) (v344 : IVec S1x128 32)
  (X5 : BufTy.Contents (Elt Ideal) arg5.view.ty) (X6 : BufTy.Contents (Elt Ideal) arg6.view.ty) (X7 : BufTy.Contents (Elt Ideal) arg7.view.ty)
  (X8 : BufTy.Contents (Elt Ideal) arg8.view.ty) (X15 : BufTy.Contents (Elt Ideal) arg15.view.ty) (X16 : BufTy.Contents (Elt Ideal) arg16.view.ty)
  (X17 : BufTy.Contents (Elt Ideal) arg17.view.ty) (X18 : BufTy.Contents (Elt Ideal) arg18.view.ty) (k : Fin k0_t1_loop.trips)

theorem trips_lt (k : Fin k0_t1_loop.trips) : k.val < 8 := k.isLt

/-- A load through a rectangle at given offsets, read at coordinates. -/
theorem ld4 {α : EltTy} {n0 n1 n2 n3 m0 m1 m2 m3 : Nat} (X : Vec Ideal ⟨4, ![n0, n1, n2, n3]⟩ α) (off : Fin 4 → Nat) (o : Fin 4 → Nat)
    (inb : ∀ a, off a + (![m0, m1, m2, m3] : Fin 4 → Nat) a ≤ (⟨4, ![n0, n1, n2, n3]⟩ : Shape).size a) (ho : off = o)
    (i0 : Fin m0) (i1 : Fin m1) (i2 : Fin m2) (i3 : Fin m3) (j0 : Fin n0) (j1 : Fin n1) (j2 : Fin n2) (j3 : Fin n3)
    (h0 : j0.val = o 0 + i0.val) (h1 : j1.val = o 1 + i1.val) (h2 : j2.val = o 2 + i2.val) (h3 : j3.val = o 3 + i3.val) :
    View.ld (Val := Elt Ideal) X (Rect.unit (s := ⟨4, ![n0, n1, n2, n3]⟩) off ![m0, m1, m2, m3] inb) (ix4 i0 i1 i2 i3) = X (ix4 j0 j1 j2 j3) := by
  subst ho
  refine View.ld_unit_apply_of _ _ _ _ _ _ fun a => ?_
  match a with
  | 0 => exact h0
  | 1 => exact h1
  | 2 => exact h2
  | 3 => exact h3

theorem ld3 {α : EltTy} {n0 n1 n2 m0 m1 m2 : Nat} (X : Vec Ideal ⟨3, ![n0, n1, n2]⟩ α) (off : Fin 3 → Nat) (o : Fin 3 → Nat)
    (inb : ∀ a, off a + (![m0, m1, m2] : Fin 3 → Nat) a ≤ (⟨3, ![n0, n1, n2]⟩ : Shape).size a) (ho : off = o)
    (i0 : Fin m0) (i1 : Fin m1) (i2 : Fin m2) (j0 : Fin n0) (j1 : Fin n1) (j2 : Fin n2)
    (h0 : j0.val = o 0 + i0.val) (h1 : j1.val = o 1 + i1.val) (h2 : j2.val = o 2 + i2.val) :
    View.ld (Val := Elt Ideal) X (Rect.unit (s := ⟨3, ![n0, n1, n2]⟩) off ![m0, m1, m2] inb) (ix3 i0 i1 i2) = X (ix3 j0 j1 j2) := by
  subst ho
  refine View.ld_unit_apply_of _ _ _ _ _ _ fun a => ?_
  match a with
  | 0 => exact h0
  | 1 => exact h1
  | 2 => exact h2

theorem ld2 {α : EltTy} {n0 n1 m0 m1 : Nat} (X : Vec Ideal ⟨2, ![n0, n1]⟩ α) (off : Fin 2 → Nat) (o : Fin 2 → Nat)
    (inb : ∀ a, off a + (![m0, m1] : Fin 2 → Nat) a ≤ (⟨2, ![n0, n1]⟩ : Shape).size a) (ho : off = o)
    (i0 : Fin m0) (i1 : Fin m1) (j0 : Fin n0) (j1 : Fin n1) (h0 : j0.val = o 0 + i0.val) (h1 : j1.val = o 1 + i1.val) :
    View.ld (Val := Elt Ideal) X (Rect.unit (s := ⟨2, ![n0, n1]⟩) off ![m0, m1] inb) (ix2 i0 i1) = X (ix2 j0 j1) := by
  subst ho
  refine View.ld_unit_apply_of _ _ _ _ _ _ fun a => ?_
  match a with
  | 0 => exact h0
  | 1 => exact h1

theorem ldKW_at (h : Fin 2) (b : Fin 11) (r : Fin 32) (j : Fin 128) :
    ldKW arg5 X5 k h b.val (ix4 (0 : Fin 1) (0 : Fin 1) r j)
      = arg5.view.read (Elt Ideal) X5 (ix4 (0 : Fin 1) (⟨2 * k.val + h.val, by have := trips_lt k; omega⟩ : Fin 16) (⟨32 * b.val + r.val, by omega⟩ : Fin 352) j) := by
  unfold ldKW
  rw [View.readAt_eq_ld]
  exact ld4 _ _ _ _ (offKW_eq k h b) _ _ _ _ _ _ _ _ (by simp) (by simp) (by simp) (by simp)

theorem ldG_at (p : Fin 2) (b : Fin 11) (r : Fin 64) (j : Fin 128) :
    ldG k arg6 X6 p b.val (ix2 r j)
      = arg6.view.read (Elt Ideal) X6 (ix4 (0 : Fin 1) (⟨4 * b.val + r.val / 16, by omega⟩ : Fin 44) (⟨2 * k.val + p.val, by have := trips_lt k; omega⟩ : Fin 16) j) := by
  unfold ldG
  refine groupRows_at p _ _ _ _ (fun n j => arg6.view.read (Elt Ideal) X6 (ix4 (0 : Fin 1) (⟨4 * b.val + n.val, by omega⟩ : Fin 44) (⟨2 * k.val + p.val, by have := trips_lt k; omega⟩ : Fin 16) j)) ?_ ?_ ?_ ?_ r j
  · intro j
    rw [View.readAt_eq_ld]
    exact ld4 _ _ _ _ (offKS0_eq k b) _ _ _ _ _ _ _ _ (by simp) (by simp) (by simp) (by simp)
  · intro j
    rw [View.readAt_eq_ld]
    exact ld4 _ _ _ _ (offKS1_eq k b) _ _ _ _ _ _ _ _ (by simp) (by simp) (by simp) (by simp)
  · intro j
    rw [View.readAt_eq_ld]
    exact ld4 _ _ _ _ (offKS2_eq k b) _ _ _ _ _ _ _ _ (by simp) (by simp) (by simp) (by simp)
  · intro j
    rw [View.readAt_eq_ld]
    exact ld4 _ _ _ _ (offKS3_eq k b) _ _ _ _ _ _ _ _ (by simp) (by simp) (by simp) (by simp)

/-- The dequantised key tile: column `128 h + j` of row `c` is channel `j` of head `2k+h`'s token
    `128 b + 2 (c % 64) + c / 64`. -/
theorem keyTile_at (b : Fin 11) (c : Fin 128) (h : Fin 2) (j : Fin 128) :
    keyTile arg5 arg6 arg7 X5 X6 X7 k b.val (ix2 c (⟨128 * h.val + j.val, by omega⟩ : Fin 256))
      = code (arg5.view.read (Elt Ideal) X5 (ix4 (0 : Fin 1) (⟨2 * k.val + h.val, by have := trips_lt k; omega⟩ : Fin 16) (⟨32 * b.val + c.val % 64 / 2, by omega⟩ : Fin 352) j) : BitVec 8) (2 * (c.val % 64 % 2) + c.val / 64)
        * (arg6.view.read (Elt Ideal) X6 (ix4 (0 : Fin 1) (⟨4 * b.val + c.val % 64 / 16, by omega⟩ : Fin 44) (⟨2 * k.val + h.val, by have := trips_lt k; omega⟩ : Fin 16) j) : EReal)
        + (arg7.view.read (Elt Ideal) X7 (ix4 (0 : Fin 1) (⟨4 * b.val + c.val % 64 / 16, by omega⟩ : Fin 44) (⟨2 * k.val + h.val, by have := trips_lt k; omega⟩ : Fin 16) j) : EReal) := by
  have hw : ∀ h : Fin 2, keyCols (words (ldKW arg5 X5 k h b.val)) (ldG k arg6 X6 h b.val) (ldG k arg7 X7 h b.val) (ix2 c j)
      = code (arg5.view.read (Elt Ideal) X5 (ix4 (0 : Fin 1) (⟨2 * k.val + h.val, by have := trips_lt k; omega⟩ : Fin 16) (⟨32 * b.val + c.val % 64 / 2, by omega⟩ : Fin 352) j) : BitVec 8) (2 * (c.val % 64 % 2) + c.val / 64)
        * (arg6.view.read (Elt Ideal) X6 (ix4 (0 : Fin 1) (⟨4 * b.val + c.val % 64 / 16, by omega⟩ : Fin 44) (⟨2 * k.val + h.val, by have := trips_lt k; omega⟩ : Fin 16) j) : EReal)
        + (arg7.view.read (Elt Ideal) X7 (ix4 (0 : Fin 1) (⟨4 * b.val + c.val % 64 / 16, by omega⟩ : Fin 44) (⟨2 * k.val + h.val, by have := trips_lt k; omega⟩ : Fin 16) j) : EReal) := fun h => by
    rw [keyCols_at _ _ _ _ (words_holds _), ldKW_at, ldG_at, ldG_at]
  match h with
  | 0 =>
    rw [← hw 0]
    pointwise [keyTile]
  | 1 =>
    rw [← hw 1]
    pointwise [keyTile]

/-- The row's head of the pair: 0 for rows `r % 8 < 4`. -/
def hd (r : Fin 24) : Fin 2 := ⟨r.val % 8 / 4, by omega⟩

/-- The predicate `first` picks rows of head 0. -/
def IsFirst (v300 : IVec S24x128 1) : Prop := ∀ (r : Fin 24) (j : Fin 128), v300 (ix2 r j) = if r.val % 8 < 4 then 1#1 else 0#1

/-- The lane numbers `v344` are the tokens of the lanes. -/
def IsTok (v344 : IVec S1x128 32) : Prop := ∀ c : Fin 128, v344 (ix2 (0 : Fin 1) c) = BitVec.ofNat 32 (tok c)

theorem first_sel {α : Type} {v300 : IVec S24x128 1} (hv : IsFirst v300) (r : Fin 24) (j : Fin 128) (x y : α) :
    Scalar.select (v300 (ix2 r j)) x y = if hd r = 0 then x else y := by
  rw [hv r j]
  by_cases h : r.val % 8 < 4
  · have : hd r = 0 := Fin.ext (by show r.val % 8 / 4 = 0; omega)
    rw [if_pos h, if_pos this]; rfl
  · have : hd r ≠ 0 := fun e => by have := congrArg Fin.val e; simp [hd] at this; omega
    rw [if_neg h, if_neg this]; rfl

/-- The pair's query row, in its head's half of the columns. -/
theorem qbd_at (hv : IsFirst v300) (r : Fin 24) (h : Fin 2) (j : Fin 128) :
    qbd arg15 v300 X15 k (ix2 r (⟨128 * h.val + j.val, by omega⟩ : Fin 256))
      = if hd r = h then (arg15.view.read (Elt Ideal) X15 (ix2 (⟨24 * k.val + r.val, by have := trips_lt k; omega⟩ : Fin 192) j) : EReal) else 0 := by
  have hq : ∀ j : Fin 128, (View.readAt (Elt Ideal) arg15.view (Rect.unit (s := S192x128) (k0_off2 k) S24x128.size (k0_off2_inb k)).toLoadRect X15 (ix2 r j) : EReal)
      = arg15.view.read (Elt Ideal) X15 (ix2 (⟨24 * k.val + r.val, by have := trips_lt k; omega⟩ : Fin 192) j) := fun j => by
    rw [View.readAt_eq_ld]
    exact ld2 _ _ _ _ (k0_off2_eq k) _ _ _ _ (by simp) (by simp)
  match h with
  | 0 =>
    pointwise [qbd]
    exact (first_sel hv r j _ _).trans (if_congr Iff.rfl (hq j) rfl)
  | 1 =>
    pointwise [qbd]
    refine (first_sel hv r j _ _).trans ?_
    generalize hd r = z
    match z with
    | 0 => rfl
    | 1 => exact hq j

/-- The masked scores of a block are the scores of its tokens. -/
theorem sBlk_at (hv : IsFirst v300) (ht : IsTok v344) (b : Fin 11) (r : Fin 24) (c : Fin 128) :
    sBlk arg5 arg6 arg7 arg15 v1 v300 v344 X5 X6 X7 X15 k b.val (ix2 r c)
      = scoreC (fun d => arg15.view.read (Elt Ideal) X15 (ix2 (⟨24 * k.val + r.val, by have := trips_lt k; omega⟩ : Fin 192) d))
          (fun i d => (arg5.view.read (Elt Ideal) X5 (ix4 (0 : Fin 1) (⟨2 * k.val + (hd r).val, by have := trips_lt k; omega⟩ : Fin 16) i d) : BitVec 8))
          (fun i d => arg6.view.read (Elt Ideal) X6 (ix4 (0 : Fin 1) i (⟨2 * k.val + (hd r).val, by have := trips_lt k; omega⟩ : Fin 16) d))
          (fun i d => arg7.view.read (Elt Ideal) X7 (ix4 (0 : Fin 1) i (⟨2 * k.val + (hd r).val, by have := trips_lt k; omega⟩ : Fin 16) d))
          v1 ⟨128 * b.val + tok c, by have := tok_lt c; omega⟩ := by
  pointwise [sBlk]
  rw [ht c]
  have hs : ∑ x : Fin 256, qbd arg15 v300 X15 k (ix2 r x) * keyTile arg5 arg6 arg7 X5 X6 X7 k b.val (ix2 c x)
      = ∑ d : Fin 128, qbd arg15 v300 X15 k (ix2 r (⟨128 * (hd r).val + d.val, by omega⟩ : Fin 256)) * keyTile arg5 arg6 arg7 X5 X6 X7 k b.val (ix2 c (⟨128 * (hd r).val + d.val, by omega⟩ : Fin 256)) := by
    refine (Fintype.sum_of_injective (fun d : Fin 128 => (⟨128 * (hd r).val + d.val, by omega⟩ : Fin 256)) ?_ _ _ ?_ (fun _ => rfl)).symm
    · intro d e h
      have := congrArg Fin.val h
      exact Fin.ext (by dsimp only at this; omega)
    · intro x hx
      have hx' : x = ⟨128 * (⟨x.val / 128, by omega⟩ : Fin 2).val + (⟨x.val % 128, by omega⟩ : Fin 128).val, by dsimp only; omega⟩ := Fin.ext (by dsimp only; omega)
      rw [hx', qbd_at arg15 v300 X15 k hv, if_neg, zero_mul]
      intro e
      refine hx ⟨⟨x.val % 128, by omega⟩, Fin.ext ?_⟩
      show 128 * (hd r).val + x.val % 128 = x.val
      rw [e]; dsimp only; omega
  have he : ∀ d : Fin 128, qbd arg15 v300 X15 k (ix2 r (⟨128 * (hd r).val + d.val, by omega⟩ : Fin 256)) * keyTile arg5 arg6 arg7 X5 X6 X7 k b.val (ix2 c (⟨128 * (hd r).val + d.val, by omega⟩ : Fin 256))
      = (arg15.view.read (Elt Ideal) X15 (ix2 (⟨24 * k.val + r.val, by have := trips_lt k; omega⟩ : Fin 192) d) : EReal)
        * (code (arg5.view.read (Elt Ideal) X5 (ix4 (0 : Fin 1) (⟨2 * k.val + (hd r).val, by have := trips_lt k; omega⟩ : Fin 16) (⟨(128 * b.val + tok c) / 4, by have := tok_lt c; omega⟩ : Fin 352) d) : BitVec 8) ((128 * b.val + tok c) % 4)
          * (arg6.view.read (Elt Ideal) X6 (ix4 (0 : Fin 1) (⟨(128 * b.val + tok c) / 32, by have := tok_lt c; omega⟩ : Fin 44) (⟨2 * k.val + (hd r).val, by have := trips_lt k; omega⟩ : Fin 16) d) : EReal)
          + (arg7.view.read (Elt Ideal) X7 (ix4 (0 : Fin 1) (⟨(128 * b.val + tok c) / 32, by have := tok_lt c; omega⟩ : Fin 44) (⟨2 * k.val + (hd r).val, by have := trips_lt k; omega⟩ : Fin 16) d) : EReal)) := fun d => by
    rw [qbd_at arg15 v300 X15 k hv, if_pos rfl, keyTile_at]
    have e1 : (128 * b.val + tok c) / 4 = 32 * b.val + c.val % 64 / 2 := by unfold tok; omega
    have e2 : (128 * b.val + tok c) % 4 = 2 * (c.val % 64 % 2) + c.val / 64 := by unfold tok; omega
    have e3 : (128 * b.val + tok c) / 32 = 4 * b.val + c.val % 64 / 16 := by unfold tok; omega
    simp only [e1, e2, e3]
  rw [hs, Finset.sum_congr rfl fun d _ => he d]
  unfold scoreC
  have hw : IntOp.addi (BitVec.ofNat 32 (tok c)) (BitVec.ofNat 32 (128 * b.val)) = BitVec.ofNat 32 (128 * b.val + tok c) := by
    rw [Nat.add_comm]; exact (BitVec.ofNat_add _ _).symm
  rw [hw]
  have hm : (Named.named κ "mask" 4048155338#32 : Ideal .f32) = (⊥ : EReal) := IdealRules.named_const.ideal_named_scalar _ _ _ _ rfl
  rw [hm]
  show Scalar.select (BitVec.ofBool ((BitVec.ofNat 32 (128 * b.val + tok c)).slt v1)) _ _ = _
  cases (BitVec.ofNat 32 (128 * b.val + tok c)).slt v1 <;> rfl

theorem sup_last {n : Nat} (f : Fin (n + 1) → EReal) : Finset.univ.sup f = (Finset.univ.sup fun i : Fin n => f i.castSucc) ⊔ f (Fin.last n) := by
  refine le_antisymm (Finset.sup_le fun i _ => ?_) (sup_le (Finset.sup_le fun i _ => Finset.le_sup (Finset.mem_univ _)) (Finset.le_sup (Finset.mem_univ _)))
  rcases Fin.eq_castSucc_or_eq_last i with ⟨j, rfl⟩ | rfl
  · exact le_sup_of_le_left (Finset.le_sup (f := fun i : Fin n => f i.castSucc) (Finset.mem_univ j))
  · exact le_sup_right

theorem rowMax_at (s : FVec Ideal S24x128 .f32) (r : Fin 24) (z : Fin 1) : rowMax s (ix2 r z) = Finset.univ.sup fun c : Fin 128 => (s (ix2 r c) : EReal) := by
  rw [← sup_eq_fold]
  pointwise [rowMax]

theorem rowSum_at (s : FVec Ideal S24x128 .f32) (r : Fin 24) (z : Fin 1) : rowSum s (ix2 r z) = ∑ c : Fin 128, (s (ix2 r c) : EReal) := by
  pointwise [rowSum]

theorem wgt_at (mx : FVec Ideal S24x1 .f32) (s : FVec Ideal S24x128 .f32) (r : Fin 24) (c : Fin 128) :
    wgt mx s (ix2 r c) = Ideal.exp ((s (ix2 r c) : EReal) - mx (ix2 r (0 : Fin 1))) := by
  pointwise [wgt]

theorem mAcc_at (sn : FVec Ideal S24x128 .f32) (s : Nat → FVec Ideal S24x128 .f32) (n : Nat) (r : Fin 24) :
    mAcc sn s n (ix2 r (0 : Fin 1)) = (Finset.univ.sup fun c : Fin 128 => (sn (ix2 r c) : EReal)) ⊔ (Finset.univ : Finset (Fin n)).sup (fun b => Finset.univ.sup fun c : Fin 128 => (s b.val (ix2 r c) : EReal)) := by
  induction n with
  | zero => rw [show (Finset.univ : Finset (Fin 0)) = ∅ from rfl, Finset.sup_empty, sup_bot_eq]; exact rowMax_at sn r 0
  | succ n ih =>
    have : mAcc sn s (n + 1) (ix2 r (0 : Fin 1)) = max (mAcc sn s n (ix2 r (0 : Fin 1)) : EReal) (rowMax (s n) (ix2 r (0 : Fin 1))) := by pointwise [mAcc]
    rw [this, ih, rowMax_at, sup_last (n := n), ← sup_assoc]; rfl

theorem lAcc_at (en : FVec Ideal S24x128 .f32) (e : Nat → FVec Ideal S24x128 .f32) (n : Nat) (r : Fin 24) :
    lAcc en e n (ix2 r (0 : Fin 1)) = ∑ c : Fin 128, (en (ix2 r c) : EReal) + ∑ b : Fin n, ∑ c : Fin 128, (e b.val (ix2 r c) : EReal) := by
  induction n with
  | zero => rw [Fin.sum_univ_zero, add_zero]; exact rowSum_at en r 0
  | succ n ih =>
    have : lAcc en e (n + 1) (ix2 r (0 : Fin 1)) = (lAcc en e n (ix2 r (0 : Fin 1)) : EReal) + rowSum (e n) (ix2 r (0 : Fin 1)) := by pointwise [lAcc]
    rw [this, ih, rowSum_at, Fin.sum_univ_castSucc (n := n), add_assoc]; rfl

theorem zAcc_at (zn : FVec Ideal S24x1 .f32) (e vz : Nat → FVec Ideal S24x128 .f32) (n : Nat) (r : Fin 24) :
    zAcc zn e vz n (ix2 r (0 : Fin 1)) = (zn (ix2 r (0 : Fin 1)) : EReal) + ∑ b : Fin n, ∑ c : Fin 128, (e b.val (ix2 r c) : EReal) * vz b.val (ix2 r c) := by
  induction n with
  | zero => rw [Fin.sum_univ_zero, add_zero]; rfl
  | succ n ih =>
    have : zAcc zn e vz (n + 1) (ix2 r (0 : Fin 1)) = (zAcc zn e vz n (ix2 r (0 : Fin 1)) : EReal) + rowSum (mulf (e n) (vz n)) (ix2 r (0 : Fin 1)) := by pointwise [zAcc]
    rw [this, ih, rowSum_at, Fin.sum_univ_castSucc (n := n), add_assoc]; rfl

theorem oAcc_at (on : FVec Ideal S24x256 .f32) (e vs : Nat → FVec Ideal S24x128 .f32) (vt : Nat → FVec Ideal S256x128 .bf16) (n : Nat) (r : Fin 24) (z : Fin 256) :
    oAcc on e vs vt n (ix2 r z) = (on (ix2 r z) : EReal) + ∑ b : Fin n, ∑ c : Fin 128, (e b.val (ix2 r c) : EReal) * vs b.val (ix2 r c) * vt b.val (ix2 z c) := by
  induction n with
  | zero => rw [Fin.sum_univ_zero, add_zero]; rfl
  | succ n ih =>
    have : oAcc on e vs vt (n + 1) (ix2 r z) = (oAcc on e vs vt n (ix2 r z) : EReal) + ∑ x : Fin 128, (e n (ix2 r x) : EReal) * vs n (ix2 r x) * vt n (ix2 z x) := by pointwise [oAcc]
    rw [this, ih, Fin.sum_univ_castSucc (n := n), add_assoc]; rfl

/-- The row of value scales (or zeros) of a block is that of the row's head. -/
theorem vRows_at (hv : IsFirst v300) (b : Fin 11) (r : Fin 24) (c : Fin 128) :
    vRows v300 k arg17 X17 b.val (ix2 r c)
      = (arg17.view.read (Elt Ideal) X17 (ix3 b (⟨2 * k.val + (hd r).val, by have := trips_lt k; omega⟩ : Fin 16) c) : EReal) := by
  have hq : ∀ h : Fin 2, (View.readAt (Elt Ideal) arg17.view (Rect.unit (s := S11x16x128) (offVS k h b.val) S1x1x128.size (offVS_inb k h b.val)).toLoadRect X17 (ix3 (0 : Fin 1) (0 : Fin 1) c) : EReal)
      = arg17.view.read (Elt Ideal) X17 (ix3 b (⟨2 * k.val + h.val, by have := trips_lt k; omega⟩ : Fin 16) c) := fun h => by
    rw [View.readAt_eq_ld]
    exact ld3 _ _ _ _ (offVS_eq k h b) _ _ _ _ _ _ (by simp) (by simp) (by simp)
  have hr : ∀ r' : Fin 24, hd r' = hd r → (Scalar.select (v300 (ix2 r' c))
        (View.readAt (Elt Ideal) arg17.view (Rect.unit (s := S11x16x128) (offVS k 0 b.val) S1x1x128.size (offVS_inb k 0 b.val)).toLoadRect X17 (ix3 (0 : Fin 1) (0 : Fin 1) c) : EReal)
        (View.readAt (Elt Ideal) arg17.view (Rect.unit (s := S11x16x128) (offVS k 1 b.val) S1x1x128.size (offVS_inb k 1 b.val)).toLoadRect X17 (ix3 (0 : Fin 1) (0 : Fin 1) c) : EReal))
      = arg17.view.read (Elt Ideal) X17 (ix3 b (⟨2 * k.val + (hd r).val, by have := trips_lt k; omega⟩ : Fin 16) c) := fun r' e => by
    rw [first_sel hv, e, hq 0, hq 1]
    have hh : ∀ (z : Fin 2) (f : Fin 2 → EReal), (if z = 0 then f 0 else f 1) = f z := fun z f => match z with
      | 0 => rfl
      | 1 => rfl
    exact hh (hd r) fun h => arg17.view.read (Elt Ideal) X17 (ix3 b (⟨2 * k.val + h.val, by have := trips_lt k; omega⟩ : Fin 16) c)
  pointwise [vRows]
  split
  · exact hr _ rfl
  split
  · exact hr _ (Fin.ext (by show (r.val - 8) % 8 / 4 = r.val % 8 / 4; omega))
  · exact hr _ (Fin.ext (by show (r.val - 8 - 8) % 8 / 4 = r.val % 8 / 4; omega))

theorem perm_word (c : Fin 128) : (Scalar.select (IntOp.cmpi CmpIPredicate.slt (BitVec.ofNat 32 (tok c)) 0#32) (IntOp.addi (BitVec.ofNat 32 (tok c)) 128#32) (BitVec.ofNat 32 (tok c))).toNat % 128 = tok c := by
  have ht := tok_lt c
  have : (IntOp.cmpi CmpIPredicate.slt (BitVec.ofNat 32 (tok c)) 0#32) = 0#1 := by
    generalize tok c = n at ht
    interval_cases n <;> rfl
  rw [this]
  show (BitVec.ofNat 32 (tok c)).toNat % 128 = tok c
  rw [BitVec.toNat_ofNat]; omega

/-- The permuted words of a head's packed values hold, at lane `c`, the bytes of token `128 b + tok c`. -/
theorem valWords_holds (ht : IsTok v344) (h : Fin 2) (b : Fin 11) :
    Holds (valWords (F := Ideal) arg8 v344 X8 k h b.val) (fun i c => (arg8.view.read (Elt Ideal) X8
      (ix4 (0 : Fin 1) (⟨2 * k.val + h.val, by have := trips_lt k; omega⟩ : Fin 16) i (⟨128 * b.val + tok c, by have := tok_lt c; omega⟩ : Fin 1408)) : BitVec 8)) := fun r c q => by
  have e : valWords (F := Ideal) arg8 v344 X8 k h b.val (ix2 r c)
      = words (F := Ideal) (View.readAt (Elt Ideal) arg8.view (Rect.unit (s := S1x16x32x1408) (offVW k h b.val) S1x1x32x128.size (offVW_inb k h b.val)).toLoadRect X8) (ix2 r (⟨tok c, tok_lt c⟩ : Fin 128)) := by
    have hp : (perm8 v344 (ix2 r c)).toNat % 128 = tok c := by
      have : perm8 v344 (ix2 r c) = Scalar.select (IntOp.cmpi CmpIPredicate.slt (v344 (ix2 (0 : Fin 1) c)) 0#32) (IntOp.addi (v344 (ix2 (0 : Fin 1) c)) 128#32) (v344 (ix2 (0 : Fin 1) c)) := by pointwise [perm8]
      rw [this, ht c]; exact perm_word c
    pointwise [valWords]
    exact congrArg _ (congrArg (ix2 r) (Fin.ext hp))
  rw [e]
  refine (words_holds _ r ⟨tok c, tok_lt c⟩ q).trans ?_
  refine congrArg (fun z : BitVec 8 => z.getLsbD (q.val % 8)) ?_
  rw [View.readAt_eq_ld]
  exact ld4 _ _ _ _ (offVW_eq k h b) _ _ _ _ _ _ _ _ (by simp) (by simp) (by simp) (by simp)

/-- Row `128 h + l` of the value tile is channel `tok l` of head `2k+h`. -/
theorem valTile_at (ht : IsTok v344) (b : Fin 11) (h : Fin 2) (l c : Fin 128) :
    valTile (F := Ideal) arg8 v344 X8 k b.val (ix2 (⟨128 * h.val + l.val, by omega⟩ : Fin 256) c)
      = code (arg8.view.read (Elt Ideal) X8 (ix4 (0 : Fin 1) (⟨2 * k.val + h.val, by have := trips_lt k; omega⟩ : Fin 16) (⟨l.val % 64 / 2, by omega⟩ : Fin 32) (⟨128 * b.val + tok c, by have := tok_lt c; omega⟩ : Fin 1408)) : BitVec 8)
          (2 * (l.val % 64 % 2) + l.val / 64) := by
  have hf := fun h => fields_at _ _ (valWords_holds arg8 v344 X8 k ht h b)
  have ho := fun h => oddFields_at _ _ (valWords_holds arg8 v344 X8 k ht h b)
  have key : ∀ h : Fin 2, (if l.val < 64 then fields (F := Ideal) (valWords (F := Ideal) arg8 v344 X8 k h b.val) (ix2 (⟨l.val % 64, by omega⟩ : Fin 64) c) else fields (F := Ideal) (oddWords (valWords (F := Ideal) arg8 v344 X8 k h b.val)) (ix2 (⟨l.val % 64, by omega⟩ : Fin 64) c))
      = code (arg8.view.read (Elt Ideal) X8 (ix4 (0 : Fin 1) (⟨2 * k.val + h.val, by have := trips_lt k; omega⟩ : Fin 16) (⟨l.val % 64 / 2, by omega⟩ : Fin 32) (⟨128 * b.val + tok c, by have := tok_lt c; omega⟩ : Fin 1408)) : BitVec 8)
          (2 * (l.val % 64 % 2) + l.val / 64) := fun h => by
    rw [hf, ho]
    split_ifs with hl
    · rw [Nat.div_eq_of_lt hl, Nat.add_zero]
    · rw [show l.val / 64 = 1 by omega]
  rw [← key h]
  match h with
  | 0 =>
    pointwise [valTile]
    by_cases hl : l.val < 64
    · rw [dif_pos hl, if_pos hl]
      exact congrArg _ (congrArg (fun z : Fin 64 => ix2 z c) (Fin.ext (by show l.val = l.val % 64; omega)))
    · rw [dif_neg hl, if_neg hl, dif_pos (by omega)]
      exact congrArg _ (congrArg (fun z : Fin 64 => ix2 z c) (Fin.ext (by show l.val - 64 = l.val % 64; omega)))
  | 1 =>
    pointwise [valTile]
    rw [dif_neg (by omega), dif_neg (by omega)]
    by_cases hl : l.val < 64
    · rw [dif_pos (by omega), if_pos hl]
      exact congrArg _ (congrArg (fun z : Fin 64 => ix2 z c) (Fin.ext (by show 128 + l.val - 64 - 64 = l.val % 64; omega)))
    · rw [dif_neg (by omega), if_neg hl]
      exact congrArg _ (congrArg (fun z : Fin 64 => ix2 z c) (Fin.ext (by show 128 + l.val - 64 - 64 - 64 = l.val % 64; omega)))

/-- The new tokens' part: the 48 columns' weighted codes of the lane's channel. -/
theorem oNew_at (ht : IsTok v344) (en : FVec Ideal S24x128 .f32) (r : Fin 24) (h : Fin 2) (l : Fin 128) :
    oNew v24 v92 v344 en (ix2 r (⟨128 * h.val + l.val, by omega⟩ : Fin 256))
      = ∑ x : Fin 48, (en (ix2 r (⟨x.val, by omega⟩ : Fin 128)) : EReal) * v92 (ix2 (0 : Fin 1) (⟨x.val, by omega⟩ : Fin 128)) * v24 (ix2 x (⟨tok l, tok_lt l⟩ : Fin 128)) := by
  have hp : (Scalar.select (IntOp.cmpi CmpIPredicate.slt (v344 (ix2 (0 : Fin 1) l)) 0#32) (IntOp.addi (v344 (ix2 (0 : Fin 1) l)) 128#32) (v344 (ix2 (0 : Fin 1) l))).toNat % 128 = tok l := by
    rw [ht l]; exact perm_word l
  match h with
  | 0 =>
    pointwise [oNew]
    simp only [mul_zero, Finset.sum_const_zero, add_zero]
    exact Finset.sum_congr rfl fun x _ => congrArg _ (congrArg v24 (congrArg (ix2 x) (Fin.ext hp)))
  | 1 =>
    pointwise [oNew]
    simp only [mul_zero, Finset.sum_const_zero, add_zero]
    exact Finset.sum_congr rfl fun x _ => congrArg _ (congrArg v24 (congrArg (ix2 x) (Fin.ext hp)))

theorem pair_lt (k : Fin k0_t1_loop.trips) (h : Fin 2) : 2 * k.val + h.val < 16 := by
  have := trips_lt k; omega

/-- A row of the trip's result is the attention of its query position and head, its lane `z` the channel `tok z`. -/
theorem outRows_at (hv : IsFirst v300) (ht : IsTok v344) (r : Fin 24) (z : Fin 128) (g : Fin 16) (hg : g.val = 2 * k.val + (hd r).val)
    (sN vsN vzN cN : Fin 3 → EReal) (vs vz : Fin 1408 → EReal)
    (hSN : ∀ c : Fin 128, ¬ (c.val % 16 = g.val ∧ c.val / 16 < 3) → (arg16.view.read (Elt Ideal) X16 (ix2 (⟨24 * k.val + r.val, by have := trips_lt k; omega⟩ : Fin 192) c) : EReal) = ⊥)
    (hSN' : ∀ t : Fin 3, (arg16.view.read (Elt Ideal) X16 (ix2 (⟨24 * k.val + r.val, by have := trips_lt k; omega⟩ : Fin 192) (⟨16 * t.val + g.val, by omega⟩ : Fin 128)) : EReal) = sN t)
    (hVSN : ∀ t : Fin 3, (v92 (ix2 (0 : Fin 1) (⟨16 * t.val + g.val, by omega⟩ : Fin 128)) : EReal) = vsN t)
    (hVZN : ∀ t : Fin 3, (v98 (ix2 (0 : Fin 1) (⟨16 * t.val + g.val, by omega⟩ : Fin 128)) : EReal) = vzN t)
    (hCN : ∀ t : Fin 3, (v24 (ix2 (⟨16 * t.val + g.val, by omega⟩ : Fin 48) (⟨tok z, tok_lt z⟩ : Fin 128)) : EReal) = cN t)
    (hVS : ∀ (b : Fin 11) (c : Fin 128), (arg17.view.read (Elt Ideal) X17 (ix3 b g c) : EReal) = vs ⟨128 * b.val + tok c, by have := tok_lt c; omega⟩)
    (hVZ : ∀ (b : Fin 11) (c : Fin 128), (arg18.view.read (Elt Ideal) X18 (ix3 b g c) : EReal) = vz ⟨128 * b.val + tok c, by have := tok_lt c; omega⟩) :
    outRows arg5 arg6 arg7 arg8 arg15 arg16 arg17 arg18 v1 v24 v92 v98 v300 v344 X5 X6 X7 X8 X15 X16 X17 X18 k (ix2 r z)
      = attnLate sN vsN vzN cN
          (scoreC (fun d => arg15.view.read (Elt Ideal) X15 (ix2 (⟨24 * k.val + r.val, by have := trips_lt k; omega⟩ : Fin 192) d))
            (fun i d => (arg5.view.read (Elt Ideal) X5 (ix4 (0 : Fin 1) g i d) : BitVec 8))
            (fun i d => arg6.view.read (Elt Ideal) X6 (ix4 (0 : Fin 1) i g d))
            (fun i d => arg7.view.read (Elt Ideal) X7 (ix4 (0 : Fin 1) i g d)) v1)
          vs vz (fun t => code (arg8.view.read (Elt Ideal) X8 (ix4 (0 : Fin 1) g (⟨z.val % 64 / 2, by omega⟩ : Fin 32) t) : BitVec 8) (2 * (z.val % 64 % 2) + z.val / 64)) := by
  obtain rfl : g = ⟨2 * k.val + (hd r).val, pair_lt k (hd r)⟩ := Fin.ext hg
  have hsn : ∀ c : Fin 128, (sNew arg16 X16 k (ix2 r c) : EReal) = arg16.view.read (Elt Ideal) X16 (ix2 (⟨24 * k.val + r.val, by have := trips_lt k; omega⟩ : Fin 192) c) := fun c => by
    unfold sNew
    rw [View.readAt_eq_ld]
    exact ld2 _ _ _ _ (k0_off2_eq k) _ _ _ _ (by simp) (by simp)
  have hval : ∀ (b : Fin 11) (c : Fin 128), (valTile (F := Ideal) arg8 v344 X8 k b.val (ix2 (⟨128 * (hd r).val + z.val, by omega⟩ : Fin 256) c) : EReal) = _ := fun b c => valTile_at arg8 v344 X8 k ht b (hd r) z c
  rw [← attn_of_lanes ⟨2 * k.val + (hd r).val, by have := trips_lt k; omega⟩
    (fun c => sNew arg16 X16 k (ix2 r c)) (fun c => v92 (ix2 (0 : Fin 1) c)) (fun c => v98 (ix2 (0 : Fin 1) c))
    (fun b c => sBlk arg5 arg6 arg7 arg15 v1 v300 v344 X5 X6 X7 X15 k b.val (ix2 r c))
    (fun b c => vRows v300 k arg17 X17 b.val (ix2 r c)) (fun b c => vRows v300 k arg18 X18 b.val (ix2 r c))
    (fun b c => valTile (F := Ideal) arg8 v344 X8 k b.val (ix2 (⟨128 * (hd r).val + z.val, by omega⟩ : Fin 256) c))
    (fun x => v24 (ix2 x (⟨tok z, tok_lt z⟩ : Fin 128))) sN vsN vzN cN _ vs vz _
    (mAcc (sNew arg16 X16 k) (sBlk arg5 arg6 arg7 arg15 v1 v300 v344 X5 X6 X7 X15 k) 11 (ix2 r (0 : Fin 1)))
    (mAcc_at _ _ 11 r) (fun c hc => (hsn c).trans (hSN c hc)) (fun t => (hsn _).trans (hSN' t)) hVSN hVZN hCN
    (fun b c => sBlk_at arg5 arg6 arg7 arg15 v1 v300 v344 X5 X6 X7 X15 k hv ht b r c)
    (fun b c => (vRows_at arg17 v300 X17 k hv b r c).trans (hVS b c)) (fun b c => (vRows_at arg18 v300 X18 k hv b r c).trans (hVZ b c)) hval]
  have ho : ∀ o : FVec Ideal S24x256 .f32, (Scalar.select (v300 (ix2 r z)) (o (ix2 r (⟨z.val, by omega⟩ : Fin 256))) (o (ix2 r (⟨128 + z.val, by omega⟩ : Fin 256))) : EReal)
      = o (ix2 r (⟨128 * (hd r).val + z.val, by omega⟩ : Fin 256)) := fun o => by
    refine (first_sel hv r z _ _).trans ?_
    have hh : ∀ y : Fin 2, ((if y = 0 then o (ix2 r (⟨z.val, by omega⟩ : Fin 256)) else o (ix2 r (⟨128 + z.val, by omega⟩ : Fin 256))) : EReal) = o (ix2 r (⟨128 * y.val + z.val, by omega⟩ : Fin 256)) := fun y => match y with
      | 0 => congrArg o (congrArg (ix2 r) (Fin.ext (by simp)))
      | 1 => rfl
    exact hh (hd r)
  have hzn : ∀ en : FVec Ideal S24x128 .f32, (rowSum (mulf en (broadcastTo S24x128 v98 broadcasts_S1x128_S24x128)) (ix2 r (0 : Fin 1)) : EReal) = ∑ c : Fin 128, (en (ix2 r c) : EReal) * v98 (ix2 (0 : Fin 1) c) := fun en => by
    rw [rowSum_at]
    refine Finset.sum_congr rfl fun c _ => ?_
    pointwise
  pointwise [outRows]
  rw [ho, oAcc_at, zAcc_at, lAcc_at, oNew_at _ _ _ ht, hzn]
  simp only [wgt_at]

end Reads

end Cert.KernelIdeal.Trip

end
-- ==== Proof.Quant.lean ====
/-
  The two-bit quantiser on extended reals: a row's zero and scale, its codes, and the byte that holds four of them.
-/
module

public import Idealize.ShloMosaic.Lib.Pointwise
public import Idealize.ShloMosaic.Lib.IdealHost
public import proofs.«01_k».proof.Proof.Spec

@[expose] public section

set_option maxRecDepth 16384

noncomputable section

namespace Cert.Spec

open Idealize.ShloMosaic

/-- A row's zero: its least element. -/
def mnOf (v : Fin 128 → EReal) : EReal := Finset.univ.fold min (Ideal.ofBits .f32 2139095040#32) v

/-- A row's greatest element. -/
def mxOf (v : Fin 128 → EReal) : EReal := Finset.univ.fold max (Ideal.ofBits .f32 4286578688#32) v

/-- A row's scale. -/
def scOf (v : Fin 128 → EReal) : EReal := if mxOf v = mnOf v then 1 else Ideal.div (mxOf v - mnOf v) (Ideal.ofBits .f32 1077936128#32)

/-- A row's code at `d`, as a number. -/
def qz (v : Fin 128 → EReal) (d : Fin 128) : EReal :=
  min (Ideal.ofBits .f32 1077936128#32) (max 0 (Ideal.liftRound Ideal.roundHalfEven (Ideal.div (v d - mnOf v) (scOf v))))

theorem three : Ideal.ofBits .f32 1077936128#32 = ((3 : ℝ) : EReal) := by
  simp [Ideal.ofBits, Ideal.ieee, -EReal.coe_mul]; norm_num

theorem scl_real : ∃ c : ℝ, scl = (c : EReal) := by
  unfold scl
  simp [Ideal.ofBits, Ideal.ieee, -EReal.coe_mul]

/-- A code is one of 0, 1, 2, 3. -/
theorem qz_nat (v : Fin 128 → EReal) (d : Fin 128) : ∃ n : ℕ, n < 4 ∧ qz v d = ((n : ℝ) : EReal) := by
  unfold qz
  rw [three]
  generalize Ideal.div (v d - mnOf v) (scOf v) = y
  induction y using EReal.rec with
  | bot => exact ⟨0, by norm_num, by rw [show Ideal.liftRound Ideal.roundHalfEven ⊥ = ⊥ from rfl, max_eq_left bot_le]; norm_num⟩
  | top => exact ⟨3, by norm_num, by rw [show Ideal.liftRound Ideal.roundHalfEven ⊤ = ⊤ from rfl, max_eq_right le_top, min_eq_left le_top]; norm_num⟩
  | coe r =>
    rw [show Ideal.liftRound Ideal.roundHalfEven (r : EReal) = (((Ideal.roundHalfEven r : ℤ) : ℝ) : EReal) from rfl]
    generalize Ideal.roundHalfEven r = k
    refine ⟨(min 3 (max 0 k)).toNat, by omega, ?_⟩
    have h0 : (0 : EReal) = ((0 : ℝ) : EReal) := rfl
    rw [h0, ← EReal.coe_strictMono.monotone.map_max, ← EReal.coe_strictMono.monotone.map_min]
    congr 1
    have : (((min 3 (max 0 k)).toNat : ℤ) : ℝ) = min 3 (max 0 (k : ℝ)) := by
      rw [Int.toNat_of_nonneg (by omega)]; push_cast; rfl
    rw [← this]; norm_cast

/-- A row's code at `d`, as a natural number. -/
def qn (v : Fin 128 → EReal) (d : Fin 128) : ℕ := (qz_nat v d).choose

theorem qn_lt (v : Fin 128 → EReal) (d : Fin 128) : qn v d < 4 := (qz_nat v d).choose_spec.1

theorem qz_eq (v : Fin 128 → EReal) (d : Fin 128) : qz v d = ((qn v d : ℝ) : EReal) := (qz_nat v d).choose_spec.2

theorem fptosi_nat (n : ℕ) (h : n < 2 ^ 31) : Ideal.fptosi 32 ((n : ℝ) : EReal) = BitVec.ofNat 32 n := by
  unfold Ideal.fptosi
  rw [Ideal.toIntClamped_coe, if_pos (Nat.cast_nonneg n), Int.floor_natCast, ← BitVec.ofInt_natCast]
  congr 1
  norm_num at *
  omega

/-- The byte of the codes of columns `4 j` to `4 j + 3`. -/
def byte (v : Fin 128 → EReal) (j : Fin 32) : BitVec 8 :=
  (BitVec.ofNat 32 (qn v ⟨4 * j.val, by omega⟩ + 4 * qn v ⟨4 * j.val + 1, by omega⟩ + 16 * qn v ⟨4 * j.val + 2, by omega⟩ + 64 * qn v ⟨4 * j.val + 3, by omega⟩)).setWidth 8

/-- The byte is the four codes shifted into place. -/
theorem byte_or (a b c d : Fin 4) : (BitVec.ofNat 32 (a.val + 4 * b.val + 16 * c.val + 64 * d.val)).setWidth 8
    = (BitVec.ofNat 32 a.val ||| (BitVec.ofNat 32 b.val <<< 2) ||| (BitVec.ofNat 32 c.val <<< 4) ||| (BitVec.ofNat 32 d.val <<< 6)).setWidth 8 := by
  revert a b c d; decide +kernel

theorem byte_fields (a b c d : Fin 4) :
    ((((BitVec.ofNat 32 (a.val + 4 * b.val + 16 * c.val + 64 * d.val)).setWidth 8).setWidth 32 >>> 0) &&& 3#32).toInt = (a.val : ℤ)
    ∧ ((((BitVec.ofNat 32 (a.val + 4 * b.val + 16 * c.val + 64 * d.val)).setWidth 8).setWidth 32 >>> 2) &&& 3#32).toInt = (b.val : ℤ)
    ∧ ((((BitVec.ofNat 32 (a.val + 4 * b.val + 16 * c.val + 64 * d.val)).setWidth 8).setWidth 32 >>> 4) &&& 3#32).toInt = (c.val : ℤ)
    ∧ ((((BitVec.ofNat 32 (a.val + 4 * b.val + 16 * c.val + 64 * d.val)).setWidth 8).setWidth 32 >>> 6) &&& 3#32).toInt = (d.val : ℤ) := by
  revert a b c d; decide +kernel

theorem byte_field (q : Fin 4 → Fin 4) (f : Fin 4) :
    ((((BitVec.ofNat 32 ((q 0).val + 4 * (q 1).val + 16 * (q 2).val + 64 * (q 3).val)).setWidth 8).setWidth 32 >>> (2 * f.val)) &&& 3#32).toInt = ((q f).val : ℤ) := by
  have h := byte_fields (q 0) (q 1) (q 2) (q 3)
  match f with
  | 0 => exact h.1
  | 1 => exact h.2.1
  | 2 => exact h.2.2.1
  | 3 => exact h.2.2.2

/-- Field `d % 4` of byte `d / 4` is the code at `d`. -/
theorem code_byte (v : Fin 128 → EReal) (d : Fin 128) : code (byte v ⟨d.val / 4, by omega⟩) (d.val % 4) = qz v d := by
  have h := byte_field (fun f => ⟨qn v ⟨4 * (d.val / 4) + f.val, by omega⟩, qn_lt v _⟩) ⟨d.val % 4, by omega⟩
  have e : (⟨4 * (d.val / 4) + d.val % 4, by omega⟩ : Fin 128) = d := Fin.ext (by dsimp only; omega)
  rw [qz_eq]
  refine (congrArg (fun z : ℤ => ((z : ℝ) : EReal)) h).trans ?_
  dsimp only
  rw [e]; norm_cast

/-- A sum over the 128 columns of which only the four of byte `j` count. -/
theorem sum_four (j : Fin 32) (g : Fin 128 → EReal) (c : ℕ → EReal) :
    ∑ x : Fin 128, g x * (if x.val / 4 = j.val then c (x.val % 4) else 0)
      = g ⟨4 * j.val, by omega⟩ * c 0 + g ⟨4 * j.val + 1, by omega⟩ * c 1 + g ⟨4 * j.val + 2, by omega⟩ * c 2 + g ⟨4 * j.val + 3, by omega⟩ * c 3 := by
  have h : ∑ x : Fin 128, g x * (if x.val / 4 = j.val then c (x.val % 4) else 0) = ∑ f : Fin 4, g ⟨4 * j.val + f.val, by omega⟩ * c f.val := by
    refine (Fintype.sum_of_injective (fun f : Fin 4 => (⟨4 * j.val + f.val, by omega⟩ : Fin 128)) ?_ _ _ ?_ ?_).symm
    · intro a b h
      have := congrArg Fin.val h
      exact Fin.ext (by dsimp only at this; omega)
    · intro x hx
      rw [if_neg, mul_zero]
      intro e
      exact hx ⟨⟨x.val % 4, by omega⟩, Fin.ext (by dsimp only; omega)⟩
    · intro f
      dsimp only
      rw [if_pos (by omega), show (4 * j.val + f.val) % 4 = f.val by omega]
  rw [h, Fin.sum_univ_four]
  rfl

/-- The codes of a byte, weighted by their place, sum to the byte. -/
theorem packed_byte (v : Fin 128 → EReal) (j : Fin 32) :
    (Ideal.fptosi 32 (∑ x : Fin 128, qz v x * (if x.val / 4 = j.val then (((4 ^ (x.val % 4) : ℕ) : ℝ) : EReal) else 0))).setWidth 8 = byte v j := by
  rw [sum_four j (qz v) fun n => (((4 ^ n : ℕ) : ℝ) : EReal)]
  simp only [qz_eq]
  have h : ∀ a b c d : ℕ, ((a : ℝ) : EReal) * (((4 ^ 0 : ℕ) : ℝ) : EReal) + ((b : ℝ) : EReal) * (((4 ^ 1 : ℕ) : ℝ) : EReal) + ((c : ℝ) : EReal) * (((4 ^ 2 : ℕ) : ℝ) : EReal) + ((d : ℝ) : EReal) * (((4 ^ 3 : ℕ) : ℝ) : EReal)
      = (((a + 4 * b + 16 * c + 64 * d : ℕ) : ℝ) : EReal) := fun a b c d => by
    rw [← EReal.coe_mul, ← EReal.coe_mul, ← EReal.coe_mul, ← EReal.coe_mul, ← EReal.coe_add, ← EReal.coe_add, ← EReal.coe_add]
    congr 1
    push_cast; ring
  rw [h, fptosi_nat _ (by
    have := qn_lt v ⟨4 * j.val, by omega⟩
    have := qn_lt v ⟨4 * j.val + 1, by omega⟩
    have := qn_lt v ⟨4 * j.val + 2, by omega⟩
    have := qn_lt v ⟨4 * j.val + 3, by omega⟩
    omega)]
  rfl

end Cert.Spec

end
-- ==== Proof.KOps.lean ====
/-
  The kernel's whole-block values read at an index, on extended reals: the index words, the query rows, the masked
  scores against the new keys, the permuted value scales and zeros, the quantiser, the packed codes.
-/
module

public import proofs.«01_k».proof.Proof.KPoint
public import proofs.«01_k».proof.Proof.Quant

@[expose] public section

set_option maxRecDepth 16384

noncomputable section

namespace Cert.KernelIdeal.Trip

open Cert.KernelIdeal Cert.KernelIdeal.Gen Idealize.ShloMosaic Idealize.ShloMosaic.TcCoe Idealize.SL.Sem
open Cert.Spec

/-! ## Index words -/

theorem isFirst : IsFirst k0_pay405 := fun r j => by
  pointwise [k0_pay405]
  revert r
  decide +kernel

/-- The lane numbers of the body. -/
abbrev lanes : IVec S1x128 32 := iota Kind.tc S1x128 32 [1] iota_S1x128_d1_w32

theorem isTok : IsTok (k0_pay406 lanes 64#32 0#32) := fun c => by
  pointwise [k0_pay406]
  revert c
  decide +kernel

theorem perm16_at (g : Fin 16) (c : Fin 128) : k0_pay407 lanes 64#32 0#32 (ix2 g c) = BitVec.ofNat 32 (tok c) := by
  pointwise [k0_pay407]
  exact isTok c

/-- The lane that holds channel `d` before the last permutation. -/
def bk (d : Fin 128) : Fin 128 := ⟨d.val % 2 * 64 + d.val / 2, by omega⟩

theorem tok_bk (d : Fin 128) : tok (bk d) = d.val := by
  unfold tok bk; dsimp only; omega

theorem back_word (d : Fin 128) (r : Fin 24) : ((trip_k0_t1.sl.r_39 lanes (ix3 r d (0 : Fin 1)) : BitVec 32)).toNat % 128 = (bk d).val := by
  pointwise [trip_k0_t1.sl.r_39, k0_pay375, trip_k0_t1.sl.v5169, trip_k0_t1.sl.v5171, trip_k0_t1.sl.v5190]
  clear r
  revert d
  decide +kernel

theorem back_at (o : FVec Ideal S24x128 .f32) (r : Fin 24) (d : Fin 128) :
    k0_pay1 o (trip_k0_t1.sl.r_39 lanes) (ix2 r d) = (o (ix2 r (bk d)) : EReal) := by
  pointwise [k0_pay1]
  exact congrArg o (congrArg (ix2 r) (Fin.ext (back_word d r)))

/-! ## Rows of a trip as output blocks -/

theorem piece0_at (o : FVec Ideal S24x128 .f32) (q : Fin 8) (d : Fin 128) :
    k0_pay2 o (trip_k0_t1.sl.r_39 lanes) (ix4 (0 : Fin 1) (0 : Fin 1) q d) = (o (ix2 (⟨q.val, by omega⟩ : Fin 24) (bk d)) : EReal) := by
  refine Eq.trans ?_ (back_at o (⟨q.val, by omega⟩ : Fin 24) d); pointwise [k0_pay2]

theorem piece1_at (o : FVec Ideal S24x128 .f32) (q : Fin 8) (d : Fin 128) :
    k0_pay3 o (trip_k0_t1.sl.r_39 lanes) (ix4 (0 : Fin 1) (0 : Fin 1) q d) = (o (ix2 (⟨8 + q.val, by omega⟩ : Fin 24) (bk d)) : EReal) := by
  refine Eq.trans ?_ (back_at o (⟨8 + q.val, by omega⟩ : Fin 24) d); pointwise [k0_pay3]

theorem piece2_at (o : FVec Ideal S24x128 .f32) (q : Fin 8) (d : Fin 128) :
    k0_pay4 o (trip_k0_t1.sl.r_39 lanes) (ix4 (0 : Fin 1) (0 : Fin 1) q d) = (o (ix2 (⟨16 + q.val, by omega⟩ : Fin 24) (bk d)) : EReal) := by
  refine Eq.trans ?_ (back_at o (⟨16 + q.val, by omega⟩ : Fin 24) d); pointwise [k0_pay4]

/-! ## The query rows and the scores against the new keys -/

theorem query_at (X : Vec Ideal S1x3x64x128 .bf16) (i : Fin 192) (d : Fin 128) :
    k0_pay390 X (ix2 i d) = (X (ix4 (0 : Fin 1) (⟨i.val / 8 % 3, by omega⟩ : Fin 3) (⟨i.val / 24 * 8 + i.val % 8, by omega⟩ : Fin 64) d) : EReal) := by
  pointwise [k0_pay390, k0_pay389]

theorem scaled_at (X : Vec Ideal S1x3x64x128 .bf16) (Y : Vec Ideal S1x3x16x128 .bf16) (i : Fin 192) (c : Fin 128) (hc : c.val < 48) :
    (k0_pay392 (k0_pay391 X Y) (ix2 i c) : EReal) = (∑ d : Fin 128, (X (ix4 (0 : Fin 1) (⟨i.val / 8 % 3, by omega⟩ : Fin 3) (⟨i.val / 24 * 8 + i.val % 8, by omega⟩ : Fin 64) d) : EReal)
      * Y (ix4 (0 : Fin 1) (⟨c.val / 16, by omega⟩ : Fin 3) (⟨c.val % 16, by omega⟩ : Fin 16) d)) * scl := by
  pointwise [k0_pay392, k0_pay391, k0_pay389]
  refine congrArg (· * scl) (Finset.sum_congr rfl fun d _ => ?_)
  rw [dif_pos hc]

/-- Two tests of small words. -/
theorem two_tests (A B C D : BitVec 32) (a b c d : Nat) (ha : A = BitVec.ofNat 32 a) (hb : B = BitVec.ofNat 32 b) (hc : C = BitVec.ofNat 32 c) (hd : D = BitVec.ofNat 32 d)
    (la : a < 64) (lb : b < 64) (lc : c < 64) (ld : d < 64) (x y : EReal) :
    Scalar.select (IntOp.andi (IntOp.cmpi CmpIPredicate.eq A B) (IntOp.cmpi CmpIPredicate.sle C D)) x y = if a = b ∧ c ≤ d then x else y := by
  have h1 : ∀ a b : Fin 64, IntOp.cmpi CmpIPredicate.eq (BitVec.ofNat 32 a.val) (BitVec.ofNat 32 b.val) = if a.val = b.val then 1#1 else 0#1 := by decide +kernel
  have h2 : ∀ a b : Fin 64, IntOp.cmpi CmpIPredicate.sle (BitVec.ofNat 32 a.val) (BitVec.ofNat 32 b.val) = if a.val ≤ b.val then 1#1 else 0#1 := by decide +kernel
  subst ha hb hc hd
  rw [show IntOp.cmpi CmpIPredicate.eq (BitVec.ofNat 32 a) (BitVec.ofNat 32 b) = _ from h1 ⟨a, la⟩ ⟨b, lb⟩, show IntOp.cmpi CmpIPredicate.sle (BitVec.ofNat 32 c) (BitVec.ofNat 32 d) = _ from h2 ⟨c, lc⟩ ⟨d, ld⟩]
  dsimp only
  by_cases e : a = b <;> by_cases f : c ≤ d <;> simp only [e, f, if_true, if_false, and_true, and_false, true_and, false_and] <;> rfl

/-- The masked scores of the body, of any scores `S`. -/
def masked (S : FVec Ideal S192x128 .f32) : FVec Ideal S192x128 .f32 :=
  k0_pay404 S
    (k0_pay397 (iota Kind.tc S192x128 32 [1] iota_S192x128_d1_w32) k0_pay393 k0_pay394 k0_pay395 k0_pay396)
    (k0_pay399 (iota Kind.tc S192x128 32 [1] iota_S192x128_d1_w32) (16#32) (k0_pay398 (iota Kind.tc S192x128 32 [1] iota_S192x128_d1_w32)) 0#32)
    (k0_pay400 (iota Kind.tc S192x128 32 [0] iota_S192x128_d0_w32)) (8#32)
    (k0_pay401 (iota Kind.tc S192x128 32 [0] iota_S192x128_d0_w32))
    (k0_pay402 (iota Kind.tc S192x128 32 [0] iota_S192x128_d0_w32))
    (k0_pay403 (iota Kind.tc S192x128 32 [0] iota_S192x128_d0_w32))

theorem masked_at (S : FVec Ideal S192x128 .f32) (i : Fin 192) (c : Fin 128) :
    (masked S (ix2 i c) : EReal) = if c.val % 16 = 2 * (i.val / 24) + i.val % 8 / 4 ∧ c.val / 16 ≤ i.val / 8 % 3 then S (ix2 i c) else ⊥ := by
  have hm : (Named.named κ "mask" 4048155338#32 : Ideal .f32) = (⊥ : EReal) := IdealRules.named_const.ideal_named_scalar _ _ _ _ rfl
  rw [← hm]
  pointwise [masked, k0_pay404, k0_pay397, k0_pay399, k0_pay398, k0_pay400, k0_pay401, k0_pay402, k0_pay403, k0_pay393, k0_pay394, k0_pay395, k0_pay396]
  refine two_tests _ _ _ _ _ _ _ _ ?_ ?_ ?_ ?_ (by omega) (by omega) (by omega) (by omega) _ _
  · clear S; revert c; decide +kernel
  · clear S; revert i; decide +kernel
  · clear S; revert c; decide +kernel
  · clear S; revert i; decide +kernel

/-! ## The permuted value scales and zeros -/

theorem perm_at (X : Vec Ideal S1x16x128 .f32) (g : Fin 16) (l : Fin 128) :
    k0_pay408 (k0_pay407 lanes 64#32 0#32) X (ix3 (0 : Fin 1) g l) = (X (ix3 (0 : Fin 1) g (⟨tok l, tok_lt l⟩ : Fin 128)) : EReal) := by
  pointwise [k0_pay408]
  refine congrArg X (congrArg (ix3 (0 : Fin 1) g) (Fin.ext ?_))
  show (Scalar.select (IntOp.cmpi CmpIPredicate.slt (k0_pay407 lanes 64#32 0#32 (ix2 g l)) 0#32) (IntOp.addi (k0_pay407 lanes 64#32 0#32 (ix2 g l)) 128#32) (k0_pay407 lanes 64#32 0#32 (ix2 g l))).toNat % 128 = tok l
  rw [perm16_at]; exact perm_word l

/-! ## The quantiser -/

/-- A new value row of the block. -/
abbrev vrow (X : Vec Ideal S1x3x16x128 .bf16) (i : Fin 48) : Fin 128 → EReal :=
  fun d => X (ix4 (0 : Fin 1) (⟨i.val / 16, by omega⟩ : Fin 3) (⟨i.val % 16, by omega⟩ : Fin 16) d)

theorem zero_at (X : Vec Ideal S1x3x16x128 .bf16) (i : Fin 48) : k0_pay377 X (ix2 i (0 : Fin 1)) = mnOf (vrow X i) := by
  pointwise [k0_pay377, k0_pay376]
  rfl

theorem scale_at (X : Vec Ideal S1x3x16x128 .bf16) (i : Fin 48) : k0_pay378 X (ix2 i (0 : Fin 1)) = scOf (vrow X i) := by
  pointwise [k0_pay378, k0_pay376]
  rw [zero_at]
  rfl

theorem codes_at (X : Vec Ideal S1x3x16x128 .bf16) (i : Fin 48) (d : Fin 128) : k0_pay379 X (ix2 i d) = qz (vrow X i) d := by
  pointwise [k0_pay379, k0_pay376]
  rw [zero_at, scale_at]
  rfl

/-- The sum of a column of the diagonal is the diagonal's element. -/
theorem diag_sum (f : Fin 48 → EReal) (j : Fin 48) :
    ∑ x : Fin 48, Scalar.select (IntOp.cmpi CmpIPredicate.eq (BitVec.ofNat 32 x.val) (BitVec.ofNat 32 j.val)) (f x) 0 = f j := by
  have h1 : ∀ a b : Fin 48, IntOp.cmpi CmpIPredicate.eq (BitVec.ofNat 32 a.val) (BitVec.ofNat 32 b.val) = if a = b then 1#1 else 0#1 := by decide +kernel
  rw [Finset.sum_eq_single j]
  · rw [h1, if_pos rfl]; rfl
  · intro b _ hb
    rw [h1, if_neg hb]; rfl
  · intro h; exact absurd (Finset.mem_univ j) h

theorem scaleRow_at (X : Vec Ideal S1x3x16x128 .bf16) (j : Fin 48) :
    k0_pay385 (k0_pay378 X) k0_pay384 (FloatOps.ofBits FTy.f32 0#32) (ix2 (0 : Fin 1) (⟨j.val, by omega⟩ : Fin 128)) = scOf (vrow X j) := by
  rw [← scale_at, ← diag_sum (fun x => k0_pay378 X (ix2 x (0 : Fin 1))) j]
  pointwise [k0_pay385, k0_pay384]

theorem zeroRow_at (X : Vec Ideal S1x3x16x128 .bf16) (j : Fin 48) :
    k0_pay386 (k0_pay377 X) k0_pay384 (ix2 (0 : Fin 1) (⟨j.val, by omega⟩ : Fin 128)) = mnOf (vrow X j) := by
  rw [← zero_at, ← diag_sum (fun x => k0_pay377 X (ix2 x (0 : Fin 1))) j]
  pointwise [k0_pay386, k0_pay384]

theorem scaleOut_at (X : Vec Ideal S1x3x16x128 .bf16) (j : Fin 48) :
    k0_pay387 (k0_pay378 X) k0_pay384 (FloatOps.ofBits FTy.f32 0#32) (ix3 (0 : Fin 1) (0 : Fin 1) j) = scOf (vrow X j) := by
  rw [← scaleRow_at]; pointwise [k0_pay387]

theorem zeroOut_at (X : Vec Ideal S1x3x16x128 .bf16) (j : Fin 48) :
    k0_pay388 (k0_pay377 X) k0_pay384 (ix3 (0 : Fin 1) (0 : Fin 1) j) = mnOf (vrow X j) := by
  rw [← zeroRow_at]; pointwise [k0_pay388]

/-- The packed codes of the block. -/
theorem bytes_at (X : Vec Ideal S1x3x16x128 .bf16) (i : Fin 48) (j : Fin 32) :
    (k0_pay383 (k0_pay380 X) (iota Kind.tc S128x128 32 [0] iota_S128x128_d0_w32) (iota Kind.tc S128x128 32 [1] iota_S128x128_d1_w32) (4#32)
      k0_pay381 k0_pay382 (ix3 (0 : Fin 1) i j) : BitVec 8) = byte (vrow X i) j := by
  rw [← packed_byte]
  pointwise [k0_pay383, k0_pay381, k0_pay382, k0_pay380]
  refine congrArg (fun z : EReal => (Ideal.fptosi 32 z).setWidth 8) (Finset.sum_congr rfl fun x _ => ?_)
  rw [codes_at]
  refine congrArg (qz (vrow X i) x * ·) ?_
  refine ((congrArg (fun z : BitVec 32 => ((z.toInt : ℝ) : EReal)) (?_ : _ = BitVec.ofNat 32 (if x.val / 4 = j.val then 4 ^ (x.val % 4) else 0))).trans ?_)
  · clear X i; revert x j; decide +kernel
  · have h : ∀ f : Fin 4, (BitVec.ofNat 32 (4 ^ f.val)).toInt = ((4 ^ f.val : ℕ) : ℤ) := by decide +kernel
    split_ifs
    · rw [h ⟨x.val % 4, by omega⟩]; norm_cast
    · norm_num

end Cert.KernelIdeal.Trip

end
-- ==== Proof.KBlock.lean ====
/-
  One grid point's attention block, from the eight trips of its loop.
-/
module

public import proofs.«01_k».proof.Proof.KOps
public import Idealize.ShloMosaic.Lib.Pipeline.ValueKit
public import Idealize.ShloMosaic.Lib.Pipeline.ReadBack

@[expose] public section

set_option maxRecDepth 16384

noncomputable section

namespace Cert.KernelIdeal.Trip

open Cert.KernelIdeal Cert.KernelIdeal.Gen Idealize.ShloMosaic Idealize.ShloMosaic.TcCoe Idealize.SL.Sem
open Cert.Spec

/-- The attention of a block: query `s` of head `h`, channel `d`. -/
def blockAttn (X : Vec Ideal S1x3x64x128 .bf16) (KN VN : Vec Ideal S1x3x16x128 .bf16) (CK : Vec Ideal S1x16x352x128 .i8) (KS KZ : Vec Ideal S1x44x16x128 .bf16)
    (CV : Vec Ideal S1x16x32x1408 .i8) (VS VZ : Vec Ideal S1x16x1408 .f32) (len : BitVec 32) (s : Fin 3) (h : Fin 64) (d : Fin 128) : EReal :=
  attnLate (scoreN (fun x => X (ix4 (0 : Fin 1) s h x)) (fun t x => KN (ix4 (0 : Fin 1) t (⟨h.val / 4, by omega⟩ : Fin 16) x)) s)
    (fun t => scOf fun x => VN (ix4 (0 : Fin 1) t (⟨h.val / 4, by omega⟩ : Fin 16) x)) (fun t => mnOf fun x => VN (ix4 (0 : Fin 1) t (⟨h.val / 4, by omega⟩ : Fin 16) x))
    (fun t => qz (fun x => VN (ix4 (0 : Fin 1) t (⟨h.val / 4, by omega⟩ : Fin 16) x)) d)
    (scoreC (fun x => X (ix4 (0 : Fin 1) s h x)) (fun i x => (CK (ix4 (0 : Fin 1) (⟨h.val / 4, by omega⟩ : Fin 16) i x) : BitVec 8))
      (fun i x => KS (ix4 (0 : Fin 1) i (⟨h.val / 4, by omega⟩ : Fin 16) x)) (fun i x => KZ (ix4 (0 : Fin 1) i (⟨h.val / 4, by omega⟩ : Fin 16) x)) len)
    (fun t => VS (ix3 (0 : Fin 1) (⟨h.val / 4, by omega⟩ : Fin 16) t)) (fun t => VZ (ix3 (0 : Fin 1) (⟨h.val / 4, by omega⟩ : Fin 16) t))
    (fun t => code (CV (ix4 (0 : Fin 1) (⟨h.val / 4, by omega⟩ : Fin 16) (⟨d.val / 4, by omega⟩ : Fin 32) t) : BitVec 8) (d.val % 4))

section Rows

variable (X : Vec Ideal S1x3x64x128 .bf16) (KN VN : Vec Ideal S1x3x16x128 .bf16) (CK : Vec Ideal S1x16x352x128 .i8) (KS KZ : Vec Ideal S1x44x16x128 .bf16)
    (CV : Vec Ideal S1x16x32x1408 .i8) (VS VZ : Vec Ideal S1x16x1408 .f32)

theorem vrow_at (t : Fin 3) (g : Fin 16) : vrow VN (⟨16 * t.val + g.val, by omega⟩ : Fin 48) = fun x => VN (ix4 (0 : Fin 1) t g x) := by
  funext x
  unfold vrow
  congr 2 <;> apply Fin.ext <;> dsimp only <;> omega

/-- A row of a trip, of a body whose memories hold the block's values. -/
theorem outRows_block (arg5 : Memref sig .tc .vmem S1x16x352x128 .i8) (arg6 : Memref sig .tc .vmem S1x44x16x128 .bf16) (arg7 : Memref sig .tc .vmem S1x44x16x128 .bf16)
    (arg8 : Memref sig .tc .vmem S1x16x32x1408 .i8) (arg15 : Memref sig .tc .vmem S192x128 .f32) (arg16 : Memref sig .tc .vmem S192x128 .f32)
    (arg17 : Memref sig .tc .vmem S11x16x128 .f32) (arg18 : Memref sig .tc .vmem S11x16x128 .f32) (v1 : Elt Ideal .i32)
    (X5 : BufTy.Contents (Elt Ideal) arg5.view.ty) (X6 : BufTy.Contents (Elt Ideal) arg6.view.ty) (X7 : BufTy.Contents (Elt Ideal) arg7.view.ty)
    (X8 : BufTy.Contents (Elt Ideal) arg8.view.ty) (X15 : BufTy.Contents (Elt Ideal) arg15.view.ty) (X16 : BufTy.Contents (Elt Ideal) arg16.view.ty)
    (X17 : BufTy.Contents (Elt Ideal) arg17.view.ty) (X18 : BufTy.Contents (Elt Ideal) arg18.view.ty) (k : Fin k0_t1_loop.trips)
    (VN' : Vec Ideal S1x3x16x128 .bf16) (hVN : VN' = VN) (h5 : arg5.view.read (Elt Ideal) X5 = CK) (h6 : arg6.view.read (Elt Ideal) X6 = KS) (h7 : arg7.view.read (Elt Ideal) X7 = KZ) (h8 : arg8.view.read (Elt Ideal) X8 = CV)
    (h15 : arg15.view.read (Elt Ideal) X15 = k0_pay390 X) (h16 : arg16.view.read (Elt Ideal) X16 = masked (k0_pay392 (k0_pay391 X KN)))
    (h17 : ∀ (b : Fin 11) (g : Fin 16) (c : Fin 128), (arg17.view.read (Elt Ideal) X17 (ix3 b g c) : EReal) = VS (ix3 (0 : Fin 1) g (⟨128 * b.val + tok c, by have := tok_lt c; omega⟩ : Fin 1408)))
    (h18 : ∀ (b : Fin 11) (g : Fin 16) (c : Fin 128), (arg18.view.read (Elt Ideal) X18 (ix3 b g c) : EReal) = VZ (ix3 (0 : Fin 1) g (⟨128 * b.val + tok c, by have := tok_lt c; omega⟩ : Fin 1408)))
    (r : Fin 24) (z : Fin 128) (s : Fin 3) (h : Fin 64) (d : Fin 128) (hs : s.val = r.val / 8) (hh : h.val = 8 * k.val + r.val % 8) (hd' : d.val = tok z) :
    outRows arg5 arg6 arg7 arg8 arg15 arg16 arg17 arg18 v1 (k0_pay379 VN') (k0_pay385 (k0_pay378 VN') k0_pay384 (FloatOps.ofBits FTy.f32 0#32)) (k0_pay386 (k0_pay377 VN') k0_pay384)
      k0_pay405 (k0_pay406 lanes 64#32 0#32) X5 X6 X7 X8 X15 X16 X17 X18 k (ix2 r z) = blockAttn X KN VN CK KS KZ CV VS VZ v1 s h d := by
  subst hVN
  have hk := trips_lt k
  have hdv : (hd r).val = r.val % 8 / 4 := rfl
  have hg : h.val / 4 = 2 * k.val + (hd r).val := by omega
  obtain rfl : d = ⟨tok z, tok_lt z⟩ := Fin.ext hd'
  have hX : ∀ x, k0_pay390 X (ix2 (⟨24 * k.val + r.val, by omega⟩ : Fin 192) x) = (X (ix4 (0 : Fin 1) s h x) : EReal) := fun x => by
    rw [query_at]
    congr 2 <;> apply Fin.ext <;> dsimp only <;> omega
  rw [outRows_at arg5 arg6 arg7 arg8 arg15 arg16 arg17 arg18 v1 _ _ _ _ _ X5 X6 X7 X8 X15 X16 X17 X18 k isFirst isTok r z (⟨h.val / 4, by omega⟩ : Fin 16) hg
    (scoreN (fun x => X (ix4 (0 : Fin 1) s h x)) (fun t x => KN (ix4 (0 : Fin 1) t (⟨h.val / 4, by omega⟩ : Fin 16) x)) s)
    (fun t => scOf fun x => VN' (ix4 (0 : Fin 1) t (⟨h.val / 4, by omega⟩ : Fin 16) x)) (fun t => mnOf fun x => VN' (ix4 (0 : Fin 1) t (⟨h.val / 4, by omega⟩ : Fin 16) x))
    (fun t => qz (fun x => VN' (ix4 (0 : Fin 1) t (⟨h.val / 4, by omega⟩ : Fin 16) x)) ⟨tok z, tok_lt z⟩)
    (fun t => VS (ix3 (0 : Fin 1) (⟨h.val / 4, by omega⟩ : Fin 16) t)) (fun t => VZ (ix3 (0 : Fin 1) (⟨h.val / 4, by omega⟩ : Fin 16) t))
    ?_ ?_ ?_ ?_ ?_ (fun b c => h17 b _ c) (fun b c => h18 b _ c)]
  · unfold blockAttn
    rw [h5, h6, h7, h8, h15]
    simp only [hX]
    congr 1
    funext t
    have e1 : z.val % 64 / 2 = tok z / 4 := by unfold tok; omega
    have e2 : 2 * (z.val % 64 % 2) + z.val / 64 = tok z % 4 := by unfold tok; omega
    rw [e2]
    simp only [e1]
  · intro c hc
    rw [h16, masked_at, if_neg]
    rintro ⟨ha, hb⟩
    apply hc
    dsimp only at ha hb ⊢
    omega
  · intro t
    rw [h16, masked_at]
    unfold scoreN
    by_cases hts : t.val ≤ s.val
    · rw [if_pos hts, if_pos (by dsimp only; omega), scaled_at _ _ _ _ (by dsimp only; omega)]
      refine congrArg (· * scl) (Finset.sum_congr rfl fun x _ => ?_)
      refine congrArg₂ (· * ·) ?_ ?_
      · congr 2 <;> apply Fin.ext <;> dsimp only <;> omega
      · congr 2 <;> apply Fin.ext <;> dsimp only <;> omega
    · rw [if_neg hts, if_neg (by dsimp only; omega)]
  · intro t
    exact (scaleRow_at VN' (⟨16 * t.val + h.val / 4, by omega⟩ : Fin 48)).trans (congrArg scOf (vrow_at VN' t ⟨h.val / 4, by omega⟩))
  · intro t
    exact (zeroRow_at VN' (⟨16 * t.val + h.val / 4, by omega⟩ : Fin 48)).trans (congrArg mnOf (vrow_at VN' t ⟨h.val / 4, by omega⟩))
  · intro t
    rw [codes_at]
    exact congrArg (fun v => qz v _) (vrow_at VN' t ⟨h.val / 4, by omega⟩)

end Rows

section Pieces

/-- A piece of a trip is a block of `G`. -/
theorem piece_block (G : S1x3x64x128.Idx → EReal) (off : Fin 4 → Nat) (n : Nat) (s : Fin 3) (ho : off = ![0, s.val, n, 0])
    (inb : ∀ a, off a + (![1, 1, 8, 128] : Fin 4 → Nat) a ≤ S1x3x64x128.size a) (w : Vec Ideal S1x1x8x128 .bf16)
    (hw : ∀ (q : Fin 8) (d : Fin 128) (h : Fin 64), h.val = n + q.val → (w (ix4 (0 : Fin 1) (0 : Fin 1) q d) : EReal) = G (ix4 (0 : Fin 1) s h d))
    (x : (Rect.unit (s := S1x3x64x128) off ![1, 1, 8, 128] inb).shape.Idx) : (w x : EReal) = G ((Rect.unit (s := S1x3x64x128) off ![1, 1, 8, 128] inb).emb x) := by
  subst ho
  have h2 : n + 8 ≤ 64 := inb 2
  obtain ⟨x0, x1, x2, x3, rfl⟩ : ∃ (x0 x1 : Fin 1) (x2 : Fin 8) (x3 : Fin 128), x = ix4 x0 x1 x2 x3 := ⟨x 0, x 1, x 2, x 3, eq_ix4 x⟩
  obtain rfl : x0 = 0 := Subsingleton.elim _ _
  obtain rfl : x1 = 0 := Subsingleton.elim _ _
  rw [hw x2 x3 ⟨n + x2.val, by omega⟩ rfl]
  refine congrArg G (funext fun a => Fin.ext ?_)
  match a with
  | 0 => rfl
  | 1 => simp [Rect.emb_apply, ix4]
  | 2 => simp [Rect.emb_apply, ix4]
  | 3 => simp [Rect.emb_apply, ix4]

theorem piece_mem (off : Fin 4 → Nat) (n : Nat) (s : Fin 3) (ho : off = ![0, s.val, n, 0])
    (inb : ∀ a, off a + (![1, 1, 8, 128] : Fin 4 → Nat) a ≤ S1x3x64x128.size a) (h : Fin 64) (d : Fin 128) (h1 : n ≤ h.val) (h2 : h.val < n + 8) :
    ix4 (0 : Fin 1) s h d ∈ (Rect.unit (s := S1x3x64x128) off ![1, 1, 8, 128] inb).set := by
  subst ho
  rw [Rect.mem_set_unit]
  intro a
  match a with
  | 0 => exact ⟨Nat.zero_le _, Nat.zero_lt_one⟩
  | 1 => exact ⟨le_rfl, Nat.lt_succ_self _⟩
  | 2 => exact ⟨h1, h2⟩
  | 3 => exact ⟨Nat.zero_le _, by simpa using d.isLt⟩

variable (𝒱 : Variants) (c : Dev nD) (bd : Option 𝒱.V) (i : grid0.Coords) (arg1 : Memref sig .tc .smem S96 .i32) (harg1 : arg1.IsWhole) (arg2 : Memref sig .tc .vmem S1x3x64x128 .bf16) (harg2 : arg2.IsWhole) (arg3 : Memref sig .tc .vmem S1x3x16x128 .bf16) (harg3 : arg3.IsWhole) (arg4 : Memref sig .tc .vmem S1x3x16x128 .bf16) (harg4 : arg4.IsWhole) (arg5 : Memref sig .tc .vmem S1x16x352x128 .i8) (harg5 : arg5.IsWhole) (arg6 : Memref sig .tc .vmem S1x44x16x128 .bf16) (harg6 : arg6.IsWhole) (arg7 : Memref sig .tc .vmem S1x44x16x128 .bf16) (harg7 : arg7.IsWhole) (arg8 : Memref sig .tc .vmem S1x16x32x1408 .i8) (harg8 : arg8.IsWhole) (arg9 : Memref sig .tc .vmem S1x16x1408 .f32) (harg9 : arg9.IsWhole) (arg10 : Memref sig .tc .vmem S1x16x1408 .f32) (harg10 : arg10.IsWhole) (arg11 : Memref sig .tc .vmem S1x3x64x128 .bf16) (harg11 : arg11.IsWhole) (arg12 : Memref sig .tc .vmem S1x48x32 .i8) (harg12 : arg12.IsWhole) (arg13 : Memref sig .tc .vmem S1x1x48 .f32) (harg13 : arg13.IsWhole) (arg14 : Memref sig .tc .vmem S1x1x48 .f32) (harg14 : arg14.IsWhole) (arg15 : Memref sig .tc .vmem S192x128 .f32) (harg15 : arg15.IsWhole) (arg16 : Memref sig .tc .vmem S192x128 .f32) (harg16 : arg16.IsWhole) (arg17 : Memref sig .tc .vmem S11x16x128 .f32) (harg17 : arg17.IsWhole) (arg18 : Memref sig .tc .vmem S11x16x128 .f32) (harg18 : arg18.IsWhole) (v1 : Elt Ideal .i32) (v24 : FVec Ideal S48x128 .f32) (v92 : FVec Ideal S1x128 .f32) (v98 : FVec Ideal S1x128 .f32) (v300 : IVec S24x128 1) (v344 : IVec S1x128 32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg15 : BufTy.Contents (Elt Ideal) arg15.view.ty) (X_arg16 : BufTy.Contents (Elt Ideal) arg16.view.ty) (X_arg17 : BufTy.Contents (Elt Ideal) arg17.view.ty) (X_arg18 : BufTy.Contents (Elt Ideal) arg18.view.ty)

/-- The three stores of a trip. -/
theorem tripL_eq (k : Fin k0_t1_loop.trips) : tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v24 v92 v98 v300 lanes v344 X_arg5 X_arg6 X_arg7 X_arg8 X_arg15 X_arg16 X_arg17 X_arg18 k =
    [⟨Rect.unit (k0_off82 k) ![1, 1, 8, 128] (k0_off82_inb k), k0_pay4 (outRows (F := Ideal) arg5 arg6 arg7 arg8 arg15 arg16 arg17 arg18 v1 v24 v92 v98 v300 v344 X_arg5 X_arg6 X_arg7 X_arg8 X_arg15 X_arg16 X_arg17 X_arg18 k) (trip_k0_t1.sl.r_39 lanes)⟩,
     ⟨Rect.unit (k0_off81 k) ![1, 1, 8, 128] (k0_off81_inb k), k0_pay3 (outRows (F := Ideal) arg5 arg6 arg7 arg8 arg15 arg16 arg17 arg18 v1 v24 v92 v98 v300 v344 X_arg5 X_arg6 X_arg7 X_arg8 X_arg15 X_arg16 X_arg17 X_arg18 k) (trip_k0_t1.sl.r_39 lanes)⟩,
     ⟨Rect.unit (k0_off80 k) ![1, 1, 8, 128] (k0_off80_inb k), k0_pay2 (outRows (F := Ideal) arg5 arg6 arg7 arg8 arg15 arg16 arg17 arg18 v1 v24 v92 v98 v300 v344 X_arg5 X_arg6 X_arg7 X_arg8 X_arg15 X_arg16 X_arg17 X_arg18 k) (trip_k0_t1.sl.r_39 lanes)⟩] := by
  rw [← trip_eq]
  unfold tripL_k0_t1 trip_k0_t1
  rfl

/-- The rows of every trip are blocks of `G`. -/
abbrev RowsOf (G : S1x3x64x128.Idx → EReal) : Prop :=
  ∀ (k : Fin k0_t1_loop.trips) (r : Fin 24) (z : Fin 128) (s : Fin 3) (h : Fin 64) (d : Fin 128), s.val = r.val / 8 → h.val = 8 * k.val + r.val % 8 → d.val = tok z →
    outRows (F := Ideal) arg5 arg6 arg7 arg8 arg15 arg16 arg17 arg18 v1 v24 v92 v98 v300 v344 X_arg5 X_arg6 X_arg7 X_arg8 X_arg15 X_arg16 X_arg17 X_arg18 k (ix2 r z) = G (ix4 (0 : Fin 1) s h d)

theorem tripL_pieces (G : S1x3x64x128.Idx → EReal)
    (hG : RowsOf arg5 arg6 arg7 arg8 arg15 arg16 arg17 arg18 v1 v24 v92 v98 v300 v344 X_arg5 X_arg6 X_arg7 X_arg8 X_arg15 X_arg16 X_arg17 X_arg18 G)
    (k : Fin k0_t1_loop.trips) : ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v24 v92 v98 v300 lanes v344 X_arg5 X_arg6 X_arg7 X_arg8 X_arg15 X_arg16 X_arg17 X_arg18 k, ∀ x, (p.2 x : EReal) = G (p.1.emb x) := by
  rw [tripL_eq]
  refine View.PiecesOf.mem (Val := Elt Ideal) (e := .bf16) (G := G) ⟨?_, ?_, ?_, trivial⟩
  · exact piece_block G _ (8 * k.val) 2 (k0_off82_eq k) (k0_off82_inb k) _ fun q d h hq => (piece2_at _ q d).trans
      (hG k _ _ 2 h d (by show 2 = (16 + q.val) / 8; omega) (by show h.val = 8 * k.val + (16 + q.val) % 8; omega) (tok_bk d).symm)
  · exact piece_block G _ (8 * k.val) 1 (k0_off81_eq k) (k0_off81_inb k) _ fun q d h hq => (piece1_at _ q d).trans
      (hG k _ _ 1 h d (by show 1 = (8 + q.val) / 8; omega) (by show h.val = 8 * k.val + (8 + q.val) % 8; omega) (tok_bk d).symm)
  · exact piece_block G _ (8 * k.val) 0 (k0_off80_eq k) (k0_off80_inb k) _ fun q d h hq => (piece0_at _ q d).trans
      (hG k _ _ 0 h d (by show 0 = (q.val) / 8; omega) (by show h.val = 8 * k.val + (q.val) % 8; omega) (tok_bk d).symm)

theorem tripL_covers (k : Fin k0_t1_loop.trips) (s : Fin 3) (h : Fin 64) (d : Fin 128) (hk : h.val / 8 = k.val) :
    ∃ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v24 v92 v98 v300 lanes v344 X_arg5 X_arg6 X_arg7 X_arg8 X_arg15 X_arg16 X_arg17 X_arg18 k, ix4 (0 : Fin 1) s h d ∈ p.1.set := by
  rw [tripL_eq]
  match s with
  | 0 => exact ⟨_, List.mem_cons_of_mem _ (List.mem_cons_of_mem _ List.mem_cons_self), piece_mem _ (8 * k.val) 0 (k0_off80_eq k) (k0_off80_inb k) h d (by omega) (by omega)⟩
  | 1 => exact ⟨_, List.mem_cons_of_mem _ List.mem_cons_self, piece_mem _ (8 * k.val) 1 (k0_off81_eq k) (k0_off81_inb k) h d (by omega) (by omega)⟩
  | 2 => exact ⟨_, List.mem_cons_self, piece_mem _ (8 * k.val) 2 (k0_off82_eq k) (k0_off82_inb k) h d (by omega) (by omega)⟩

/-- The stores of the first `n` trips: blocks of `G`, covering their rows. -/
theorem pb_pieces (G : S1x3x64x128.Idx → EReal)
    (hG : RowsOf arg5 arg6 arg7 arg8 arg15 arg16 arg17 arg18 v1 v24 v92 v98 v300 v344 X_arg5 X_arg6 X_arg7 X_arg8 X_arg15 X_arg16 X_arg17 X_arg18 G) :
    ∀ n : Nat, n ≤ k0_t1_loop.trips → (∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v24 v92 v98 v300 lanes v344 X_arg5 X_arg6 X_arg7 X_arg8 X_arg15 X_arg16 X_arg17 X_arg18 n, ∀ x, (p.2 x : EReal) = G (p.1.emb x))
      ∧ ∀ (s : Fin 3) (h : Fin 64) (d : Fin 128), h.val / 8 < n → ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v24 v92 v98 v300 lanes v344 X_arg5 X_arg6 X_arg7 X_arg8 X_arg15 X_arg16 X_arg17 X_arg18 n, ix4 (0 : Fin 1) s h d ∈ p.1.set
  | 0, _ => ⟨fun p hp => absurd hp List.not_mem_nil, fun s h d hh => absurd hh (Nat.not_lt_zero _)⟩
  | n + 1, hn => by
    obtain ⟨h1, h2⟩ := pb_pieces G hG n (Nat.le_of_succ_le hn)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v24 v92 v98 v300 lanes v344 X_arg5 X_arg6 X_arg7 X_arg8 X_arg15 X_arg16 X_arg17 X_arg18 ⟨n, hn⟩]
    refine ⟨fun p hp => ?_, fun s h d hh => ?_⟩
    · rcases List.mem_append.mp hp with hp | hp
      · exact tripL_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v24 v92 v98 v300 v344 X_arg5 X_arg6 X_arg7 X_arg8 X_arg15 X_arg16 X_arg17 X_arg18 G hG ⟨n, hn⟩ p hp
      · exact h1 p hp
    · by_cases e : h.val / 8 = n
      · obtain ⟨p, hp, hy⟩ := tripL_covers 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v24 v92 v98 v300 v344 X_arg5 X_arg6 X_arg7 X_arg8 X_arg15 X_arg16 X_arg17 X_arg18 ⟨n, hn⟩ s h d e
        exact ⟨p, List.mem_append_left _ hp, hy⟩
      · obtain ⟨p, hp, hy⟩ := h2 s h d (by omega)
        exact ⟨p, List.mem_append_right _ hp, hy⟩

/-- The block that the eight trips leave is `G`. -/
theorem canon_pb (G : S1x3x64x128.Idx → EReal)
    (hG : RowsOf arg5 arg6 arg7 arg8 arg15 arg16 arg17 arg18 v1 v24 v92 v98 v300 v344 X_arg5 X_arg6 X_arg7 X_arg8 X_arg15 X_arg16 X_arg17 X_arg18 G)
    (n : Nat) (hn : n = 8) (s : Fin 3) (h : Fin 64) (d : Fin 128) :
    (View.canon (Val := Elt Ideal) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v24 v92 v98 v300 lanes v344 X_arg5 X_arg6 X_arg7 X_arg8 X_arg15 X_arg16 X_arg17 X_arg18 n) (ix4 (0 : Fin 1) s h d) : EReal) = G (ix4 (0 : Fin 1) s h d) := by
  subst hn
  obtain ⟨h1, h2⟩ := pb_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v24 v92 v98 v300 v344 X_arg5 X_arg6 X_arg7 X_arg8 X_arg15 X_arg16 X_arg17 X_arg18 G hG 8 le_rfl
  have := View.canon_append_of_pieces (Val := Elt Ideal) (e := .bf16) G [] _ h1 _ (h2 s h d (by omega))
  rwa [List.append_nil] at this

/-- The block that the eight trips leave, of a body whose memories hold the block's values. -/
theorem canon_block (X : Vec Ideal S1x3x64x128 .bf16) (KN VN : Vec Ideal S1x3x16x128 .bf16) (CK : Vec Ideal S1x16x352x128 .i8) (KS KZ : Vec Ideal S1x44x16x128 .bf16)
    (CV : Vec Ideal S1x16x32x1408 .i8) (VS VZ : Vec Ideal S1x16x1408 .f32)
    (VN' : Vec Ideal S1x3x16x128 .bf16) (hVN : VN' = VN) (h5 : arg5.view.read (Elt Ideal) X_arg5 = CK) (h6 : arg6.view.read (Elt Ideal) X_arg6 = KS) (h7 : arg7.view.read (Elt Ideal) X_arg7 = KZ) (h8 : arg8.view.read (Elt Ideal) X_arg8 = CV)
    (h15 : arg15.view.read (Elt Ideal) X_arg15 = k0_pay390 X) (h16 : arg16.view.read (Elt Ideal) X_arg16 = masked (k0_pay392 (k0_pay391 X KN)))
    (h17 : ∀ (b : Fin 11) (g : Fin 16) (c : Fin 128), (arg17.view.read (Elt Ideal) X_arg17 (ix3 b g c) : EReal) = VS (ix3 (0 : Fin 1) g (⟨128 * b.val + tok c, by have := tok_lt c; omega⟩ : Fin 1408)))
    (h18 : ∀ (b : Fin 11) (g : Fin 16) (c : Fin 128), (arg18.view.read (Elt Ideal) X_arg18 (ix3 b g c) : EReal) = VZ (ix3 (0 : Fin 1) g (⟨128 * b.val + tok c, by have := tok_lt c; omega⟩ : Fin 1408)))
    (n : Nat) (hn : n = 8) (s : Fin 3) (h : Fin 64) (d : Fin 128) :
    (View.canon (Val := Elt Ideal) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 (k0_pay379 VN') (k0_pay385 (k0_pay378 VN') k0_pay384 (FloatOps.ofBits FTy.f32 0#32)) (k0_pay386 (k0_pay377 VN') k0_pay384) k0_pay405 lanes (k0_pay406 lanes 64#32 0#32) X_arg5 X_arg6 X_arg7 X_arg8 X_arg15 X_arg16 X_arg17 X_arg18 n) (ix4 (0 : Fin 1) s h d) : EReal) = blockAttn X KN VN CK KS KZ CV VS VZ v1 s h d :=
  canon_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 (k0_pay379 VN') (k0_pay385 (k0_pay378 VN') k0_pay384 (FloatOps.ofBits FTy.f32 0#32)) (k0_pay386 (k0_pay377 VN') k0_pay384) k0_pay405 (k0_pay406 lanes 64#32 0#32) X_arg5 X_arg6 X_arg7 X_arg8 X_arg15 X_arg16 X_arg17 X_arg18 (fun y => blockAttn X KN VN CK KS KZ CV VS VZ v1 (y 1) (y 2) (y 3))
    (fun k r z s h d hs hh hd => outRows_block X KN VN CK KS KZ CV VS VZ arg5 arg6 arg7 arg8 arg15 arg16 arg17 arg18 v1 X_arg5 X_arg6 X_arg7 X_arg8 X_arg15 X_arg16 X_arg17 X_arg18 k
      VN' hVN h5 h6 h7 h8 h15 h16 h17 h18 r z s h d hs hh hd) n hn s h d

end Pieces

/-! ## The permuted value scales in scratch -/

section Scratch

/-- The scratch of value scales or zeros: token `128 * b + tok c` in block `b`, lane `c`. -/
def permuted (V : Vec Ideal S1x16x1408 .f32) : S11x16x128.Idx → EReal := fun y =>
  V (ix3 (0 : Fin 1) (y 1) (⟨128 * (y 0).val + tok (y 2), by have := tok_lt (y 2); have : (y 0).val < 11 := (y 0).isLt; omega⟩ : Fin 1408))

/-- One store into it. -/
theorem perm_piece (V : Vec Ideal S1x16x1408 .f32) (b : Fin 11) (off : Fin 3 → Nat) (off' : Fin 3 → Nat) (ho : off = ![b.val, 0, 0]) (ho' : off' = ![0, 0, 128 * b.val])
    (inb : ∀ a, off a + (![1, 16, 128] : Fin 3 → Nat) a ≤ S11x16x128.size a) (inb' : ∀ a, off' a + (![1, 16, 128] : Fin 3 → Nat) a ≤ S1x16x1408.size a)
    (x : (Rect.unit (s := S11x16x128) off ![1, 16, 128] inb).shape.Idx) :
    (k0_pay408 (k0_pay407 lanes 64#32 0#32) (View.ld (Val := Elt Ideal) V (Rect.unit (s := S1x16x1408) off' ![1, 16, 128] inb')) x : EReal)
      = permuted V ((Rect.unit (s := S11x16x128) off ![1, 16, 128] inb).emb x) := by
  subst ho
  obtain ⟨x0, x1, x2, rfl⟩ : ∃ (x0 : Fin 1) (x1 : Fin 16) (x2 : Fin 128), x = ix3 x0 x1 x2 := ⟨x 0, x 1, x 2, eq_ix3 x⟩
  obtain rfl : x0 = 0 := Subsingleton.elim _ _
  refine (perm_at _ x1 x2).trans ?_
  refine (ld3 V off' _ inb' ho' (0 : Fin 1) x1 (⟨tok x2, tok_lt x2⟩ : Fin 128) (0 : Fin 1) x1 (⟨128 * b.val + tok x2, by have := tok_lt x2; omega⟩ : Fin 1408) rfl (by simp) (by simp)).trans ?_
  have e : (Rect.unit (s := S11x16x128) ![b.val, 0, 0] ![1, 16, 128] inb).emb (ix3 0 x1 x2) = ix3 b x1 x2 := funext fun a => Fin.ext (by
    match a with
    | 0 => simp [Rect.emb_apply, ix3]
    | 1 => simp [Rect.emb_apply, ix3]
    | 2 => simp [Rect.emb_apply, ix3])
  rw [e]
  rfl

theorem perm_mem (b : Fin 11) (g : Fin 16) (c : Fin 128) (off : Fin 3 → Nat) (ho : off = ![b.val, 0, 0])
    (inb : ∀ a, off a + (![1, 16, 128] : Fin 3 → Nat) a ≤ S11x16x128.size a) : ix3 b g c ∈ (Rect.unit (s := S11x16x128) off ![1, 16, 128] inb).set := by
  subst ho
  rw [Rect.mem_set_unit]
  intro a
  match a with
  | 0 => exact ⟨le_rfl, Nat.lt_succ_self _⟩
  | 1 => exact ⟨Nat.zero_le _, by simpa using g.isLt⟩
  | 2 => exact ⟨Nat.zero_le _, by simpa using c.isLt⟩

end Scratch

end Cert.KernelIdeal.Trip

end
-- ==== Proof.KOut.lean ====
/-
  What a grid point leaves in the four output windows.
-/
module

public import proofs.«01_k».proof.Proof.KBlock
public import proofs.«01_k».proof.Proof.Gen.KernelIdeal.Frame

@[expose] public section

set_option maxRecDepth 16384

noncomputable section

namespace Cert.KernelIdeal.Val

open Cert.KernelIdeal Cert.KernelIdeal.Gen Cert.KernelIdeal.Trip Idealize.ShloMosaic Idealize.ShloMosaic.TcCoe Idealize.SL.Sem
open Cert.Spec

/-- Eleven stores of permuted blocks fill the scratch. -/
theorem permuted_of_pieces (V : Vec Ideal S1x16x1408 .f32) (L : List (View.Piece (Elt Ideal) S11x16x128 .f32)) (h : View.PiecesOf (Val := Elt Ideal) (permuted V) L)
    (hc : ∀ b : Fin 11, ∃ p ∈ L, ∀ (g : Fin 16) (c : Fin 128), ix3 b g c ∈ p.1.set) (v : View sig .tc .vmem S11x16x128 .f32)
    (b : Fin 11) (g : Fin 16) (c : Fin 128) :
    (v.read (Elt Ideal) (v.writes (Elt Ideal) v.junk L) (ix3 b g c) : EReal) = V (ix3 (0 : Fin 1) g (⟨128 * b.val + tok c, by have := tok_lt c; omega⟩ : Fin 1408)) := by
  rw [View.read_writes_junk_eq_canon]
  obtain ⟨p, hp, hy⟩ := hc b
  have := View.canon_append_of_piecesOf (Val := Elt Ideal) (permuted V) [] L h (ix3 b g c) ⟨p, hp, hy g c⟩
  rw [List.append_nil] at this
  exact this

variable (m : (ℓ : Loc nD τ sig) → Buf (Elt Ideal) ℓ)

theorem okM : Ok m := by unfold Ok ok0; trivial

abbrev cf := cfgM m (okM m)

/-- The length that a grid point reads. -/
abbrev lenAt (t : Fin (cf m).N) : BitVec 32 :=
  View.readAt (Elt Ideal) (View.whole main_arg3) (Rect.unit (s := S96) (k0_off1 (grid0.coords t)) S1.size (k0_off1_inb (grid0.coords t))).toLoadRect (tbl m 0) (Shape.Idx.first (s := S1) (by decide))

theorem inbV (b : Fin 11) : ∀ a, (![0, 0, 128 * b.val] : Fin 3 → Nat) a + (![1, 16, 128] : Fin 3 → Nat) a ≤ S1x16x1408.size a := by
  revert b; decide +kernel

/-- Some piece of the eleven holds block `b`. -/
theorem cover (w : Fin 11 → (Vec Ideal S1x16x128 .f32)) (b : Fin 11) : ∃ p ∈ ([⟨Rect.unit (s := S11x16x128) ![10,0,0] ![1,16,128] inb_S11x16x128_S1x16x128_10_0_0, w 10⟩, ⟨Rect.unit (s := S11x16x128) ![9,0,0] ![1,16,128] inb_S11x16x128_S1x16x128_9_0_0, w 9⟩, ⟨Rect.unit (s := S11x16x128) ![8,0,0] ![1,16,128] inb_S11x16x128_S1x16x128_8_0_0, w 8⟩, ⟨Rect.unit (s := S11x16x128) ![7,0,0] ![1,16,128] inb_S11x16x128_S1x16x128_7_0_0, w 7⟩, ⟨Rect.unit (s := S11x16x128) ![6,0,0] ![1,16,128] inb_S11x16x128_S1x16x128_6_0_0, w 6⟩, ⟨Rect.unit (s := S11x16x128) ![5,0,0] ![1,16,128] inb_S11x16x128_S1x16x128_5_0_0, w 5⟩, ⟨Rect.unit (s := S11x16x128) ![4,0,0] ![1,16,128] inb_S11x16x128_S1x16x128_4_0_0, w 4⟩, ⟨Rect.unit (s := S11x16x128) ![3,0,0] ![1,16,128] inb_S11x16x128_S1x16x128_3_0_0, w 3⟩, ⟨Rect.unit (s := S11x16x128) ![2,0,0] ![1,16,128] inb_S11x16x128_S1x16x128_2_0_0, w 2⟩, ⟨Rect.unit (s := S11x16x128) ![1,0,0] ![1,16,128] inb_S11x16x128_S1x16x128_1_0_0, w 1⟩, ⟨Rect.unit (s := S11x16x128) ![0,0,0] ![1,16,128] inb_S11x16x128_S1x16x128_0_0_0, w 0⟩] : List (View.Piece (Elt Ideal) S11x16x128 .f32)),
    ∀ (g : Fin 16) (c : Fin 128), ix3 b g c ∈ p.1.set := by
  match b with
  | 0 => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), fun g c => perm_mem 0 g c _ rfl inb_S11x16x128_S1x16x128_0_0_0⟩
  | 1 => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), fun g c => perm_mem 1 g c _ rfl inb_S11x16x128_S1x16x128_1_0_0⟩
  | 2 => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), fun g c => perm_mem 2 g c _ rfl inb_S11x16x128_S1x16x128_2_0_0⟩
  | 3 => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), fun g c => perm_mem 3 g c _ rfl inb_S11x16x128_S1x16x128_3_0_0⟩
  | 4 => exact ⟨_, List.mem_cons_of_mem _ (List.mem_cons_of_mem _ (List.mem_cons_of_mem _ (List.mem_cons_of_mem _ (List.mem_cons_of_mem _ (List.mem_cons_of_mem _ (List.mem_cons_self)))))), fun g c => perm_mem 4 g c _ rfl inb_S11x16x128_S1x16x128_4_0_0⟩
  | 5 => exact ⟨_, List.mem_cons_of_mem _ (List.mem_cons_of_mem _ (List.mem_cons_of_mem _ (List.mem_cons_of_mem _ (List.mem_cons_of_mem _ (List.mem_cons_self))))), fun g c => perm_mem 5 g c _ rfl inb_S11x16x128_S1x16x128_5_0_0⟩
  | 6 => exact ⟨_, List.mem_cons_of_mem _ (List.mem_cons_of_mem _ (List.mem_cons_of_mem _ (List.mem_cons_of_mem _ (List.mem_cons_self)))), fun g c => perm_mem 6 g c _ rfl inb_S11x16x128_S1x16x128_6_0_0⟩
  | 7 => exact ⟨_, List.mem_cons_of_mem _ (List.mem_cons_of_mem _ (List.mem_cons_of_mem _ (List.mem_cons_self))), fun g c => perm_mem 7 g c _ rfl inb_S11x16x128_S1x16x128_7_0_0⟩
  | 8 => exact ⟨_, List.mem_cons_of_mem _ (List.mem_cons_of_mem _ (List.mem_cons_self)), fun g c => perm_mem 8 g c _ rfl inb_S11x16x128_S1x16x128_8_0_0⟩
  | 9 => exact ⟨_, List.mem_cons_of_mem _ (List.mem_cons_self), fun g c => perm_mem 9 g c _ rfl inb_S11x16x128_S1x16x128_9_0_0⟩
  | 10 => exact ⟨_, List.mem_cons_self, fun g c => perm_mem 10 g c _ rfl inb_S11x16x128_S1x16x128_10_0_0⟩

/-- The scratch after its eleven stores. -/
theorem scratch_at (v : View sig .tc .vmem S11x16x128 .f32) (V : Vec Ideal S1x16x1408 .f32) (b : Fin 11) (g : Fin 16) (c : Fin 128) :
    (v.read (Elt Ideal) (v.writes (Elt Ideal) v.junk ([⟨Rect.unit (s := S11x16x128) ![10,0,0] ![1,16,128] inb_S11x16x128_S1x16x128_10_0_0, k0_pay408 (k0_pay407 lanes 64#32 0#32) (View.ld (Val := Elt Ideal) V (Rect.unit (s := S1x16x1408) ![0, 0, 1280] ![1, 16, 128] inb_S1x16x1408_S1x16x128_0_0_1280))⟩, ⟨Rect.unit (s := S11x16x128) ![9,0,0] ![1,16,128] inb_S11x16x128_S1x16x128_9_0_0, k0_pay408 (k0_pay407 lanes 64#32 0#32) (View.ld (Val := Elt Ideal) V (Rect.unit (s := S1x16x1408) ![0, 0, 1152] ![1, 16, 128] inb_S1x16x1408_S1x16x128_0_0_1152))⟩, ⟨Rect.unit (s := S11x16x128) ![8,0,0] ![1,16,128] inb_S11x16x128_S1x16x128_8_0_0, k0_pay408 (k0_pay407 lanes 64#32 0#32) (View.ld (Val := Elt Ideal) V (Rect.unit (s := S1x16x1408) ![0, 0, 1024] ![1, 16, 128] inb_S1x16x1408_S1x16x128_0_0_1024))⟩, ⟨Rect.unit (s := S11x16x128) ![7,0,0] ![1,16,128] inb_S11x16x128_S1x16x128_7_0_0, k0_pay408 (k0_pay407 lanes 64#32 0#32) (View.ld (Val := Elt Ideal) V (Rect.unit (s := S1x16x1408) ![0, 0, 896] ![1, 16, 128] inb_S1x16x1408_S1x16x128_0_0_896))⟩, ⟨Rect.unit (s := S11x16x128) ![6,0,0] ![1,16,128] inb_S11x16x128_S1x16x128_6_0_0, k0_pay408 (k0_pay407 lanes 64#32 0#32) (View.ld (Val := Elt Ideal) V (Rect.unit (s := S1x16x1408) ![0, 0, 768] ![1, 16, 128] inb_S1x16x1408_S1x16x128_0_0_768))⟩, ⟨Rect.unit (s := S11x16x128) ![5,0,0] ![1,16,128] inb_S11x16x128_S1x16x128_5_0_0, k0_pay408 (k0_pay407 lanes 64#32 0#32) (View.ld (Val := Elt Ideal) V (Rect.unit (s := S1x16x1408) ![0, 0, 640] ![1, 16, 128] inb_S1x16x1408_S1x16x128_0_0_640))⟩, ⟨Rect.unit (s := S11x16x128) ![4,0,0] ![1,16,128] inb_S11x16x128_S1x16x128_4_0_0, k0_pay408 (k0_pay407 lanes 64#32 0#32) (View.ld (Val := Elt Ideal) V (Rect.unit (s := S1x16x1408) ![0, 0, 512] ![1, 16, 128] inb_S1x16x1408_S1x16x128_0_0_512))⟩, ⟨Rect.unit (s := S11x16x128) ![3,0,0] ![1,16,128] inb_S11x16x128_S1x16x128_3_0_0, k0_pay408 (k0_pay407 lanes 64#32 0#32) (View.ld (Val := Elt Ideal) V (Rect.unit (s := S1x16x1408) ![0, 0, 384] ![1, 16, 128] inb_S1x16x1408_S1x16x128_0_0_384))⟩, ⟨Rect.unit (s := S11x16x128) ![2,0,0] ![1,16,128] inb_S11x16x128_S1x16x128_2_0_0, k0_pay408 (k0_pay407 lanes 64#32 0#32) (View.ld (Val := Elt Ideal) V (Rect.unit (s := S1x16x1408) ![0, 0, 256] ![1, 16, 128] inb_S1x16x1408_S1x16x128_0_0_256))⟩, ⟨Rect.unit (s := S11x16x128) ![1,0,0] ![1,16,128] inb_S11x16x128_S1x16x128_1_0_0, k0_pay408 (k0_pay407 lanes 64#32 0#32) (View.ld (Val := Elt Ideal) V (Rect.unit (s := S1x16x1408) ![0, 0, 128] ![1, 16, 128] inb_S1x16x1408_S1x16x128_0_0_128))⟩, ⟨Rect.unit (s := S11x16x128) ![0,0,0] ![1,16,128] inb_S11x16x128_S1x16x128_0_0_0, k0_pay408 (k0_pay407 lanes 64#32 0#32) (View.ld (Val := Elt Ideal) V (Rect.unit (s := S1x16x1408) ![0, 0, 0] ![1, 16, 128] inb_S1x16x1408_S1x16x128_0_0_0))⟩] : List (View.Piece (Elt Ideal) S11x16x128 .f32))) (ix3 b g c) : EReal)
      = V (ix3 (0 : Fin 1) g (⟨128 * b.val + tok c, by have := tok_lt c; omega⟩ : Fin 1408)) :=
  by
  refine permuted_of_pieces V _ ?_ ?_ v b g c
  · exact ⟨perm_piece V 10 _ _ rfl rfl inb_S11x16x128_S1x16x128_10_0_0 inb_S1x16x1408_S1x16x128_0_0_1280, perm_piece V 9 _ _ rfl rfl inb_S11x16x128_S1x16x128_9_0_0 inb_S1x16x1408_S1x16x128_0_0_1152, perm_piece V 8 _ _ rfl rfl inb_S11x16x128_S1x16x128_8_0_0 inb_S1x16x1408_S1x16x128_0_0_1024, perm_piece V 7 _ _ rfl rfl inb_S11x16x128_S1x16x128_7_0_0 inb_S1x16x1408_S1x16x128_0_0_896, perm_piece V 6 _ _ rfl rfl inb_S11x16x128_S1x16x128_6_0_0 inb_S1x16x1408_S1x16x128_0_0_768, perm_piece V 5 _ _ rfl rfl inb_S11x16x128_S1x16x128_5_0_0 inb_S1x16x1408_S1x16x128_0_0_640, perm_piece V 4 _ _ rfl rfl inb_S11x16x128_S1x16x128_4_0_0 inb_S1x16x1408_S1x16x128_0_0_512, perm_piece V 3 _ _ rfl rfl inb_S11x16x128_S1x16x128_3_0_0 inb_S1x16x1408_S1x16x128_0_0_384, perm_piece V 2 _ _ rfl rfl inb_S11x16x128_S1x16x128_2_0_0 inb_S1x16x1408_S1x16x128_0_0_256, perm_piece V 1 _ _ rfl rfl inb_S11x16x128_S1x16x128_1_0_0 inb_S1x16x1408_S1x16x128_0_0_128, perm_piece V 0 _ _ rfl rfl inb_S11x16x128_S1x16x128_0_0_0 inb_S1x16x1408_S1x16x128_0_0_0, trivial⟩
  · exact (cover fun b => k0_pay408 (k0_pay407 lanes 64#32 0#32) (View.ld (Val := Elt Ideal) V (Rect.unit (s := S1x16x1408) ![0, 0, 128 * b.val] ![1, 16, 128] (inbV b))))

theorem out_codes (c : Dev nD) (t : Fin (cf m).N) (i : Fin 48) (j : Fin 32) :
    ((outsAt0 m (okM m) c t).2.1 (ix3 (0 : Fin 1) i j) : BitVec 8) = byte (vrow (iblk m (okM m) c 2 t) i) j := by
  unfold outsAt0
  frame_out
  exact (congrArg (fun X : Vec Ideal S1x3x16x128 .bf16 => k0_pay383 (k0_pay380 X) (iota Kind.tc S128x128 32 [0] iota_S128x128_d0_w32) (iota Kind.tc S128x128 32 [1] iota_S128x128_d1_w32) (4#32) k0_pay381 k0_pay382 (ix3 (0 : Fin 1) i j)) (Memref.IsWhole.read_unread _ _)).trans (bytes_at _ i j)

theorem out_scale (c : Dev nD) (t : Fin (cf m).N) (j : Fin 48) :
    ((outsAt0 m (okM m) c t).2.2.1 (ix3 (0 : Fin 1) (0 : Fin 1) j) : EReal) = scOf (vrow (iblk m (okM m) c 2 t) j) := by
  unfold outsAt0
  frame_out
  exact (congrArg (fun X : Vec Ideal S1x3x16x128 .bf16 => k0_pay387 (k0_pay378 X) k0_pay384 (FloatOps.ofBits FTy.f32 0#32) (ix3 (0 : Fin 1) (0 : Fin 1) j)) (Memref.IsWhole.read_unread _ _)).trans (scaleOut_at _ j)

theorem out_zero (c : Dev nD) (t : Fin (cf m).N) (j : Fin 48) :
    ((outsAt0 m (okM m) c t).2.2.2 (ix3 (0 : Fin 1) (0 : Fin 1) j) : EReal) = mnOf (vrow (iblk m (okM m) c 2 t) j) := by
  unfold outsAt0
  frame_out
  exact (congrArg (fun X : Vec Ideal S1x3x16x128 .bf16 => k0_pay388 (k0_pay377 X) k0_pay384 (ix3 (0 : Fin 1) (0 : Fin 1) j)) (Memref.IsWhole.read_unread _ _)).trans (zeroOut_at _ j)

/-- The attention block of a grid point. -/
def blockG (c : Dev nD) (t : Fin (cf m).N) : S1x3x64x128.Idx → EReal := fun y =>
  blockAttn (iblk m (okM m) c 0 t) (iblk m (okM m) c 1 t) (iblk m (okM m) c 2 t) (iblk m (okM m) c 3 t)
    (iblk m (okM m) c 4 t) (iblk m (okM m) c 5 t) (iblk m (okM m) c 6 t) (iblk m (okM m) c 7 t) (iblk m (okM m) c 8 t) (lenAt m t) (y 1) (y 2) (y 3)

theorem out_attn (c : Dev nD) (t : Fin (cf m).N) (s : Fin 3) (h : Fin 64) (d : Fin 128) :
    ((outsAt0 m (okM m) c t).1 (ix4 (0 : Fin 1) s h d) : EReal) = blockG m c t (ix4 (0 : Fin 1) s h d) := by
  unfold outsAt0
  frame_out
  refine canon_block _ _ _ _ _ _ _ _ _ _ _ _ _ _ _ _ _ _ _ _ _ _ _ _ _ _ _ _ _ _ _ _ _ _ _ _ _ _ _ _ _ _ _ _ _ _ _ _ _ (iblk m (okM m) c 0 t) (iblk m (okM m) c 1 t) (iblk m (okM m) c 2 t) (iblk m (okM m) c 3 t)
      (iblk m (okM m) c 4 t) (iblk m (okM m) c 5 t) (iblk m (okM m) c 6 t) (iblk m (okM m) c 7 t) (iblk m (okM m) c 8 t) _ ?_ ?_ ?_ ?_ ?_ ?_ ?_ ?_ ?_ _ rfl s h d
  · exact Memref.IsWhole.read_unread _ _
  · exact Memref.IsWhole.read_unread _ _
  · exact Memref.IsWhole.read_unread _ _
  · exact Memref.IsWhole.read_unread _ _
  · exact Memref.IsWhole.read_unread _ _
  · exact ((View.read_writes_junk_eq_canon _ _).trans (View.canon_cons_unit_lit _ _ _ (by decide))).trans
      (congrArg (fun X : Vec Ideal S1x3x64x128 .bf16 => k0_pay390 X) (Memref.IsWhole.read_unread _ _))
  · exact ((View.read_writes_junk_eq_canon _ _).trans (View.canon_cons_unit_lit _ _ _ (by decide))).trans
      (congrArg₂ (fun (X : Vec Ideal S1x3x64x128 .bf16) (Y : Vec Ideal S1x3x16x128 .bf16) => masked (k0_pay392 (k0_pay391 X Y))) (Memref.IsWhole.read_unread _ _) (Memref.IsWhole.read_unread _ _))
  · exact fun b g c' => (scratch_at _ _ b g c').trans (congrFun (Memref.IsWhole.read_unread (hs0_7 m (okM m) t) (iblk m (okM m) c 7 t)) _)
  · exact fun b g c' => (scratch_at _ _ b g c').trans (congrFun (Memref.IsWhole.read_unread (hs0_8 m (okM m) t) (iblk m (okM m) c 8 t)) _)

end Cert.KernelIdeal.Val

end
-- ==== Proof.KValue.lean ====
/-
  The four result arrays of the kernel, element by element, from its arguments.
-/
module

public import proofs.«01_k».proof.Proof.KOut
public import Idealize.ShloMosaic.Lib.Pipeline.Covers
import Idealize.ShloMosaic.Lib.Claim

@[expose] public section

set_option maxRecDepth 16384

noncomputable section

namespace Cert.KernelIdeal.Val

open Cert.KernelIdeal Cert.KernelIdeal.Gen Cert.KernelIdeal.Trip Idealize.ShloMosaic Idealize.ShloMosaic.TcCoe Idealize.SL.Sem
open Idealize.ShloMosaic.Pipeline (Dat)
open Cert.Spec

variable (m : (ℓ : Loc nD τ sig) → Buf (Elt Ideal) ℓ)

/-! ## The blocks of a grid point -/

/-- The batch row of a grid point. -/
def brow (t : Fin (cf m).N) : Fin 96 := ⟨t.val, t.isLt⟩

theorem idx : ∀ t : Fin grid0.N, cc0_transform_0 (grid0.coords t) = ![t.val, 0, 0, 0] ∧ cc0_transform_1 (grid0.coords t) = ![t.val, 0, 0, 0] ∧ cc0_transform_2 (grid0.coords t) = ![t.val, 0, 0, 0] ∧ cc0_transform_3 (grid0.coords t) = ![t.val, 0, 0, 0] ∧ cc0_transform_4 (grid0.coords t) = ![t.val, 0, 0, 0] ∧ cc0_transform_5 (grid0.coords t) = ![t.val, 0, 0, 0] ∧ cc0_transform_6 (grid0.coords t) = ![t.val, 0, 0, 0] ∧ cc0_transform_7 (grid0.coords t) = ![t.val, 0, 0] ∧ cc0_transform_8 (grid0.coords t) = ![t.val, 0, 0] ∧ cc0_transform_9 (grid0.coords t) = ![t.val, 0, 0, 0] ∧ cc0_transform_10 (grid0.coords t) = ![t.val, 0, 0] ∧ cc0_transform_11 (grid0.coords t) = ![t.val, 0, 0] ∧ cc0_transform_12 (grid0.coords t) = ![t.val, 0, 0] := by
  decide +kernel

theorem index0 (t : Fin (cf m).N) : ((cf m).win 0).index t = ![t.val, 0, 0, 0] := (idx t).1

theorem index1 (t : Fin (cf m).N) : ((cf m).win 1).index t = ![t.val, 0, 0, 0] := (idx t).2.1

theorem index2 (t : Fin (cf m).N) : ((cf m).win 2).index t = ![t.val, 0, 0, 0] := (idx t).2.2.1

theorem index3 (t : Fin (cf m).N) : ((cf m).win 3).index t = ![t.val, 0, 0, 0] := (idx t).2.2.2.1

theorem index4 (t : Fin (cf m).N) : ((cf m).win 4).index t = ![t.val, 0, 0, 0] := (idx t).2.2.2.2.1

theorem index5 (t : Fin (cf m).N) : ((cf m).win 5).index t = ![t.val, 0, 0, 0] := (idx t).2.2.2.2.2.1

theorem index6 (t : Fin (cf m).N) : ((cf m).win 6).index t = ![t.val, 0, 0, 0] := (idx t).2.2.2.2.2.2.1

theorem index7 (t : Fin (cf m).N) : ((cf m).win 7).index t = ![t.val, 0, 0] := (idx t).2.2.2.2.2.2.2.1

theorem index8 (t : Fin (cf m).N) : ((cf m).win 8).index t = ![t.val, 0, 0] := (idx t).2.2.2.2.2.2.2.2.1

theorem index9 (t : Fin (cf m).N) : ((cf m).win 9).index t = ![t.val, 0, 0, 0] := (idx t).2.2.2.2.2.2.2.2.2.1

theorem index10 (t : Fin (cf m).N) : ((cf m).win 10).index t = ![t.val, 0, 0] := (idx t).2.2.2.2.2.2.2.2.2.2.1

theorem index11 (t : Fin (cf m).N) : ((cf m).win 11).index t = ![t.val, 0, 0] := (idx t).2.2.2.2.2.2.2.2.2.2.2.1

theorem index12 (t : Fin (cf m).N) : ((cf m).win 12).index t = ![t.val, 0, 0] := (idx t).2.2.2.2.2.2.2.2.2.2.2.2

theorem blk0 (c : Dev nD) (t : Fin (cf m).N) (i : Fin 3) (j : Fin 64) (k : Fin 128) : (iblk m (okM m) c 0 t (ix4 (0 : Fin 1) i j k) : EReal) = V m c main_arg0 (ix4 (brow m t) i j k) := by
  refine congrArg (V m c main_arg0) (funext fun (a : Fin 4) => Fin.ext ?_)
  refine (((cf m).win 0).rect_emb_val t _ a rfl).trans ?_
  rw [index0]
  match a with
  | 0 => simp [brow, ix4]
  | 1 => simp [brow, ix4]
  | 2 => simp [brow, ix4]
  | 3 => simp [brow, ix4]

theorem blk1 (c : Dev nD) (t : Fin (cf m).N) (i : Fin 3) (j : Fin 16) (k : Fin 128) : (iblk m (okM m) c 1 t (ix4 (0 : Fin 1) i j k) : EReal) = V m c main_arg1 (ix4 (brow m t) i j k) := by
  refine congrArg (V m c main_arg1) (funext fun (a : Fin 4) => Fin.ext ?_)
  refine (((cf m).win 1).rect_emb_val t _ a rfl).trans ?_
  rw [index1]
  match a with
  | 0 => simp [brow, ix4]
  | 1 => simp [brow, ix4]
  | 2 => simp [brow, ix4]
  | 3 => simp [brow, ix4]

theorem blk2 (c : Dev nD) (t : Fin (cf m).N) (i : Fin 3) (j : Fin 16) (k : Fin 128) : (iblk m (okM m) c 2 t (ix4 (0 : Fin 1) i j k) : EReal) = V m c main_arg2 (ix4 (brow m t) i j k) := by
  refine congrArg (V m c main_arg2) (funext fun (a : Fin 4) => Fin.ext ?_)
  refine (((cf m).win 2).rect_emb_val t _ a rfl).trans ?_
  rw [index2]
  match a with
  | 0 => simp [brow, ix4]
  | 1 => simp [brow, ix4]
  | 2 => simp [brow, ix4]
  | 3 => simp [brow, ix4]

theorem blk3 (c : Dev nD) (t : Fin (cf m).N) (i : Fin 16) (j : Fin 352) (k : Fin 128) : (iblk m (okM m) c 3 t (ix4 (0 : Fin 1) i j k) : BitVec 8) = V m c main_arg4 (ix4 (brow m t) i j k) := by
  refine congrArg (V m c main_arg4) (funext fun (a : Fin 4) => Fin.ext ?_)
  refine (((cf m).win 3).rect_emb_val t _ a rfl).trans ?_
  rw [index3]
  match a with
  | 0 => simp [brow, ix4]
  | 1 => simp [brow, ix4]
  | 2 => simp [brow, ix4]
  | 3 => simp [brow, ix4]

theorem blk4 (c : Dev nD) (t : Fin (cf m).N) (i : Fin 44) (j : Fin 16) (k : Fin 128) : (iblk m (okM m) c 4 t (ix4 (0 : Fin 1) i j k) : EReal) = V m c main_v0 (ix4 (brow m t) i j k) := by
  refine congrArg (V m c main_v0) (funext fun (a : Fin 4) => Fin.ext ?_)
  refine (((cf m).win 4).rect_emb_val t _ a rfl).trans ?_
  rw [index4]
  match a with
  | 0 => simp [brow, ix4]
  | 1 => simp [brow, ix4]
  | 2 => simp [brow, ix4]
  | 3 => simp [brow, ix4]

theorem blk5 (c : Dev nD) (t : Fin (cf m).N) (i : Fin 44) (j : Fin 16) (k : Fin 128) : (iblk m (okM m) c 5 t (ix4 (0 : Fin 1) i j k) : EReal) = V m c main_v1 (ix4 (brow m t) i j k) := by
  refine congrArg (V m c main_v1) (funext fun (a : Fin 4) => Fin.ext ?_)
  refine (((cf m).win 5).rect_emb_val t _ a rfl).trans ?_
  rw [index5]
  match a with
  | 0 => simp [brow, ix4]
  | 1 => simp [brow, ix4]
  | 2 => simp [brow, ix4]
  | 3 => simp [brow, ix4]

theorem blk6 (c : Dev nD) (t : Fin (cf m).N) (i : Fin 16) (j : Fin 32) (k : Fin 1408) : (iblk m (okM m) c 6 t (ix4 (0 : Fin 1) i j k) : BitVec 8) = V m c main_v2 (ix4 (brow m t) i j k) := by
  refine congrArg (V m c main_v2) (funext fun (a : Fin 4) => Fin.ext ?_)
  refine (((cf m).win 6).rect_emb_val t _ a rfl).trans ?_
  rw [index6]
  match a with
  | 0 => simp [brow, ix4]
  | 1 => simp [brow, ix4]
  | 2 => simp [brow, ix4]
  | 3 => simp [brow, ix4]

theorem blk7 (c : Dev nD) (t : Fin (cf m).N) (i : Fin 16) (j : Fin 1408) : (iblk m (okM m) c 7 t (ix3 (0 : Fin 1) i j) : EReal) = V m c main_arg8 (ix3 (brow m t) i j) := by
  refine congrArg (V m c main_arg8) (funext fun (a : Fin 3) => Fin.ext ?_)
  refine (((cf m).win 7).rect_emb_val t _ a rfl).trans ?_
  rw [index7]
  match a with
  | 0 => simp [brow, ix3]
  | 1 => simp [brow, ix3]
  | 2 => simp [brow, ix3]

theorem blk8 (c : Dev nD) (t : Fin (cf m).N) (i : Fin 16) (j : Fin 1408) : (iblk m (okM m) c 8 t (ix3 (0 : Fin 1) i j) : EReal) = V m c main_arg9 (ix3 (brow m t) i j) := by
  refine congrArg (V m c main_arg9) (funext fun (a : Fin 3) => Fin.ext ?_)
  refine (((cf m).win 8).rect_emb_val t _ a rfl).trans ?_
  rw [index8]
  match a with
  | 0 => simp [brow, ix3]
  | 1 => simp [brow, ix3]
  | 2 => simp [brow, ix3]

/-- The arrays that the host transposes before the call. -/
theorem V_main_v0 (c : Dev nD) : V m c main_v0 = transpose S96x44x16x128 [0, 2, 1, 3] (m ((c : Thread nD τ).loc main_arg5) : Vec Ideal S96x16x44x128 .bf16) transposes_S96x16x44x128_S96x44x16x128_0_2_1_3 := by
  entry_read
  rfl

theorem V_main_v1 (c : Dev nD) : V m c main_v1 = transpose S96x44x16x128 [0, 2, 1, 3] (m ((c : Thread nD τ).loc main_arg6) : Vec Ideal S96x16x44x128 .bf16) transposes_S96x16x44x128_S96x44x16x128_0_2_1_3 := by
  entry_read
  rfl

theorem V_main_v2 (c : Dev nD) : V m c main_v2 = transpose S96x16x32x1408 [0, 1, 3, 2] (m ((c : Thread nD τ).loc main_arg7) : Vec Ideal S96x16x1408x32 .i8) transposes_S96x16x1408x32_S96x16x32x1408_0_1_3_2 := by
  entry_read
  rfl

theorem v0_at (c : Dev nD) (b : Fin 96) (i : Fin 44) (g : Fin 16) (d : Fin 128) :
    (V m c main_v0 (ix4 b i g d) : EReal) = (m ((c : Thread nD τ).loc main_arg5) : Vec Ideal S96x16x44x128 .bf16) (ix4 b g i d) := by
  rw [V_main_v0]
  pointwise

theorem v1_at (c : Dev nD) (b : Fin 96) (i : Fin 44) (g : Fin 16) (d : Fin 128) :
    (V m c main_v1 (ix4 b i g d) : EReal) = (m ((c : Thread nD τ).loc main_arg6) : Vec Ideal S96x16x44x128 .bf16) (ix4 b g i d) := by
  rw [V_main_v1]
  pointwise

theorem v2_at (c : Dev nD) (b : Fin 96) (g : Fin 16) (j : Fin 32) (t : Fin 1408) :
    (V m c main_v2 (ix4 b g j t) : BitVec 8) = (m ((c : Thread nD τ).loc main_arg7) : Vec Ideal S96x16x1408x32 .i8) (ix4 b g t j) := by
  rw [V_main_v2]
  pointwise

theorem off1_at : ∀ t : Fin grid0.N, k0_off1 (grid0.coords t) 0 = t.val := by decide +kernel

theorem len_at (c : Dev nD) (t : Fin (cf m).N) : lenAt m t = ((m ((c : Thread nD τ).loc main_arg3) : Vec Ideal S96 .i32) (ix1 (brow m t)) : BitVec 32) := by
  refine (congrArg (tbl m 0) (funext fun (a : Fin 1) => Fin.ext ?_)).trans (congrFun ((V_pre m c 0).symm.trans (V_main_arg3 m c)) _)
  match a with
  | 0 => exact (ValueKit.rect_emb_unit_val _ _ (k0_off1_inb (grid0.coords t)) _ 0).trans (congrArg (· + 0) (off1_at t))

/-- The attention of batch row `b`, query `s`, head `h`, channel `d`, from the arrays. -/
def attnAt (x : Vec Ideal S96x3x64x128 .bf16) (kn vn : Vec Ideal S96x3x16x128 .bf16) (len : Vec Ideal S96 .i32) (ck : Vec Ideal S96x16x352x128 .i8)
    (ks kz : Vec Ideal S96x16x44x128 .bf16) (cv : Vec Ideal S96x16x1408x32 .i8) (vs vz : Vec Ideal S96x16x1408 .f32) (b : Fin 96) (s : Fin 3) (h : Fin 64) (d : Fin 128) : EReal :=
  blockAttn (fun y => x (ix4 b (y 1) (y 2) (y 3))) (fun y => kn (ix4 b (y 1) (y 2) (y 3))) (fun y => vn (ix4 b (y 1) (y 2) (y 3))) (fun y => ck (ix4 b (y 1) (y 2) (y 3)))
    (fun y => ks (ix4 b (y 2) (y 1) (y 3))) (fun y => kz (ix4 b (y 2) (y 1) (y 3))) (fun y => cv (ix4 b (y 1) (y 3) (y 2))) (fun y => vs (ix3 b (y 1) (y 2))) (fun y => vz (ix3 b (y 1) (y 2)))
    (len (ix1 b)) s h d

theorem blockAttn_congr {X X' : Vec Ideal S1x3x64x128 .bf16} {KN KN' VN VN' : Vec Ideal S1x3x16x128 .bf16} {CK CK' : Vec Ideal S1x16x352x128 .i8} {KS KS' KZ KZ' : Vec Ideal S1x44x16x128 .bf16}
    {CV CV' : Vec Ideal S1x16x32x1408 .i8} {VS VS' VZ VZ' : Vec Ideal S1x16x1408 .f32} {len len' : BitVec 32} (h0 : X = X') (h1 : KN = KN') (h2 : VN = VN') (h3 : CK = CK') (h4 : KS = KS')
    (h5 : KZ = KZ') (h6 : CV = CV') (h7 : VS = VS') (h8 : VZ = VZ') (hl : len = len') (s : Fin 3) (h : Fin 64) (d : Fin 128) :
    blockAttn X KN VN CK KS KZ CV VS VZ len s h d = blockAttn X' KN' VN' CK' KS' KZ' CV' VS' VZ' len' s h d := by
  subst h0 h1 h2 h3 h4 h5 h6 h7 h8 hl; rfl

theorem ext4 {α : Type} {n1 n2 n3 : Nat} (f g : (⟨4, ![1, n1, n2, n3]⟩ : Shape).Idx → α) (h : ∀ i j k, f (ix4 (0 : Fin 1) i j k) = g (ix4 (0 : Fin 1) i j k)) : f = g :=
  funext fun y => by
    obtain ⟨y0, y1, y2, y3, rfl⟩ : ∃ (y0 : Fin 1) (y1 : Fin n1) (y2 : Fin n2) (y3 : Fin n3), y = ix4 y0 y1 y2 y3 := ⟨y 0, y 1, y 2, y 3, eq_ix4 y⟩
    obtain rfl : y0 = 0 := Subsingleton.elim _ _
    exact h _ _ _

theorem ext3 {α : Type} {n1 n2 : Nat} (f g : (⟨3, ![1, n1, n2]⟩ : Shape).Idx → α) (h : ∀ i j, f (ix3 (0 : Fin 1) i j) = g (ix3 (0 : Fin 1) i j)) : f = g :=
  funext fun y => by
    obtain ⟨y0, y1, y2, rfl⟩ : ∃ (y0 : Fin 1) (y1 : Fin n1) (y2 : Fin n2), y = ix3 y0 y1 y2 := ⟨y 0, y 1, y 2, eq_ix3 y⟩
    obtain rfl : y0 = 0 := Subsingleton.elim _ _
    exact h _ _

/-- The block of a grid point, from the arrays. -/
theorem blockG_at (c : Dev nD) (t : Fin (cf m).N) (s : Fin 3) (h : Fin 64) (d : Fin 128) : blockG m c t (ix4 (0 : Fin 1) s h d)
    = attnAt (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) (brow m t) s h d :=
  blockAttn_congr
    (ext4 _ _ fun i j k => (blk0 m c t i j k).trans (congrFun (V_main_arg0 m c) _))
    (ext4 _ _ fun i j k => (blk1 m c t i j k).trans (congrFun (V_main_arg1 m c) _))
    (ext4 _ _ fun i j k => (blk2 m c t i j k).trans (congrFun (V_main_arg2 m c) _))
    (ext4 _ _ fun i j k => (blk3 m c t i j k).trans (congrFun (V_main_arg4 m c) _))
    (ext4 _ _ fun i j k => (blk4 m c t i j k).trans (v0_at m c _ i j k))
    (ext4 _ _ fun i j k => (blk5 m c t i j k).trans (v1_at m c _ i j k))
    (ext4 _ _ fun i j k => (blk6 m c t i j k).trans (v2_at m c _ i j k))
    (ext3 _ _ fun i j => (blk7 m c t i j).trans (congrFun (V_main_arg8 m c) _))
    (ext3 _ _ fun i j => (blk8 m c t i j).trans (congrFun (V_main_arg9 m c) _))
    (len_at m c t) s h d

/-- A new value row, from the array. -/
abbrev vnrow (vn : Vec Ideal S96x3x16x128 .bf16) (b : Fin 96) (i : Fin 48) : Fin 128 → EReal :=
  fun d => vn (ix4 b (⟨i.val / 16, by omega⟩ : Fin 3) (⟨i.val % 16, by omega⟩ : Fin 16) d)

theorem vrow_arr (c : Dev nD) (t : Fin (cf m).N) (i : Fin 48) : vrow (iblk m (okM m) c 2 t) i = vnrow (m ((c : Thread nD τ).loc main_arg2)) (brow m t) i :=
  funext fun d => (blk2 m c t _ _ d).trans (congrFun (V_main_arg2 m c) _)

theorem nblk9 : ∀ a : Fin 4, ((cf m).win 9).nblk a = ![96, 1, 1, 1] a := fun (a : Fin 4) => by
  match a with
  | 0 => exact (by decide : (96 + 1 - 1) / 1 = 96)
  | 1 => exact (by decide : (3 + 3 - 1) / 3 = 1)
  | 2 => exact (by decide : (64 + 64 - 1) / 64 = 1)
  | 3 => exact (by decide : (128 + 128 - 1) / 128 = 1)

theorem cov9 : ((cf m).win 9).Covers :=
  ((cf m).win 9).covers_of_index_surj rfl (fun (a : Fin 4) => by
    match a with
    | 0 => exact (by decide : 0 < 1)
    | 1 => exact (by decide : 0 < 3)
    | 2 => exact (by decide : 0 < 64)
    | 3 => exact (by decide : 0 < 128)
) fun β => by
    have hb : ∀ a : Fin 4, (β a).val < ![96, 1, 1, 1] a := fun a => lt_of_lt_of_eq (β a).isLt (nblk9 m a)
    refine ⟨⟨(β (0 : Fin 4)).val, lt_of_lt_of_eq (hb 0) (by decide +kernel : 96 = grid0.N)⟩, fun (a : Fin 4) => ?_⟩
    rw [index9]
    match a with
    | 0 => rfl
    | 1 => exact (Nat.lt_one_iff.mp (hb 1)).symm
    | 2 => exact (Nat.lt_one_iff.mp (hb 2)).symm
    | 3 => exact (Nat.lt_one_iff.mp (hb 3)).symm

/-- Result 1 of the kernel. -/
def res9 (c : Dev nD) : S96x3x64x128.Idx → EReal := fun y =>
  attnAt (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) (y 0) (y 1) (y 2) (y 3)

theorem arr9 (c : Dev nD) : (dats m (okM m) 0 c).arrAt 9 (cf m).N = res9 m c := by
  refine (dats m (okM m) 0 c).arrAt_eq_of_covers 9 _ (cov9 m) fun t _ y => ?_
  blk_simp
  rw [after0_9]
  refine (?_ : ∀ y : Shape.Idx ⟨4, ![1, 3, 64, 128]⟩, (outsAt0 m (okM m) c t).1 y = res9 m c ((((cf m).win 9).blk t).view.emb y)) y
  intro y
  obtain ⟨y0, y1, y2, y3, rfl⟩ : ∃ (y0 : Fin 1) (y1 : Fin 3) (y2 : Fin 64) (y3 : Fin 128), y = ix4 y0 y1 y2 y3 := ⟨y 0, y 1, y 2, y 3, eq_ix4 y⟩
  obtain rfl : y0 = 0 := Subsingleton.elim _ _
  have e : ∀ y : Shape.Idx ⟨4, ![1, 3, 64, 128]⟩, y = ix4 (0 : Fin 1) y1 y2 y3 → (((cf m).win 9).blk t).view.emb y = ix4 (brow m t) y1 y2 y3 := fun y hy => funext fun (a : Fin 4) => Fin.ext (by
    subst hy
    refine (((cf m).win 9).rect_emb_val t _ a rfl).trans ?_
    rw [index9]
    match a with
    | 0 => simp [brow, ix4]
    | 1 => simp [brow, ix4]
    | 2 => simp [brow, ix4]
    | 3 => simp [brow, ix4])
  refine Eq.trans ?_ (congrArg (res9 m c) (e _ rfl)).symm
  exact (out_attn m c t y1 y2 y3).trans (blockG_at m c t y1 y2 y3)

theorem nblk10 : ∀ a : Fin 3, ((cf m).win 10).nblk a = ![96, 1, 1] a := fun (a : Fin 3) => by
  match a with
  | 0 => exact (by decide : (96 + 1 - 1) / 1 = 96)
  | 1 => exact (by decide : (48 + 48 - 1) / 48 = 1)
  | 2 => exact (by decide : (32 + 32 - 1) / 32 = 1)

theorem cov10 : ((cf m).win 10).Covers :=
  ((cf m).win 10).covers_of_index_surj rfl (fun (a : Fin 3) => by
    match a with
    | 0 => exact (by decide : 0 < 1)
    | 1 => exact (by decide : 0 < 48)
    | 2 => exact (by decide : 0 < 32)
) fun β => by
    have hb : ∀ a : Fin 3, (β a).val < ![96, 1, 1] a := fun a => lt_of_lt_of_eq (β a).isLt (nblk10 m a)
    refine ⟨⟨(β (0 : Fin 3)).val, lt_of_lt_of_eq (hb 0) (by decide +kernel : 96 = grid0.N)⟩, fun (a : Fin 3) => ?_⟩
    rw [index10]
    match a with
    | 0 => rfl
    | 1 => exact (Nat.lt_one_iff.mp (hb 1)).symm
    | 2 => exact (Nat.lt_one_iff.mp (hb 2)).symm

/-- Result 2 of the kernel. -/
def res10 (c : Dev nD) : S96x48x32.Idx → BitVec 8 := fun y =>
  byte (vnrow (m ((c : Thread nD τ).loc main_arg2)) (y 0) (y 1)) (y 2)

theorem arr10 (c : Dev nD) : (dats m (okM m) 0 c).arrAt 10 (cf m).N = res10 m c := by
  refine (dats m (okM m) 0 c).arrAt_eq_of_covers 10 _ (cov10 m) fun t _ y => ?_
  blk_simp
  rw [after0_10]
  refine (?_ : ∀ y : Shape.Idx ⟨3, ![1, 48, 32]⟩, (outsAt0 m (okM m) c t).2.1 y = res10 m c ((((cf m).win 10).blk t).view.emb y)) y
  intro y
  obtain ⟨y0, y1, y2, rfl⟩ : ∃ (y0 : Fin 1) (y1 : Fin 48) (y2 : Fin 32), y = ix3 y0 y1 y2 := ⟨y 0, y 1, y 2, eq_ix3 y⟩
  obtain rfl : y0 = 0 := Subsingleton.elim _ _
  have e : ∀ y : Shape.Idx ⟨3, ![1, 48, 32]⟩, y = ix3 (0 : Fin 1) y1 y2 → (((cf m).win 10).blk t).view.emb y = ix3 (brow m t) y1 y2 := fun y hy => funext fun (a : Fin 3) => Fin.ext (by
    subst hy
    refine (((cf m).win 10).rect_emb_val t _ a rfl).trans ?_
    rw [index10]
    match a with
    | 0 => simp [brow, ix3]
    | 1 => simp [brow, ix3]
    | 2 => simp [brow, ix3])
  refine Eq.trans ?_ (congrArg (res10 m c) (e _ rfl)).symm
  exact (out_codes m c t y1 y2).trans (congrArg (fun v => byte v y2) (vrow_arr m c t y1))

theorem nblk11 : ∀ a : Fin 3, ((cf m).win 11).nblk a = ![96, 1, 1] a := fun (a : Fin 3) => by
  match a with
  | 0 => exact (by decide : (96 + 1 - 1) / 1 = 96)
  | 1 => exact (by decide : (1 + 1 - 1) / 1 = 1)
  | 2 => exact (by decide : (48 + 48 - 1) / 48 = 1)

theorem cov11 : ((cf m).win 11).Covers :=
  ((cf m).win 11).covers_of_index_surj rfl (fun (a : Fin 3) => by
    match a with
    | 0 => exact (by decide : 0 < 1)
    | 1 => exact (by decide : 0 < 1)
    | 2 => exact (by decide : 0 < 48)
) fun β => by
    have hb : ∀ a : Fin 3, (β a).val < ![96, 1, 1] a := fun a => lt_of_lt_of_eq (β a).isLt (nblk11 m a)
    refine ⟨⟨(β (0 : Fin 3)).val, lt_of_lt_of_eq (hb 0) (by decide +kernel : 96 = grid0.N)⟩, fun (a : Fin 3) => ?_⟩
    rw [index11]
    match a with
    | 0 => rfl
    | 1 => exact (Nat.lt_one_iff.mp (hb 1)).symm
    | 2 => exact (Nat.lt_one_iff.mp (hb 2)).symm

/-- Result 3 of the kernel. -/
def res11 (c : Dev nD) : S96x1x48.Idx → EReal := fun y =>
  scOf (vnrow (m ((c : Thread nD τ).loc main_arg2)) (y 0) (y 2))

theorem arr11 (c : Dev nD) : (dats m (okM m) 0 c).arrAt 11 (cf m).N = res11 m c := by
  refine (dats m (okM m) 0 c).arrAt_eq_of_covers 11 _ (cov11 m) fun t _ y => ?_
  blk_simp
  rw [after0_11]
  refine (?_ : ∀ y : Shape.Idx ⟨3, ![1, 1, 48]⟩, (outsAt0 m (okM m) c t).2.2.1 y = res11 m c ((((cf m).win 11).blk t).view.emb y)) y
  intro y
  obtain ⟨y0, y1, y2, rfl⟩ : ∃ (y0 : Fin 1) (y1 : Fin 1) (y2 : Fin 48), y = ix3 y0 y1 y2 := ⟨y 0, y 1, y 2, eq_ix3 y⟩
  obtain rfl : y0 = 0 := Subsingleton.elim _ _
  obtain rfl : y1 = 0 := Subsingleton.elim _ _
  have e : ∀ y : Shape.Idx ⟨3, ![1, 1, 48]⟩, y = ix3 (0 : Fin 1) (0 : Fin 1) y2 → (((cf m).win 11).blk t).view.emb y = ix3 (brow m t) (0 : Fin 1) y2 := fun y hy => funext fun (a : Fin 3) => Fin.ext (by
    subst hy
    refine (((cf m).win 11).rect_emb_val t _ a rfl).trans ?_
    rw [index11]
    match a with
    | 0 => simp [brow, ix3]
    | 1 => simp [brow, ix3]
    | 2 => simp [brow, ix3])
  refine Eq.trans ?_ (congrArg (res11 m c) (e _ rfl)).symm
  exact (out_scale m c t y2).trans (congrArg scOf (vrow_arr m c t y2))

theorem nblk12 : ∀ a : Fin 3, ((cf m).win 12).nblk a = ![96, 1, 1] a := fun (a : Fin 3) => by
  match a with
  | 0 => exact (by decide : (96 + 1 - 1) / 1 = 96)
  | 1 => exact (by decide : (1 + 1 - 1) / 1 = 1)
  | 2 => exact (by decide : (48 + 48 - 1) / 48 = 1)

theorem cov12 : ((cf m).win 12).Covers :=
  ((cf m).win 12).covers_of_index_surj rfl (fun (a : Fin 3) => by
    match a with
    | 0 => exact (by decide : 0 < 1)
    | 1 => exact (by decide : 0 < 1)
    | 2 => exact (by decide : 0 < 48)
) fun β => by
    have hb : ∀ a : Fin 3, (β a).val < ![96, 1, 1] a := fun a => lt_of_lt_of_eq (β a).isLt (nblk12 m a)
    refine ⟨⟨(β (0 : Fin 3)).val, lt_of_lt_of_eq (hb 0) (by decide +kernel : 96 = grid0.N)⟩, fun (a : Fin 3) => ?_⟩
    rw [index12]
    match a with
    | 0 => rfl
    | 1 => exact (Nat.lt_one_iff.mp (hb 1)).symm
    | 2 => exact (Nat.lt_one_iff.mp (hb 2)).symm

/-- Result 4 of the kernel. -/
def res12 (c : Dev nD) : S96x1x48.Idx → EReal := fun y =>
  mnOf (vnrow (m ((c : Thread nD τ).loc main_arg2)) (y 0) (y 2))

theorem arr12 (c : Dev nD) : (dats m (okM m) 0 c).arrAt 12 (cf m).N = res12 m c := by
  refine (dats m (okM m) 0 c).arrAt_eq_of_covers 12 _ (cov12 m) fun t _ y => ?_
  blk_simp
  rw [after0_12]
  refine (?_ : ∀ y : Shape.Idx ⟨3, ![1, 1, 48]⟩, (outsAt0 m (okM m) c t).2.2.2 y = res12 m c ((((cf m).win 12).blk t).view.emb y)) y
  intro y
  obtain ⟨y0, y1, y2, rfl⟩ : ∃ (y0 : Fin 1) (y1 : Fin 1) (y2 : Fin 48), y = ix3 y0 y1 y2 := ⟨y 0, y 1, y 2, eq_ix3 y⟩
  obtain rfl : y0 = 0 := Subsingleton.elim _ _
  obtain rfl : y1 = 0 := Subsingleton.elim _ _
  have e : ∀ y : Shape.Idx ⟨3, ![1, 1, 48]⟩, y = ix3 (0 : Fin 1) (0 : Fin 1) y2 → (((cf m).win 12).blk t).view.emb y = ix3 (brow m t) (0 : Fin 1) y2 := fun y hy => funext fun (a : Fin 3) => Fin.ext (by
    subst hy
    refine (((cf m).win 12).rect_emb_val t _ a rfl).trans ?_
    rw [index12]
    match a with
    | 0 => simp [brow, ix3]
    | 1 => simp [brow, ix3]
    | 2 => simp [brow, ix3])
  refine Eq.trans ?_ (congrArg (res12 m c) (e _ rfl)).symm
  exact (out_zero m c t y2).trans (congrArg mnOf (vrow_arr m c t y2))

end Cert.KernelIdeal.Val

end
-- ==== Proof.KRun.lean ====
/-
  The kernel's run: it ends with the four result arrays named by `res9` … `res12`, the arguments as they were.
-/
module

public import proofs.«01_k».proof.Proof.KValue
import Idealize.ShloMosaic.Lib.Claim

@[expose] public section

set_option maxRecDepth 16384

noncomputable section

namespace Cert.KernelIdeal.Val

open Cert.KernelIdeal Cert.KernelIdeal.Gen Cert.KernelIdeal.Trip Idealize.ShloMosaic Idealize.ShloMosaic.TcCoe Idealize.SL.Sem
open Idealize.ShloMosaic.Pipeline (Dat)
open Cert.Spec

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v3_0) = res9 m c
      ∧ r.2.mem ((c.tc : Thread nD τ).loc main_v3_1) = res10 m c
      ∧ r.2.mem ((c.tc : Thread nD τ).loc main_v3_2) = res11 m c
      ∧ r.2.mem ((c.tc : Thread nD τ).loc main_v3_3) = res12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ) :=
  (θ_run defs _ _).mono (fun r h c => ⟨((h.2 c).1 9).trans (arr9 m c), ((h.2 c).1 10).trans (arr10 m c), ((h.2 c).1 11).trans (arr11 m c), ((h.2 c).1 12).trans (arr12 m c), h.1 c⟩)
    (θ_run_and (unchanged m ρ (okM m)) (run_main m ρ (okM m)))

end Cert.KernelIdeal.Val

end
-- ==== Proof.RQuant.lean ====
/-
  The reference read at an index, on extended reals: the quantiser and the packed codes.
-/
module

public import proofs.«01_k».proof.Proof.Gen.ReferenceIdeal.Run
public import Idealize.ShloMosaic.Lib.Tactic.CleanTypes
public import proofs.«01_k».proof.Proof.Spec
public import proofs.«01_k».proof.Proof.Quant

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Spec

variable (V0 : Valuation τ sig (Elt Ideal))

/-! ## The argument arrays -/

abbrev aX : Vec Ideal S96x3x64x128 .bf16 := V0 (Proc.devRef .tc main_arg0)
abbrev aKN : Vec Ideal S96x3x16x128 .bf16 := V0 (Proc.devRef .tc main_arg1)
abbrev aVN : Vec Ideal S96x3x16x128 .bf16 := V0 (Proc.devRef .tc main_arg2)
abbrev aLen : Vec Ideal S96 .i32 := V0 (Proc.devRef .tc main_arg3)
abbrev aCK : Vec Ideal S96x16x352x128 .i8 := V0 (Proc.devRef .tc main_arg4)
abbrev aKS : Vec Ideal S96x16x44x128 .bf16 := V0 (Proc.devRef .tc main_arg5)
abbrev aKZ : Vec Ideal S96x16x44x128 .bf16 := V0 (Proc.devRef .tc main_arg6)
abbrev aCV : Vec Ideal S96x16x1408x32 .i8 := V0 (Proc.devRef .tc main_arg7)
abbrev aVS : Vec Ideal S96x16x1408 .f32 := V0 (Proc.devRef .tc main_arg8)
abbrev aVZ : Vec Ideal S96x16x1408 .f32 := V0 (Proc.devRef .tc main_arg9)

/-- A new value row. -/
abbrev vr (b : Fin 96) (t : Fin 3) (g : Fin 16) : Fin 128 → EReal := fun d => aVN V0 (ix4 b t g d)

/-! ## The quantiser -/

theorem v1_at (b : Fin 96) (t : Fin 3) (g : Fin 16) (d : Fin 128) : (res_main_v1 V0 (ix4 b t g d) : EReal) = aVN V0 (ix4 b t g d) := by
  unfold res_main_v1
  clean_types
  pointwise

theorem v2_at (b : Fin 96) (t : Fin 3) (g : Fin 16) : (res_main_v2 V0 (ix3 b t g) : EReal) = mnOf (vr V0 b t g) := by
  unfold res_main_v2
  clean_types
  pointwise
  simp only [v1_at]
  rfl

theorem v3_at (b : Fin 96) (t : Fin 3) (g : Fin 16) : (res_main_v3 V0 (ix3 b t g) : EReal) = mxOf (vr V0 b t g) := by
  unfold res_main_v3
  clean_types
  pointwise
  simp only [v1_at]
  rfl

theorem one_bits : id (constant S_ FTy.f32 1065353216#32 : FVec Ideal S_ .f32) ix0 = (1 : EReal) := by
  simp [constant, Ideal.ofBits, Ideal.ieee, -EReal.coe_mul]
  norm_num

theorem v8_at (b : Fin 96) (t : Fin 3) (g : Fin 16) : (res_main_v8 V0 (ix3 b t g) : EReal) = scOf (vr V0 b t g) := by
  unfold res_main_v8
  clean_types
  pointwise
  simp only [v2_at, v3_at]
  exact if_congr Iff.rfl one_bits rfl

theorem v18_at (b : Fin 96) (t : Fin 3) (g : Fin 16) (j : Fin 32) (f : Fin 4) :
    (res_main_v18 V0 (ix5 b t g j f) : BitVec 32) = BitVec.ofNat 32 (qn (vr V0 b t g) ⟨4 * j.val + f.val, by omega⟩) := by
  rw [← fptosi_nat _ (lt_trans (qn_lt _ _) (by norm_num)), ← qz_eq]
  unfold res_main_v18
  clean_types
  pointwise
  simp only [v1_at, v2_at, v8_at]
  have e : (⟨j.val * 4 + f.val, by omega⟩ : Fin 128) = ⟨4 * j.val + f.val, by omega⟩ := Fin.ext (by dsimp only; omega)
  rw [e]
  have z : id (constant S_ FTy.f32 0#32 : FVec Ideal S_ .f32) ix0 = (0 : EReal) := by simp [constant, Ideal.ofBits, Ideal.ieee]
  unfold qz
  exact congrArg (fun y => Ideal.fptosi 32 (min _ (max y _))) z

theorem v36_at (b : Fin 96) (t : Fin 3) (g : Fin 16) (j : Fin 32) : (res_main_v36 V0 (ix4 b t g j) : BitVec 8) = byte (vr V0 b t g) j := by
  refine Eq.trans ?_ (byte_or ⟨_, qn_lt (vr V0 b t g) ⟨4 * j.val, by omega⟩⟩ ⟨_, qn_lt (vr V0 b t g) ⟨4 * j.val + 1, by omega⟩⟩ ⟨_, qn_lt (vr V0 b t g) ⟨4 * j.val + 2, by omega⟩⟩ ⟨_, qn_lt (vr V0 b t g) ⟨4 * j.val + 3, by omega⟩⟩).symm
  unfold res_main_v36
  clean_types
  pointwise
  simp only [v18_at]
  rfl

end Cert.ReferenceIdeal.Value

end
-- ==== Proof.RScore.lean ====
/-
  The reference read at an index, on extended reals: the masked scores.
-/
module

public import proofs.«01_k».proof.Proof.RQuant

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Spec

variable (V0 : Valuation τ sig (Elt Ideal))

theorem neg_inf : id (constant S_ FTy.f32 4286578688#32 : FVec Ideal S_ .f32) ix0 = (⊥ : EReal) := by
  simp [constant, Ideal.ofBits, Ideal.ieee]

/-! ## The operands -/

theorem v0_at (b : Fin 96) (s : Fin 3) (g : Fin 16) (r : Fin 4) (x : Fin 128) :
    (res_main_v0 V0 (ix5 b s g r x) : EReal) = aX V0 (ix4 b s (⟨4 * g.val + r.val, by omega⟩ : Fin 64) x) := by
  unfold res_main_v0
  clean_types
  pointwise
  exact congrArg (fun h : Fin 64 => aX V0 (ix4 b s h x)) (Fin.ext (by dsimp only; omega))

theorem v38_at (b : Fin 96) (g : Fin 16) (i : Fin 352) (x : Fin 128) :
    (res_main_v38 V0 (ix4 b g i x) : EReal) = aKS V0 (ix4 b g (⟨i.val / 8, by omega⟩ : Fin 44) x) := by
  unfold res_main_v38
  clean_types
  pointwise

theorem v40_at (b : Fin 96) (g : Fin 16) (i : Fin 352) (x : Fin 128) :
    (res_main_v40 V0 (ix4 b g i x) : EReal) = aKZ V0 (ix4 b g (⟨i.val / 8, by omega⟩ : Fin 44) x) := by
  unfold res_main_v40
  clean_types
  pointwise

/-! ## The scores -/

/-- A field of a byte, shifted down and masked. -/
theorem field_word : ∀ (f : Fin 4) (b : BitVec 8),
    IntOp.andi (IntOp.shrsi ArithUnit.host (b.setWidth 32) (BitVec.ofNat 32 (2 * f.val))) 3#32 = (b.setWidth 32 >>> (2 * f.val)) &&& 3#32 := by
  decide +kernel

/-- The scores, unmasked, of the tokens held by one field of the key bytes, over its operands. -/
def dotField (ck : IVec S96x16x352x128 8) (ks kz : FVec Ideal S96x16x352x128 .bf16) (x : FVec Ideal S96x3x16x4x128 .bf16) (w : BitVec 32) : FVec Ideal S96x3x16x4x352x1 .f32 :=
  broadcastInDim S96x3x16x4x352x1 ![0, 1, 2, 3, 4] bcast_S96x3x16x4x352_S96x3x16x4x352x1_0_1_2_3_4 (transpose S96x3x16x4x352 [0, 3, 1, 4, 2] (Host.dotGeneral (φ₁ := .bf16) (φ₂ := .bf16) dot_S96x16x352x128_S96x3x16x4x128_S96x16x352x3x4_3_4_2_13_01_02 none (addf (mulf (truncf .bf16 (sitofp .f32 (andi (Host.shrsi (extui 32 ck natLt_8_32) (broadcastInDim S96x16x352x128 ![] bcast_S_S96x16x352x128 (constantI S_ 32 w))) (broadcastInDim S96x16x352x128 ![] bcast_S_S96x16x352x128 (constantI S_ 32 3#32)))) bitsLt_bf16_f32) ks) kz) x) transposes_S96x16x352x3x4_S96x3x16x4x352_0_3_1_4_2)

theorem dotField_at (ck : IVec S96x16x352x128 8) (ks kz : FVec Ideal S96x16x352x128 .bf16) (x : FVec Ideal S96x3x16x4x128 .bf16) (f : Fin 4)
    (b : Fin 96) (s : Fin 3) (g : Fin 16) (r : Fin 4) (i : Fin 352) :
    (dotField ck ks kz x (BitVec.ofNat 32 (2 * f.val)) (ix6 b s g r i (0 : Fin 1)) : EReal)
      = ∑ d : Fin 128, x (ix5 b s g r d) * (code (ck (ix4 b g i d)) f.val * ks (ix4 b g i d) + kz (ix4 b g i d)) := by
  pointwise [dotField]
  simp only [field_word]
  exact Finset.sum_congr rfl fun d _ => mul_comm _ _

/-- The four fields' scores, interleaved into token order. -/
def joined (f0 f1 f2 f3 : FVec Ideal S96x3x16x4x352x1 .f32) : FVec Ideal S96x3x16x4x1408 .f32 :=
  shapeCast S96x3x16x4x1408 (concatenate S96x3x16x4x352x4 5 [⟨S96x3x16x4x352x1, f0⟩, ⟨S96x3x16x4x352x1, f1⟩, ⟨S96x3x16x4x352x1, f2⟩, ⟨S96x3x16x4x352x1, f3⟩] concatenates_S96x3x16x4x352x1_S96x3x16x4x352x1_S96x3x16x4x352x1_S96x3x16x4x352x1_S96x3x16x4x352x4_d5) shapeCasts_S96x3x16x4x352x4_S96x3x16x4x1408

theorem joined_at (F : Fin 4 → FVec Ideal S96x3x16x4x352x1 .f32) (b : Fin 96) (s : Fin 3) (g : Fin 16) (r : Fin 4) (t : Fin 1408) :
    (joined (F 0) (F 1) (F 2) (F 3) (ix5 b s g r t) : EReal) = F ⟨t.val % 4, by omega⟩ (ix6 b s g r (⟨t.val / 4, by omega⟩ : Fin 352) (0 : Fin 1)) := by
  have key : ∀ (f : Fin 4) (z : Fin 1), t.val % 4 = f.val →
      F f (ix6 b s g r (⟨t.val / 4, by omega⟩ : Fin 352) z) = F ⟨t.val % 4, by omega⟩ (ix6 b s g r (⟨t.val / 4, by omega⟩ : Fin 352) (0 : Fin 1)) := fun f z h => by
    have e : (⟨t.val % 4, by omega⟩ : Fin 4) = f := Fin.ext h
    rw [e, Subsingleton.elim z 0]
  pointwise [joined]
  by_cases h0 : t.val % 4 < 1
  · rw [dif_pos h0]; exact key 0 _ (by show t.val % 4 = 0; omega)
  rw [dif_neg h0]
  by_cases h1 : t.val % 4 - 1 < 1
  · rw [dif_pos h1]; exact key 1 _ (by show t.val % 4 = 1; omega)
  rw [dif_neg h1]
  by_cases h2 : t.val % 4 - 1 - 1 < 1
  · rw [dif_pos h2]; exact key 2 _ (by show t.val % 4 = 2; omega)
  rw [dif_neg h2]
  exact key 3 _ (by show t.val % 4 = 3; omega)

/-- The cached tokens' scores masked by the length, over their operands. -/
def maskedC (len : IVec S96 32) (sc : FVec Ideal S96x3x16x4x1408 .f32) : FVec Ideal S96x3x16x4x1408 .f32 :=
  select (broadcastInDim S96x3x16x4x1408 ![0, 1, 2, 3, 4] bcast_S96x1x1x1x1408_S96x3x16x4x1408_0_1_2_3_4 (broadcastInDim S96x1x1x1x1408 ![0, 4] bcast_S96x1408_S96x1x1x1x1408_0_4 (cmpi .slt (broadcastInDim S96x1408 ![0, 1] bcast_S1x1408_S96x1408_0_1 (broadcastInDim S1x1408 ![1] bcast_S1408_S1x1408_1 (iotaInDim S1408 32 0))) (broadcastInDim S96x1408 ![0, 1] bcast_S96x1_S96x1408_0_1 (broadcastInDim S96x1 ![0] bcast_S96_S96x1_0 len))))) (mulf sc (broadcastInDim S96x3x16x4x1408 ![] bcast_S_S96x3x16x4x1408 (constant S_ .f32 0x3DB504F3#32))) (broadcastInDim S96x3x16x4x1408 ![] bcast_S_S96x3x16x4x1408 (id (constant S_ .f32 0xFF800000#32)))

theorem maskedC_at (len : IVec S96 32) (sc : FVec Ideal S96x3x16x4x1408 .f32) (b : Fin 96) (s : Fin 3) (g : Fin 16) (r : Fin 4) (t : Fin 1408) :
    (maskedC len sc (ix5 b s g r t) : EReal) = if (BitVec.ofNat 32 t.val).slt (len (ix1 b)) then sc (ix5 b s g r t) * scl else ⊥ := by
  pointwise [maskedC]
  rw [neg_inf]
  by_cases h : (BitVec.ofNat 32 t.val).slt (len (ix1 b))
  · rw [if_pos h]; unfold IntOp.cmpi; simp only [h]; rfl
  · rw [if_neg h]; unfold IntOp.cmpi; simp only [h]; rfl

theorem v100_eq : (res_main_v100 V0 : FVec Ideal S96x3x16x4x1408 .f32) = maskedC (aLen V0) (joined (dotField (aCK V0) (res_main_v38 V0) (res_main_v40 V0) (res_main_v0 V0) 0#32)
    (dotField (aCK V0) (res_main_v38 V0) (res_main_v40 V0) (res_main_v0 V0) 2#32) (dotField (aCK V0) (res_main_v38 V0) (res_main_v40 V0) (res_main_v0 V0) 4#32)
    (dotField (aCK V0) (res_main_v38 V0) (res_main_v40 V0) (res_main_v0 V0) 6#32)) := rfl

theorem v100_at (b : Fin 96) (s : Fin 3) (g : Fin 16) (r : Fin 4) (t : Fin 1408) : (res_main_v100 V0 (ix5 b s g r t) : EReal)
    = scoreC (fun x => aX V0 (ix4 b s (⟨4 * g.val + r.val, by omega⟩ : Fin 64) x)) (fun i x => (aCK V0 (ix4 b g i x) : BitVec 8)) (fun i x => aKS V0 (ix4 b g i x)) (fun i x => aKZ V0 (ix4 b g i x))
        (aLen V0 (ix1 b)) t := by
  refine (congrFun (v100_eq V0) _).trans ((maskedC_at _ _ b s g r t).trans ?_)
  unfold scoreC
  refine if_congr Iff.rfl (congrArg (· * scl) ?_) rfl
  refine (joined_at (fun f => dotField (aCK V0) (res_main_v38 V0) (res_main_v40 V0) (res_main_v0 V0) (BitVec.ofNat 32 (2 * f.val))) b s g r t).trans ?_
  refine (dotField_at _ _ _ _ ⟨t.val % 4, by omega⟩ b s g r _).trans (Finset.sum_congr rfl fun d _ => ?_)
  have e : (⟨t.val / 4 / 8, by omega⟩ : Fin 44) = ⟨t.val / 32, by omega⟩ := Fin.ext (by dsimp only; omega)
  rw [v0_at, v38_at, v40_at, e]

/-- The new tokens' scores, masked by position, over their operands. -/
def maskedN (kn : FVec Ideal S96x3x16x128 .bf16) (x : FVec Ideal S96x3x16x4x128 .bf16) : FVec Ideal S96x3x16x4x3 .f32 :=
  select (broadcastInDim S96x3x16x4x3 ![0, 1, 2, 3, 4] bcast_S1x3x1x1x3_S96x3x16x4x3_0_1_2_3_4 (broadcastInDim S1x3x1x1x3 ![1, 4] bcast_S3x3_S1x3x1x1x3_1_4 (cmpi .sle (broadcastInDim S3x3 ![0, 1] bcast_S1x3_S3x3_0_1 (broadcastInDim S1x3 ![1] bcast_S3_S1x3_1 (iotaInDim S3 32 0))) (broadcastInDim S3x3 ![0, 1] bcast_S3x1_S3x3_0_1 (broadcastInDim S3x1 ![0] bcast_S3_S3x1_0 (iotaInDim S3 32 0)))))) (mulf (transpose S96x3x16x4x3 [0, 3, 1, 4, 2] (Host.dotGeneral (φ₁ := .bf16) (φ₂ := .bf16) dot_S96x3x16x128_S96x3x16x4x128_S96x16x3x3x4_3_4_1_13_02_02 none kn x) transposes_S96x16x3x3x4_S96x3x16x4x3_0_3_1_4_2) (broadcastInDim S96x3x16x4x3 ![] bcast_S_S96x3x16x4x3 (constant S_ .f32 0x3DB504F3#32))) (broadcastInDim S96x3x16x4x3 ![] bcast_S_S96x3x16x4x3 (id (constant S_ .f32 0xFF800000#32)))

theorem maskedN_at (kn : FVec Ideal S96x3x16x128 .bf16) (x : FVec Ideal S96x3x16x4x128 .bf16) (b : Fin 96) (s : Fin 3) (g : Fin 16) (r : Fin 4) (t : Fin 3) :
    (maskedN kn x (ix5 b s g r t) : EReal) = scoreN (fun d => x (ix5 b s g r d)) (fun t d => kn (ix4 b t g d)) s t := by
  pointwise [maskedN]
  unfold scoreN
  have hs : ∀ f h : Fin 128 → EReal, ∑ d, f d * h d = ∑ d, h d * f d := fun f h => Finset.sum_congr rfl fun d _ => mul_comm _ _
  rw [hs]
  have hc : IntOp.cmpi CmpIPredicate.sle (BitVec.ofNat 32 t.val) (BitVec.ofNat 32 s.val) = if t.val ≤ s.val then 1#1 else 0#1 := by
    revert t s; decide +kernel
  rw [hc]
  by_cases h : t.val ≤ s.val
  · rw [if_pos h, if_pos h]; rfl
  · rw [if_neg h, if_neg h]; exact neg_inf

theorem v113_at (b : Fin 96) (s : Fin 3) (g : Fin 16) (r : Fin 4) (t : Fin 3) : (res_main_v113 V0 (ix5 b s g r t) : EReal)
    = scoreN (fun x => aX V0 (ix4 b s (⟨4 * g.val + r.val, by omega⟩ : Fin 64) x)) (fun t x => aKN V0 (ix4 b t g x)) s t := by
  refine (maskedN_at (aKN V0) (res_main_v0 V0) b s g r t).trans ?_
  rw [show (fun d => res_main_v0 V0 (ix5 b s g r d)) = _ from funext fun d => v0_at V0 b s g r d]

end Cert.ReferenceIdeal.Value

end
-- ==== Proof.ROut.lean ====
/-
  The reference read at an index, on extended reals: the weights, the value products, the four results.
-/
module

public import proofs.«01_k».proof.Proof.RScore

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Spec

variable (V0 : Valuation τ sig (Elt Ideal))

/-! ## The weights -/

/-- The masked scores of one query row. -/
abbrev sNr (b : Fin 96) (s : Fin 3) (g : Fin 16) (r : Fin 4) : Fin 3 → EReal :=
  scoreN (fun x => aX V0 (ix4 b s (⟨4 * g.val + r.val, by omega⟩ : Fin 64) x)) (fun t x => aKN V0 (ix4 b t g x)) s
abbrev sCr (b : Fin 96) (s : Fin 3) (g : Fin 16) (r : Fin 4) : Fin 1408 → EReal :=
  scoreC (fun x => aX V0 (ix4 b s (⟨4 * g.val + r.val, by omega⟩ : Fin 64) x)) (fun i x => (aCK V0 (ix4 b g i x) : BitVec 8)) (fun i x => aKS V0 (ix4 b g i x)) (fun i x => aKZ V0 (ix4 b g i x))
    (aLen V0 (ix1 b))

theorem foldSup {ι : Type} [Fintype ι] (x : EReal) (hx : x = ⊥) (f : ι → EReal) :
    (Finset.univ : Finset ι).fold (FloatOps.maximumf (F := Ideal) (φ := .f32)) x f = Finset.univ.sup f := by
  subst hx; rfl

theorem rowMaxC (v : FVec Ideal S96x3x16x4x1408 .f32) (b : Fin 96) (s : Fin 3) (g : Fin 16) (r : Fin 4) :
    (Host.reduce FloatOps.maximumf v (constant (F := Ideal) S_ .f32 0xFF800000#32) reducesTo_S96x3x16x4x1408_S96x3x16x4_d4 h_S_ (ix4 b s g r) : Ideal .f32) = Finset.univ.sup fun t : Fin 1408 => (v (ix5 b s g r t) : EReal) :=
  (Host.reduce_eq_fold _ _ _ _ _ _).trans ((reducesTo_S96x3x16x4x1408_S96x3x16x4_d4.fold_fiber_r5_a4 _ _ _ _).trans (foldSup _ neg_inf _))

theorem rowMaxN (v : FVec Ideal S96x3x16x4x3 .f32) (b : Fin 96) (s : Fin 3) (g : Fin 16) (r : Fin 4) :
    (Host.reduce FloatOps.maximumf v (constant (F := Ideal) S_ .f32 0xFF800000#32) reducesTo_S96x3x16x4x3_S96x3x16x4_d4 h_S_ (ix4 b s g r) : Ideal .f32) = Finset.univ.sup fun t : Fin 3 => (v (ix5 b s g r t) : EReal) :=
  (Host.reduce_eq_fold _ _ _ _ _ _).trans ((reducesTo_S96x3x16x4x3_S96x3x16x4_d4.fold_fiber_r5_a4 _ _ _ _).trans (foldSup _ neg_inf _))

/-- The greater of two rows' values, as a column. -/
def greater (a c : FVec Ideal S96x3x16x4 .f32) : FVec Ideal S96x3x16x4x1 .f32 :=
  broadcastInDim S96x3x16x4x1 ![0, 1, 2, 3] bcast_S96x3x16x4_S96x3x16x4x1_0_1_2_3 (maximumf a c)

theorem greater_at (a c : FVec Ideal S96x3x16x4 .f32) (b : Fin 96) (s : Fin 3) (g : Fin 16) (r : Fin 4) :
    (greater a c (ix5 b s g r (0 : Fin 1)) : EReal) = max (a (ix4 b s g r) : EReal) (c (ix4 b s g r)) := by
  pointwise [greater]

theorem topOf_at (sc : FVec Ideal S96x3x16x4x1408 .f32) (sn : FVec Ideal S96x3x16x4x3 .f32) (b : Fin 96) (s : Fin 3) (g : Fin 16) (r : Fin 4) :
    (greater (Host.reduce FloatOps.maximumf sc (constant S_ .f32 0xFF800000#32) reducesTo_S96x3x16x4x1408_S96x3x16x4_d4 h_S_) (Host.reduce FloatOps.maximumf sn (constant S_ .f32 0xFF800000#32) reducesTo_S96x3x16x4x3_S96x3x16x4_d4 h_S_)
        (ix5 b s g r (0 : Fin 1)) : EReal) = top (fun t => sn (ix5 b s g r t)) (fun t => sc (ix5 b s g r t)) :=
  (greater_at _ _ b s g r).trans (congrArg₂ max (rowMaxC sc b s g r) (rowMaxN sn b s g r))

theorem v117_at (b : Fin 96) (s : Fin 3) (g : Fin 16) (r : Fin 4) :
    (res_main_v117 V0 (ix5 b s g r (0 : Fin 1)) : EReal) = top (sNr V0 b s g r) (sCr V0 b s g r) := by
  refine (topOf_at (res_main_v100 V0) (res_main_v113 V0) b s g r).trans ?_
  exact congrArg₂ top (funext fun t => v113_at V0 b s g r t) (funext fun t => v100_at V0 b s g r t)

theorem v120_at (b : Fin 96) (s : Fin 3) (g : Fin 16) (r : Fin 4) (t : Fin 1408) :
    (res_main_v120 V0 (ix5 b s g r t) : EReal) = wC (sNr V0 b s g r) (sCr V0 b s g r) t := by
  unfold res_main_v120
  clean_types
  pointwise
  simp only [v100_at, v117_at]
  rfl

theorem v123_at (b : Fin 96) (s : Fin 3) (g : Fin 16) (r : Fin 4) (t : Fin 3) :
    (res_main_v123 V0 (ix5 b s g r t) : EReal) = wN (sNr V0 b s g r) (sCr V0 b s g r) t := by
  unfold res_main_v123
  clean_types
  pointwise
  simp only [v113_at, v117_at]
  rfl

theorem v128_at (b : Fin 96) (s : Fin 3) (g : Fin 16) (r : Fin 4) :
    (res_main_v128 V0 (ix5 b s g r (0 : Fin 1)) : EReal) = total (sNr V0 b s g r) (sCr V0 b s g r) := by
  unfold res_main_v128
  clean_types
  pointwise
  simp only [v120_at, v123_at]
  rfl

theorem v130_at (b : Fin 96) (s : Fin 3) (g : Fin 16) (r : Fin 4) (t : Fin 1408) :
    (res_main_v130 V0 (ix5 b s g r t) : EReal) = Ideal.div (wC (sNr V0 b s g r) (sCr V0 b s g r) t) (total (sNr V0 b s g r) (sCr V0 b s g r)) := by
  unfold res_main_v130
  clean_types
  pointwise
  simp only [v120_at, v128_at]

theorem v132_at (b : Fin 96) (s : Fin 3) (g : Fin 16) (r : Fin 4) (t : Fin 3) :
    (res_main_v132 V0 (ix5 b s g r t) : EReal) = Ideal.div (wN (sNr V0 b s g r) (sCr V0 b s g r) t) (total (sNr V0 b s g r) (sCr V0 b s g r)) := by
  unfold res_main_v132
  clean_types
  pointwise
  simp only [v123_at, v128_at]

theorem v136_at (b : Fin 96) (s : Fin 3) (g : Fin 16) (r : Fin 4) (t : Fin 1408) :
    (res_main_v136 V0 (ix5 b s g r t) : EReal) = Ideal.div (wC (sNr V0 b s g r) (sCr V0 b s g r) t) (total (sNr V0 b s g r) (sCr V0 b s g r)) * aVS V0 (ix3 b g t) := by
  unfold res_main_v136
  clean_types
  pointwise
  simp only [v130_at]

theorem v141_at (b : Fin 96) (s : Fin 3) (g : Fin 16) (r : Fin 4) (t : Fin 3) :
    (res_main_v141 V0 (ix5 b s g r t) : EReal) = Ideal.div (wN (sNr V0 b s g r) (sCr V0 b s g r) t) (total (sNr V0 b s g r) (sCr V0 b s g r)) * scOf (vr V0 b t g) := by
  unfold res_main_v141
  clean_types
  pointwise
  simp only [v132_at, v8_at]

/-! ## The value products -/

/-- One field's sum of codes times weights, over its operands. -/
def sumField (cv : IVec S96x16x1408x32 8) (cn : IVec S96x3x16x32 8) (wc : FVec Ideal S96x3x16x4x1408 .bf16) (wn : FVec Ideal S96x3x16x4x3 .bf16) (w : BitVec 32) : FVec Ideal S96x3x16x4x32x1 .f32 :=
  broadcastInDim S96x3x16x4x32x1 ![0, 1, 2, 3, 4] bcast_S96x3x16x4x32_S96x3x16x4x32x1_0_1_2_3_4 (addf (transpose S96x3x16x4x32 [0, 3, 1, 4, 2] (Host.dotGeneral (φ₁ := .bf16) (φ₂ := .bf16) dot_S96x16x1408x32_S96x3x16x4x1408_S96x16x32x3x4_2_4_3_13_01_02 none (truncf .bf16 (sitofp .f32 (andi (Host.shrsi (extui 32 cv natLt_8_32) (broadcastInDim S96x16x1408x32 ![] bcast_S_S96x16x1408x32 (constantI S_ 32 w))) (broadcastInDim S96x16x1408x32 ![] bcast_S_S96x16x1408x32 (constantI S_ 32 3#32)))) bitsLt_bf16_f32) wc) transposes_S96x16x32x3x4_S96x3x16x4x32_0_3_1_4_2) (transpose S96x3x16x4x32 [0, 3, 1, 4, 2] (Host.dotGeneral (φ₁ := .bf16) (φ₂ := .bf16) dot_S96x3x16x32_S96x3x16x4x3_S96x16x32x3x4_1_4_3_13_02_02 none (truncf .bf16 (sitofp .f32 (andi (Host.shrsi (extui 32 cn natLt_8_32) (broadcastInDim S96x3x16x32 ![] bcast_S_S96x3x16x32 (constantI S_ 32 w))) (broadcastInDim S96x3x16x32 ![] bcast_S_S96x3x16x32 (constantI S_ 32 3#32)))) bitsLt_bf16_f32) wn) transposes_S96x16x32x3x4_S96x3x16x4x32_0_3_1_4_2))

theorem sumField_at (cv : IVec S96x16x1408x32 8) (cn : IVec S96x3x16x32 8) (wc : FVec Ideal S96x3x16x4x1408 .bf16) (wn : FVec Ideal S96x3x16x4x3 .bf16) (f : Fin 4)
    (b : Fin 96) (s : Fin 3) (g : Fin 16) (r : Fin 4) (j : Fin 32) :
    (sumField cv cn wc wn (BitVec.ofNat 32 (2 * f.val)) (ix6 b s g r j (0 : Fin 1)) : EReal)
      = ∑ t : Fin 1408, code (cv (ix4 b g t j)) f.val * wc (ix5 b s g r t) + ∑ t : Fin 3, code (cn (ix4 b t g j)) f.val * wn (ix5 b s g r t) := by
  pointwise [sumField]
  simp only [field_word]
  rfl

/-- The four fields' sums side by side, and the zero points' sum added to each; over their operands. -/
def joinedV (f0 f1 f2 f3 : FVec Ideal S96x3x16x4x32x1 .f32) : FVec Ideal S96x3x16x4x32x4 .f32 :=
  concatenate S96x3x16x4x32x4 5 [⟨S96x3x16x4x32x1, f0⟩, ⟨S96x3x16x4x32x1, f1⟩, ⟨S96x3x16x4x32x1, f2⟩, ⟨S96x3x16x4x32x1, f3⟩] concatenates_S96x3x16x4x32x1_S96x3x16x4x32x1_S96x3x16x4x32x1_S96x3x16x4x32x1_S96x3x16x4x32x4_d5

theorem joinedV_at (F : Fin 4 → FVec Ideal S96x3x16x4x32x1 .f32) (b : Fin 96) (s : Fin 3) (g : Fin 16) (r : Fin 4) (j : Fin 32) (f : Fin 4) :
    (joinedV (F 0) (F 1) (F 2) (F 3) (ix6 b s g r j f) : EReal) = F f (ix6 b s g r j (0 : Fin 1)) := by
  have key : ∀ (f' : Fin 4) (z : Fin 1), f.val = f'.val → F f' (ix6 b s g r j z) = F f (ix6 b s g r j (0 : Fin 1)) := fun f' z h => by
    have e : f = f' := Fin.ext h
    rw [e, Subsingleton.elim z 0]
  have hf := f.isLt
  pointwise [joinedV]
  by_cases h0 : f.val < 1
  · rw [dif_pos h0]; exact key 0 _ (by show f.val = 0; omega)
  rw [dif_neg h0]
  by_cases h1 : f.val - 1 < 1
  · rw [dif_pos h1]; exact key 1 _ (by show f.val = 1; omega)
  rw [dif_neg h1]
  by_cases h2 : f.val - 1 - 1 < 1
  · rw [dif_pos h2]; exact key 2 _ (by show f.val = 2; omega)
  rw [dif_neg h2]
  exact key 3 _ (by show f.val = 3; omega)

theorem v222_eq : (res_main_v222 V0 : FVec Ideal S96x3x16x4x32x4 .f32)
    = joinedV (sumField (aCV V0) (res_main_v36 V0) (res_main_v136 V0) (res_main_v141 V0) 0#32) (sumField (aCV V0) (res_main_v36 V0) (res_main_v136 V0) (res_main_v141 V0) 2#32)
        (sumField (aCV V0) (res_main_v36 V0) (res_main_v136 V0) (res_main_v141 V0) 4#32) (sumField (aCV V0) (res_main_v36 V0) (res_main_v136 V0) (res_main_v141 V0) 6#32) := rfl

theorem v222_at (b : Fin 96) (s : Fin 3) (g : Fin 16) (r : Fin 4) (j : Fin 32) (f : Fin 4) : (res_main_v222 V0 (ix6 b s g r j f) : EReal)
    = ∑ t : Fin 1408, code (aCV V0 (ix4 b g t j)) f.val * (Ideal.div (wC (sNr V0 b s g r) (sCr V0 b s g r) t) (total (sNr V0 b s g r) (sCr V0 b s g r)) * aVS V0 (ix3 b g t))
      + ∑ t : Fin 3, code (byte (vr V0 b t g) j) f.val * (Ideal.div (wN (sNr V0 b s g r) (sCr V0 b s g r) t) (total (sNr V0 b s g r) (sCr V0 b s g r)) * scOf (vr V0 b t g)) := by
  refine (congrFun (v222_eq V0) _).trans ((joinedV_at (fun f => sumField (aCV V0) (res_main_v36 V0) (res_main_v136 V0) (res_main_v141 V0) (BitVec.ofNat 32 (2 * f.val))) b s g r j f).trans ?_)
  refine (sumField_at _ _ _ _ f b s g r j).trans ?_
  refine congrArg₂ (· + ·) (Finset.sum_congr rfl fun t _ => ?_) (Finset.sum_congr rfl fun t _ => ?_)
  · rw [v136_at]
  · rw [v141_at, v36_at]

/-- The first result, over its operands. -/
def outOf (o : FVec Ideal S96x3x16x4x32x4 .f32) (pc : FVec Ideal S96x3x16x4x1408 .f32) (pn : FVec Ideal S96x3x16x4x3 .f32) (vz : FVec Ideal S96x16x1408 .f32) (mn : FVec Ideal S96x3x16 .f32) : FVec Ideal S96x3x64x128 .bf16 :=
  truncf .bf16 (shapeCast S96x3x64x128 (addf (shapeCast S96x3x16x4x128 o shapeCasts_S96x3x16x4x32x4_S96x3x16x4x128) (broadcastInDim S96x3x16x4x128 ![0, 1, 2, 3, 4] bcast_S96x3x16x4x1_S96x3x16x4x128_0_1_2_3_4 (broadcastInDim S96x3x16x4x1 ![0, 1, 2, 3] bcast_S96x3x16x4_S96x3x16x4x1_0_1_2_3 (addf (transpose S96x3x16x4 [0, 2, 1, 3] (Host.dotGeneral (φ₁ := .f32) (φ₂ := .f32) dot_S96x16x1408_S96x3x16x4x1408_S96x16x3x4_2_4_n_13_01_02 (some .fp32) vz pc) transposes_S96x16x3x4_S96x3x16x4_0_2_1_3) (transpose S96x3x16x4 [0, 2, 1, 3] (Host.dotGeneral (φ₁ := .f32) (φ₂ := .f32) dot_S96x3x16_S96x3x16x4x3_S96x16x3x4_1_4_n_13_02_02 (some .fp32) mn pn) transposes_S96x16x3x4_S96x3x16x4_0_2_1_3))))) shapeCasts_S96x3x16x4x128_S96x3x64x128) bitsLt_bf16_f32

theorem outOf_at (o : FVec Ideal S96x3x16x4x32x4 .f32) (pc : FVec Ideal S96x3x16x4x1408 .f32) (pn : FVec Ideal S96x3x16x4x3 .f32) (vz : FVec Ideal S96x16x1408 .f32) (mn : FVec Ideal S96x3x16 .f32)
    (b : Fin 96) (s : Fin 3) (h : Fin 64) (d : Fin 128) : (outOf o pc pn vz mn (ix4 b s h d) : EReal)
    = o (ix6 b s (⟨h.val / 4, by omega⟩ : Fin 16) (⟨h.val % 4, by omega⟩ : Fin 4) (⟨d.val / 4, by omega⟩ : Fin 32) (⟨d.val % 4, by omega⟩ : Fin 4))
      + (∑ t : Fin 1408, pc (ix5 b s (⟨h.val / 4, by omega⟩ : Fin 16) (⟨h.val % 4, by omega⟩ : Fin 4) t) * vz (ix3 b (⟨h.val / 4, by omega⟩ : Fin 16) t)
          + ∑ t : Fin 3, pn (ix5 b s (⟨h.val / 4, by omega⟩ : Fin 16) (⟨h.val % 4, by omega⟩ : Fin 4) t) * mn (ix3 b t (⟨h.val / 4, by omega⟩ : Fin 16))) := by
  pointwise [outOf]
  exact congrArg₂ (· + ·) rfl (congrArg₂ (· + ·) (Finset.sum_congr rfl fun t _ => mul_comm _ _) (Finset.sum_congr rfl fun t _ => mul_comm _ _))

/-- The first result at an index: the attention with every weight divided first. -/
theorem out_at (b : Fin 96) (s : Fin 3) (h : Fin 64) (d : Fin 128) :
    (outOf (res_main_v222 V0) (res_main_v130 V0) (res_main_v132 V0) (aVZ V0) (res_main_v2 V0) (ix4 b s h d) : EReal)
    = attnEarly (scoreN (fun x => aX V0 (ix4 b s h x)) (fun t x => aKN V0 (ix4 b t (⟨h.val / 4, by omega⟩ : Fin 16) x)) s)
        (fun t => scOf (vr V0 b t ⟨h.val / 4, by omega⟩)) (fun t => mnOf (vr V0 b t ⟨h.val / 4, by omega⟩)) (fun t => qz (vr V0 b t ⟨h.val / 4, by omega⟩) d)
        (scoreC (fun x => aX V0 (ix4 b s h x)) (fun i x => (aCK V0 (ix4 b (⟨h.val / 4, by omega⟩ : Fin 16) i x) : BitVec 8)) (fun i x => aKS V0 (ix4 b (⟨h.val / 4, by omega⟩ : Fin 16) i x))
          (fun i x => aKZ V0 (ix4 b (⟨h.val / 4, by omega⟩ : Fin 16) i x)) (aLen V0 (ix1 b)))
        (fun t => aVS V0 (ix3 b (⟨h.val / 4, by omega⟩ : Fin 16) t)) (fun t => aVZ V0 (ix3 b (⟨h.val / 4, by omega⟩ : Fin 16) t))
        (fun t => code (aCV V0 (ix4 b (⟨h.val / 4, by omega⟩ : Fin 16) t (⟨d.val / 4, by omega⟩ : Fin 32)) : BitVec 8) (d.val % 4)) := by
  have e : (⟨4 * (h.val / 4) + h.val % 4, by omega⟩ : Fin 64) = h := Fin.ext (by dsimp only; omega)
  refine (outOf_at _ _ _ _ _ b s h d).trans ?_
  rw [v222_at]
  simp only [v130_at, v132_at, v2_at, code_byte, sNr, sCr, e]
  rfl

/-! ## The other results -/

theorem codes_at (b : Fin 96) (i : Fin 48) (j : Fin 32) :
    ((shapeCast S96x48x32 (res_main_v36 V0 : IVec S96x3x16x32 8) shapeCasts_S96x3x16x32_S96x48x32) (ix3 b i j) : BitVec 8) = byte (vr V0 b ⟨i.val / 16, by omega⟩ ⟨i.val % 16, by omega⟩) j := by
  pointwise
  exact v36_at V0 _ _ _ _

theorem scales_at (b : Fin 96) (i : Fin 48) :
    ((shapeCast S96x1x48 (res_main_v8 V0 : FVec Ideal S96x3x16 .f32) shapeCasts_S96x3x16_S96x1x48) (ix3 b (0 : Fin 1) i) : EReal) = scOf (vr V0 b ⟨i.val / 16, by omega⟩ ⟨i.val % 16, by omega⟩) := by
  pointwise
  exact v8_at V0 _ _ _

theorem zeros_at (b : Fin 96) (i : Fin 48) :
    ((shapeCast S96x1x48 (res_main_v2 V0 : FVec Ideal S96x3x16 .f32) shapeCasts_S96x3x16_S96x1x48) (ix3 b (0 : Fin 1) i) : EReal) = mnOf (vr V0 b ⟨i.val / 16, by omega⟩ ⟨i.val % 16, by omega⟩) := by
  pointwise
  exact v2_at V0 _ _ _

end Cert.ReferenceIdeal.Value

end
-- ==== Proof.Finite.lean ====
/-
  What the precondition says of the arrays, and what follows for the scores: a self score is a real, no score is `⊤`.
-/
module

public import proofs.«01_k».proof.Defs
public import proofs.«01_k».proof.Proof.Gen.Pre_finite_scores
public import proofs.«01_k».proof.Proof.Spec
public import proofs.«01_k».proof.Proof.Quant
import Idealize.ShloMosaic.Lib.Pointwise

@[expose] public section

set_option maxRecDepth 16384

noncomputable section

namespace Cert.Spec

open Idealize.ShloMosaic Idealize.ShloMosaic.TcCoe

/-- An extended real that is a real. -/
def IsReal (e : EReal) : Prop := ∃ r : ℝ, e = (r : EReal)

theorem IsReal.mul {a b : EReal} (ha : IsReal a) (hb : IsReal b) : IsReal (a * b) := by
  obtain ⟨r, rfl⟩ := ha; obtain ⟨q, rfl⟩ := hb; exact ⟨r * q, (EReal.coe_mul r q).symm⟩

theorem IsReal.add {a b : EReal} (ha : IsReal a) (hb : IsReal b) : IsReal (a + b) := by
  obtain ⟨r, rfl⟩ := ha; obtain ⟨q, rfl⟩ := hb; exact ⟨r + q, (EReal.coe_add r q).symm⟩

theorem IsReal.sum {ι : Type} [Fintype ι] {f : ι → EReal} (h : ∀ i, IsReal (f i)) : IsReal (∑ i, f i) := by
  choose r hr using h
  exact ⟨∑ i, r i, by rw [coe_sum]; exact Finset.sum_congr rfl fun i _ => hr i⟩

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem scoreN_ne_top (x : Fin 128 → EReal) (kn : Fin 3 → Fin 128 → EReal) (s t : Fin 3) (hx : ∀ d, IsReal (x d)) (hk : ∀ t d, IsReal (kn t d)) : scoreN x kn s t ≠ ⊤ := by
  unfold scoreN
  split_ifs
  · exact ((IsReal.sum fun d => (hx d).mul (hk t d)).mul scl_real).ne_top
  · exact bot_ne_top

theorem scoreN_self (x : Fin 128 → EReal) (kn : Fin 3 → Fin 128 → EReal) (s : Fin 3) (hx : ∀ d, IsReal (x d)) (hk : ∀ t d, IsReal (kn t d)) : scoreN x kn s s ≠ ⊥ := by
  unfold scoreN
  rw [if_pos le_rfl]
  exact ((IsReal.sum fun d => (hx d).mul (hk s d)).mul scl_real).ne_bot

theorem scoreC_ne_top (x : Fin 128 → EReal) (kb : Fin 352 → Fin 128 → BitVec 8) (ks kz : Fin 44 → Fin 128 → EReal) (len : BitVec 32) (t : Fin 1408)
    (hx : ∀ d, IsReal (x d)) (hs : ∀ i d, IsReal (ks i d)) (hz : ∀ i d, IsReal (kz i d)) : scoreC x kb ks kz len t ≠ ⊤ := by
  unfold scoreC
  split_ifs
  · exact ((IsReal.sum fun d => (hx d).mul ((IsReal.mul ⟨_, rfl⟩ (hs _ d)).add (hz _ d))).mul scl_real).ne_top
  · exact bot_ne_top

/-! ## The precondition -/

/-- A conjunction over a list is one only if every term is. -/
theorem all_of_foldl {α : Type} (f : α → BitVec 1) : ∀ (l : List α) (b : BitVec 1), l.foldl (fun r n => IntOp.andi r (f n)) b = 1#1 → b = 1#1 ∧ ∀ n ∈ l, f n = 1#1
  | [], b, h => ⟨h, fun n hn => absurd hn List.not_mem_nil⟩
  | a :: l, b, h => by
    obtain ⟨h1, h2⟩ := all_of_foldl f l _ h
    have key : ∀ p q : BitVec 1, IntOp.andi p q = 1#1 → p = 1#1 ∧ q = 1#1 := by decide
    obtain ⟨hb, ha⟩ := key _ _ h1
    exact ⟨hb, fun n hn => (List.mem_cons.mp hn).elim (fun e => e ▸ ha) (h2 n)⟩

theorem all_of_reduce {s t u : Shape} {axes : List (Fin s.rank)} (x : s.Idx → BitVec 1) (init : u.Idx → BitVec 1) (h : s.ReducesTo axes t) (hu : 0 < u.numel)
    (e : Host.reduce IntOp.andi x init h hu = fun _ => 1#1) (i : s.Idx) : x i = 1#1 := by
  have hj := congrFun e (h.drop i)
  have := (all_of_foldl (fun n => x (s.rowMajor.symm n)) _ _ hj).2 (s.rowMajor i) (by simp)
  simpa using this

theorem andi_ones {p q : IVec Cert.Pre_finite_scores.S_ 1} (h : andi p q = fun _ => 1#1) : (p = fun _ => 1#1) ∧ (q = fun _ => 1#1) := by
  have key : ∀ p q : BitVec 1, IntOp.andi p q = 1#1 → p = 1#1 ∧ q = 1#1 := by decide
  exact ⟨funext fun i => (key _ _ (congrFun h i)).1, funext fun i => (key _ _ (congrFun h i)).2⟩

theorem real_of_lt (x : EReal) (h : FloatOps.cmpf (F := Ideal) (φ := .bf16) .olt (FloatOps.absf (F := Ideal) (φ := .bf16) x) (Ideal.ofBits .bf16 0x7F80#16) = 1#1) : IsReal x := by
  have hT : Ideal.ofBits .bf16 0x7F80#16 = (⊤ : EReal) := by simp [Ideal.ofBits, Ideal.ieee]
  rw [hT] at h
  have h' : max x (-x) < ⊤ := by
    by_contra hn
    have h2 : Ideal.cmp .olt (max x (-x)) ⊤ = 1#1 := h
    simp [Ideal.cmp, hn] at h2
  induction x using EReal.rec with
  | bot => exact absurd h' (by simp)
  | coe r => exact ⟨r, rfl⟩
  | top => exact absurd h' (by simp)

theorem real_of_pre {s : Shape} {axes : List (Fin s.rank)} (x : FVec Ideal s .bf16) (hb : Cert.Pre_finite_scores.S_.BroadcastsInDim s (![] : Fin 0 → Fin s.rank)) (h : s.ReducesTo axes Cert.Pre_finite_scores.S_)
    (hu : 0 < Cert.Pre_finite_scores.S_.numel)
    (e : Host.reduce IntOp.andi (cmpf .olt (Host.absf x) (broadcastInDim s ![] hb (constant Cert.Pre_finite_scores.S_ .bf16 0x7F80#16))) (constantI Cert.Pre_finite_scores.S_ 1 1#1) h hu = fun _ => 1#1) (i : s.Idx) :
    IsReal (x i) :=
  real_of_lt (x i) (all_of_reduce _ _ h hu e i)

/-- The four arrays that the precondition names hold reals. -/
theorem finite_of_pre (m : (ℓ : Loc Cert.KernelIdeal.nD Cert.KernelIdeal.τ Cert.KernelIdeal.sig) → Buf (Elt Ideal) ℓ) (h : Cert.Pre_KernelIdeal_finite_scores m) (c : Dev Cert.KernelIdeal.nD) :
    (∀ i, IsReal ((m ((c.tc : Thread Cert.KernelIdeal.nD Cert.KernelIdeal.τ).loc Cert.KernelIdeal.main_arg0) : FVec Ideal Cert.Pre_finite_scores.S96x3x64x128 .bf16) i))
    ∧ (∀ i, IsReal ((m ((c.tc : Thread Cert.KernelIdeal.nD Cert.KernelIdeal.τ).loc Cert.KernelIdeal.main_arg1) : FVec Ideal Cert.Pre_finite_scores.S96x3x16x128 .bf16) i))
    ∧ (∀ i, IsReal ((m ((c.tc : Thread Cert.KernelIdeal.nD Cert.KernelIdeal.τ).loc Cert.KernelIdeal.main_arg5) : FVec Ideal Cert.Pre_finite_scores.S96x16x44x128 .bf16) i))
    ∧ (∀ i, IsReal ((m ((c.tc : Thread Cert.KernelIdeal.nD Cert.KernelIdeal.τ).loc Cert.KernelIdeal.main_arg6) : FVec Ideal Cert.Pre_finite_scores.S96x16x44x128 .bf16) i)) := by
  obtain ⟨h123, h4⟩ := andi_ones (h c)
  obtain ⟨h12, h3⟩ := andi_ones h123
  obtain ⟨h1, h2⟩ := andi_ones h12
  exact ⟨real_of_pre _ _ _ _ h1, real_of_pre _ _ _ _ h2, real_of_pre _ _ _ _ h3, real_of_pre _ _ _ _ h4⟩

end Cert.Spec

end
-- ==== Proof.Equal.lean ====
/-
  The kernel's four result arrays are the reference's.
-/
module

public import proofs.«01_k».proof.Proof.KRun
public import proofs.«01_k».proof.Proof.ROut
public import proofs.«01_k».proof.Proof.Finite

@[expose] public section

set_option maxRecDepth 16384

noncomputable section

namespace Cert.KernelIdeal.Val

open Cert.KernelIdeal Cert.KernelIdeal.Gen Idealize.ShloMosaic Idealize.ShloMosaic.TcCoe Idealize.SL.Sem
open Cert.Spec
open Cert.ReferenceIdeal.Value (aX aKN aVN aLen aCK aKS aKZ aCV aVS aVZ outOf out_at codes_at scales_at zeros_at)

/-- Where the scores are finite, the attention with the division last is the attention with the division first. -/
theorem attnAt_early (x : Vec Ideal S96x3x64x128 .bf16) (kn : Vec Ideal S96x3x16x128 .bf16) (vn : Vec Ideal S96x3x16x128 .bf16) (len : Vec Ideal S96 .i32) (ck : Vec Ideal S96x16x352x128 .i8) (ks : Vec Ideal S96x16x44x128 .bf16) (kz : Vec Ideal S96x16x44x128 .bf16) (cv : Vec Ideal S96x16x1408x32 .i8) (vs : Vec Ideal S96x16x1408 .f32) (vz : Vec Ideal S96x16x1408 .f32)
    (hx : ∀ i, IsReal (x i)) (hkn : ∀ i, IsReal (kn i)) (hks : ∀ i, IsReal (ks i)) (hkz : ∀ i, IsReal (kz i)) (b : Fin 96) (s : Fin 3) (h : Fin 64) (d : Fin 128) :
    attnAt x kn vn len ck ks kz cv vs vz b s h d
      = attnEarly (scoreN (fun d => x (ix4 b s h d)) (fun t d => kn (ix4 b t (⟨h.val / 4, by omega⟩ : Fin 16) d)) s)
        (fun t => scOf fun d => vn (ix4 b t (⟨h.val / 4, by omega⟩ : Fin 16) d)) (fun t => mnOf fun d => vn (ix4 b t (⟨h.val / 4, by omega⟩ : Fin 16) d)) (fun t => qz (fun d => vn (ix4 b t (⟨h.val / 4, by omega⟩ : Fin 16) d)) d)
        (scoreC (fun d => x (ix4 b s h d)) (fun i d => (ck (ix4 b (⟨h.val / 4, by omega⟩ : Fin 16) i d) : BitVec 8)) (fun i d => ks (ix4 b (⟨h.val / 4, by omega⟩ : Fin 16) i d)) (fun i d => kz (ix4 b (⟨h.val / 4, by omega⟩ : Fin 16) i d)) (len (ix1 b)))
        (fun t => vs (ix3 b (⟨h.val / 4, by omega⟩ : Fin 16) t)) (fun t => vz (ix3 b (⟨h.val / 4, by omega⟩ : Fin 16) t)) (fun t => code (cv (ix4 b (⟨h.val / 4, by omega⟩ : Fin 16) t (⟨d.val / 4, by omega⟩ : Fin 32)) : BitVec 8) (d.val % 4)) := by
  obtain ⟨l, hl, ht⟩ := total_real (scoreN (fun d => x (ix4 b s h d)) (fun t d => kn (ix4 b t (⟨h.val / 4, by omega⟩ : Fin 16) d)) s)
    (scoreC (fun d => x (ix4 b s h d)) (fun i d => (ck (ix4 b (⟨h.val / 4, by omega⟩ : Fin 16) i d) : BitVec 8)) (fun i d => ks (ix4 b (⟨h.val / 4, by omega⟩ : Fin 16) i d)) (fun i d => kz (ix4 b (⟨h.val / 4, by omega⟩ : Fin 16) i d)) (len (ix1 b)))
    (fun t => scoreN_ne_top _ _ _ _ (fun d => hx _) (fun t d => hkn _)) (fun t => scoreC_ne_top _ _ _ _ _ _ (fun d => hx _) (fun i d => hks _) (fun i d => hkz _)) s
    (scoreN_self _ _ _ (fun d => hx _) (fun t d => hkn _))
  exact attnLate_eq_attnEarly _ _ _ _ _ _ _ _ l hl ht

section Ref

variable (V0 : Valuation Cert.ReferenceIdeal.τ Cert.ReferenceIdeal.sig (Elt Ideal))

theorem ref_out (x : Vec Ideal S96x3x64x128 .bf16) (kn : Vec Ideal S96x3x16x128 .bf16) (vn : Vec Ideal S96x3x16x128 .bf16) (len : Vec Ideal S96 .i32) (ck : Vec Ideal S96x16x352x128 .i8) (ks : Vec Ideal S96x16x44x128 .bf16) (kz : Vec Ideal S96x16x44x128 .bf16) (cv : Vec Ideal S96x16x1408x32 .i8) (vs : Vec Ideal S96x16x1408 .f32) (vz : Vec Ideal S96x16x1408 .f32)
    (hx : ∀ i, IsReal (x i)) (hkn : ∀ i, IsReal (kn i)) (hks : ∀ i, IsReal (ks i)) (hkz : ∀ i, IsReal (kz i))
    (h0 : aX V0 = x) (h1 : aKN V0 = kn) (h2 : aVN V0 = vn) (h3 : aLen V0 = len) (h4 : aCK V0 = ck) (h5 : aKS V0 = ks) (h6 : aKZ V0 = kz) (h7 : aCV V0 = cv) (h8 : aVS V0 = vs) (h9 : aVZ V0 = vz)
    (b : Fin 96) (s : Fin 3) (h : Fin 64) (d : Fin 128) :
    (outOf (Cert.ReferenceIdeal.Value.res_main_v222 V0) (Cert.ReferenceIdeal.Value.res_main_v130 V0) (Cert.ReferenceIdeal.Value.res_main_v132 V0) (aVZ V0) (Cert.ReferenceIdeal.Value.res_main_v2 V0) (ix4 b s h d) : EReal)
      = attnAt x kn vn len ck ks kz cv vs vz b s h d := by
  subst h0 h1 h2 h3 h4 h5 h6 h7 h8 h9
  exact (out_at V0 b s h d).trans (attnAt_early _ _ _ _ _ _ _ _ _ _ hx hkn hks hkz b s h d).symm

end Ref

section Arrays

variable (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)

theorem eq_out
    (hx : ∀ i, IsReal ((m ((c.tc : Thread nD τ).loc main_arg0) : Vec Ideal S96x3x64x128 .bf16) i)) (hkn : ∀ i, IsReal ((m ((c.tc : Thread nD τ).loc main_arg1) : Vec Ideal S96x3x16x128 .bf16) i))
    (hks : ∀ i, IsReal ((m ((c.tc : Thread nD τ).loc main_arg5) : Vec Ideal S96x16x44x128 .bf16) i)) (hkz : ∀ i, IsReal ((m ((c.tc : Thread nD τ).loc main_arg6) : Vec Ideal S96x16x44x128 .bf16) i))
    (h0 : aX (StableHlo.launchContents m' c) = (m ((c.tc : Thread nD τ).loc main_arg0) : Vec Ideal S96x3x64x128 .bf16))
    (h1 : aKN (StableHlo.launchContents m' c) = (m ((c.tc : Thread nD τ).loc main_arg1) : Vec Ideal S96x3x16x128 .bf16))
    (h2 : aVN (StableHlo.launchContents m' c) = (m ((c.tc : Thread nD τ).loc main_arg2) : Vec Ideal S96x3x16x128 .bf16))
    (h3 : aLen (StableHlo.launchContents m' c) = (m ((c.tc : Thread nD τ).loc main_arg3) : Vec Ideal S96 .i32))
    (h4 : aCK (StableHlo.launchContents m' c) = (m ((c.tc : Thread nD τ).loc main_arg4) : Vec Ideal S96x16x352x128 .i8))
    (h5 : aKS (StableHlo.launchContents m' c) = (m ((c.tc : Thread nD τ).loc main_arg5) : Vec Ideal S96x16x44x128 .bf16))
    (h6 : aKZ (StableHlo.launchContents m' c) = (m ((c.tc : Thread nD τ).loc main_arg6) : Vec Ideal S96x16x44x128 .bf16))
    (h7 : aCV (StableHlo.launchContents m' c) = (m ((c.tc : Thread nD τ).loc main_arg7) : Vec Ideal S96x16x1408x32 .i8))
    (h8 : aVS (StableHlo.launchContents m' c) = (m ((c.tc : Thread nD τ).loc main_arg8) : Vec Ideal S96x16x1408 .f32))
    (h9 : aVZ (StableHlo.launchContents m' c) = (m ((c.tc : Thread nD τ).loc main_arg9) : Vec Ideal S96x16x1408 .f32)) :
    (outOf (Cert.ReferenceIdeal.Value.res_main_v222 (StableHlo.launchContents m' c)) (Cert.ReferenceIdeal.Value.res_main_v130 (StableHlo.launchContents m' c)) (Cert.ReferenceIdeal.Value.res_main_v132 (StableHlo.launchContents m' c)) (aVZ (StableHlo.launchContents m' c)) (Cert.ReferenceIdeal.Value.res_main_v2 (StableHlo.launchContents m' c)) : S96x3x64x128.Idx → EReal) = res9 m c :=
  funext fun y => by
    obtain ⟨b, s, h, d, rfl⟩ : ∃ (b : Fin 96) (s : Fin 3) (h : Fin 64) (d : Fin 128), y = ix4 b s h d := ⟨y 0, y 1, y 2, y 3, eq_ix4 y⟩
    exact ref_out (StableHlo.launchContents m' c) _ _ _ _ _ _ _ _ _ _ hx hkn hks hkz h0 h1 h2 h3 h4 h5 h6 h7 h8 h9 b s h d

theorem eq_codes (h2 : aVN (StableHlo.launchContents m' c) = (m ((c.tc : Thread nD τ).loc main_arg2) : Vec Ideal S96x3x16x128 .bf16)) :
    (shapeCast S96x48x32 (Cert.ReferenceIdeal.Value.res_main_v36 (StableHlo.launchContents m' c) : IVec Cert.ReferenceIdeal.S96x3x16x32 8) Cert.ReferenceIdeal.Gen.shapeCasts_S96x3x16x32_S96x48x32 : S96x48x32.Idx → BitVec 8) = res10 m c :=
  funext fun y => by
    obtain ⟨b, i, j, rfl⟩ : ∃ (b : Fin 96) (i : Fin 48) (j : Fin 32), y = ix3 b i j := ⟨y 0, y 1, y 2, eq_ix3 y⟩
    exact (codes_at (StableHlo.launchContents m' c) b i j).trans (congrArg (fun v : Vec Ideal S96x3x16x128 .bf16 => byte (vnrow v b i) j) h2)

theorem eq_scales (h2 : aVN (StableHlo.launchContents m' c) = (m ((c.tc : Thread nD τ).loc main_arg2) : Vec Ideal S96x3x16x128 .bf16)) :
    (shapeCast S96x1x48 (Cert.ReferenceIdeal.Value.res_main_v8 (StableHlo.launchContents m' c) : FVec Ideal Cert.ReferenceIdeal.S96x3x16 .f32) Cert.ReferenceIdeal.Gen.shapeCasts_S96x3x16_S96x1x48 : S96x1x48.Idx → EReal) = res11 m c :=
  funext fun y => by
    obtain ⟨b, z, i, rfl⟩ : ∃ (b : Fin 96) (z : Fin 1) (i : Fin 48), y = ix3 b z i := ⟨y 0, y 1, y 2, eq_ix3 y⟩
    obtain rfl : z = 0 := Subsingleton.elim _ _
    exact (scales_at (StableHlo.launchContents m' c) b i).trans (congrArg (fun v : Vec Ideal S96x3x16x128 .bf16 => scOf (vnrow v b i)) h2)

theorem eq_zeros (h2 : aVN (StableHlo.launchContents m' c) = (m ((c.tc : Thread nD τ).loc main_arg2) : Vec Ideal S96x3x16x128 .bf16)) :
    (shapeCast S96x1x48 (Cert.ReferenceIdeal.Value.res_main_v2 (StableHlo.launchContents m' c) : FVec Ideal Cert.ReferenceIdeal.S96x3x16 .f32) Cert.ReferenceIdeal.Gen.shapeCasts_S96x3x16_S96x1x48 : S96x1x48.Idx → EReal) = res12 m c :=
  funext fun y => by
    obtain ⟨b, z, i, rfl⟩ : ∃ (b : Fin 96) (z : Fin 1) (i : Fin 48), y = ix3 b z i := ⟨y 0, y 1, y 2, eq_ix3 y⟩
    obtain rfl : z = 0 := Subsingleton.elim _ _
    exact (zeros_at (StableHlo.launchContents m' c) b i).trans (congrArg (fun v : Vec Ideal S96x3x16x128 .bf16 => mnOf (vnrow v b i)) h2)

end Arrays

/-- The kernel's results are the reference's, on every device. -/
theorem algebraic : Cert.algebraic_KernelIdeal_ReferenceIdeal_pre_finite_scores := fun m g m' g' hpre hargs =>
  ⟨res9 m, res10 m, res11 m, res12 m, run m g, (θ_run _ _ _).mono (fun r h c => by
    obtain ⟨hx, hkn, hks, hkz⟩ := finite_of_pre m hpre c
    obtain ⟨h0, h1, h2, h3, h4, h5, h6, h7, h8, h9⟩ := hargs c
    obtain ⟨r0, r1, r2, r3, hr⟩ := h c
    exact ⟨r0.trans (eq_out m m' c hx hkn hks hkz h0 h1 h2 h3 h4 h5 h6 h7 h8 h9), r1.trans (eq_codes m m' c h2), r2.trans (eq_scales m m' c h2), r3.trans (eq_zeros m m' c h2), hr⟩)
    (Cert.ReferenceIdeal.Value.run (F := Ideal) m' g')⟩

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.Equal
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The kernel's prefetched table meets its (empty) condition. -/
theorem okKernel {F : FTy → Type} [FloatOps F] (m : (ℓ : Loc Kernel.nD Kernel.τ Kernel.sig) → Buf (Elt F) ℓ) : Kernel.Gen.Ok m := by
  unfold Kernel.Gen.Ok Cert.Kernel.ok0; trivial

/-- The idealized kernel's prefetched table meets its (empty) condition. -/
theorem okKernelIdeal {F : FTy → Type} [FloatOps F] [Named F] (m : (ℓ : Loc KernelIdeal.nD KernelIdeal.τ KernelIdeal.sig) → Buf (Elt F) ℓ) : KernelIdeal.Gen.Ok m := by
  unfold KernelIdeal.Gen.Ok Cert.KernelIdeal.ok0; trivial

theorem frame_Kernel : @Cert.quiescent_Kernel Cert.Kernel.Gen.facts := fun m g _ => Cert.Kernel.Gen.frame m g (okKernel m)

theorem frame_KernelIdeal : @Cert.quiescent_KernelIdeal Cert.KernelIdeal.Gen.facts := fun m g _ => Cert.KernelIdeal.Gen.frame m g (okKernelIdeal m)

/-- The reference's frame: read off its run; it declares no semaphore. -/
theorem frame_ReferenceIdeal : @Cert.quiescent_ReferenceIdeal Cert.ReferenceIdeal.Gen.facts := fun m g _ =>
  (θ_run _ _ _).mono (fun r h => ⟨fun c => (h c).2.2.2.2, sem_eq_zero_of_no_sems (by decide) r.2⟩) (Cert.ReferenceIdeal.Value.run (F := Ideal) m g)

/-- The idealized kernel's named mask constant is `-∞`, and its two packed-pair reshapes are the words' two halves. -/
theorem preserves_idealized : Cert.preserves_Kernel_KernelIdeal :=
  ⟨IdealRules.named_const.statement _ _ _ _ _ rfl, IdealRules.bf16_pair.statement _ _, IdealRules.bf16_pair.statement _ _⟩

/-- The two frames again, where the precondition is given as well. -/
theorem frame_KernelIdeal_pre : @Cert.quiescent_KernelIdeal_pre_finite_scores Cert.KernelIdeal.Gen.facts Cert.Pre_finite_scores.Gen.facts := fun m g _ =>
  Cert.KernelIdeal.Gen.frame m g (okKernelIdeal m)

theorem frame_ReferenceIdeal_pre : @Cert.quiescent_ReferenceIdeal_pre_finite_scores Cert.ReferenceIdeal.Gen.facts Cert.Pre_finite_scores.Gen.facts := fun m g _ =>
  frame_ReferenceIdeal m g trivial

/-- The idealized kernel's four results are the idealized reference's. -/
theorem algebraic_idealized :
    @Cert.algebraic_KernelIdeal_ReferenceIdeal_pre_finite_scores Cert.KernelIdeal.Gen.facts Cert.ReferenceIdeal.Gen.facts Cert.Pre_finite_scores.Gen.facts :=
  Cert.KernelIdeal.Val.algebraic

theorem claim : Cert.Claim :=
  ⟨Cert.Kernel.Gen.facts, Cert.KernelIdeal.Gen.facts, Cert.ReferenceIdeal.Gen.facts, Cert.Pre_finite_scores.Gen.facts, frame_Kernel, frame_KernelIdeal,
    frame_KernelIdeal_pre, frame_ReferenceIdeal, frame_ReferenceIdeal_pre, preserves_idealized, algebraic_idealized⟩

end Cert.Proof

end
